-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v128_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
      ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
      ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)) →
    ∃ (v0 : (c : Dev Cert.MlpIdeal.nD) → Buf (Elt Ideal) ((c.tc : Thread Cert.MlpIdeal.nD Cert.MlpIdeal.τ).loc Cert.MlpIdeal.main_v10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v45) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v25_0)) (v1 : (c : Dev Cert.ProjIdeal.nD) → Buf (Elt Ideal) ((c.tc : Thread Cert.ProjIdeal.nD Cert.ProjIdeal.τ).loc Cert.ProjIdeal.main_v25_1)) (v2 : (c : Dev Cert.ProjIdeal.nD) → Buf (Elt Ideal) ((c.tc : Thread Cert.ProjIdeal.nD Cert.ProjIdeal.τ).loc Cert.ProjIdeal.main_v25_3)) (v3 : (c : Dev Cert.ProjIdeal.nD) → Buf (Elt Ideal) ((c.tc : Thread Cert.ProjIdeal.nD Cert.ProjIdeal.τ).loc Cert.ProjIdeal.main_v25_4)) (v4 : (c : Dev Cert.ProjIdeal.nD) → Buf (Elt Ideal) ((c.tc : Thread Cert.ProjIdeal.nD Cert.ProjIdeal.τ).loc Cert.ProjIdeal.main_v25_5)) (v5 : (c : Dev Cert.ProjIdeal.nD) → Buf (Elt Ideal) ((c.tc : Thread Cert.ProjIdeal.nD Cert.ProjIdeal.τ).loc Cert.ProjIdeal.main_v25_6)) (v6 : (c : Dev Cert.ProjIdeal.nD) → Buf (Elt Ideal) ((c.tc : Thread Cert.ProjIdeal.nD Cert.ProjIdeal.τ).loc Cert.ProjIdeal.main_v25_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v25_0) = v0 c
          ∧ r.2.mem ((c.tc : Thread Cert.ProjIdeal.nD Cert.ProjIdeal.τ).loc Cert.ProjIdeal.main_v25_1) = v1 c
          ∧ r.2.mem ((c.tc : Thread Cert.ProjIdeal.nD Cert.ProjIdeal.τ).loc Cert.ProjIdeal.main_v25_3) = v2 c
          ∧ r.2.mem ((c.tc : Thread Cert.ProjIdeal.nD Cert.ProjIdeal.τ).loc Cert.ProjIdeal.main_v25_4) = v3 c
          ∧ r.2.mem ((c.tc : Thread Cert.ProjIdeal.nD Cert.ProjIdeal.τ).loc Cert.ProjIdeal.main_v25_5) = v4 c
          ∧ r.2.mem ((c.tc : Thread Cert.ProjIdeal.nD Cert.ProjIdeal.τ).loc Cert.ProjIdeal.main_v25_6) = v5 c
          ∧ r.2.mem ((c.tc : Thread Cert.ProjIdeal.nD Cert.ProjIdeal.τ).loc Cert.ProjIdeal.main_v25_7) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v61) = v0 c
          ∧ r.2.mem ((c.tc : Thread Cert.ProjReferenceIdeal.nD Cert.ProjReferenceIdeal.τ).loc Cert.ProjReferenceIdeal.main_v62) = v1 c
          ∧ r.2.mem ((c.tc : Thread Cert.ProjReferenceIdeal.nD Cert.ProjReferenceIdeal.τ).loc Cert.ProjReferenceIdeal.main_v63) = v2 c
          ∧ r.2.mem ((c.tc : Thread Cert.ProjReferenceIdeal.nD Cert.ProjReferenceIdeal.τ).loc Cert.ProjReferenceIdeal.main_v20) = v3 c
          ∧ r.2.mem ((c.tc : Thread Cert.ProjReferenceIdeal.nD Cert.ProjReferenceIdeal.τ).loc Cert.ProjReferenceIdeal.main_v21) = v4 c
          ∧ r.2.mem ((c.tc : Thread Cert.ProjReferenceIdeal.nD Cert.ProjReferenceIdeal.τ).loc Cert.ProjReferenceIdeal.main_v64) = v5 c
          ∧ r.2.mem ((c.tc : Thread Cert.ProjReferenceIdeal.nD Cert.ProjReferenceIdeal.τ).loc Cert.ProjReferenceIdeal.main_v23) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hProj : Cert.Proj.Facts) (hProjIdeal : Cert.ProjIdeal.Facts) (hProjReferenceIdeal : Cert.ProjReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Mlp_MlpIdeal
    ∧ algebraic_MlpIdeal_MlpReferenceIdeal (hMlpIdeal := hMlpIdeal) (hMlpReferenceIdeal := hMlpReferenceIdeal)
    ∧ preserves_Proj_ProjIdeal
    ∧ algebraic_ProjIdeal_ProjReferenceIdeal (hProjIdeal := hProjIdeal) (hProjReferenceIdeal := hProjReferenceIdeal)
-- ==== Pre_finite_arguments.lean ====
abbrev S2x16384x4x2x64 : Shape := ⟨5, ![2, 16384, 4, 2, 64]⟩
abbrev S2x16384x4x128 : Shape := ⟨4, ![2, 16384, 4, 128]⟩
abbrev S1x2x64 : Shape := ⟨3, ![1, 2, 64]⟩
abbrev S1x4x64 : Shape := ⟨3, ![1, 4, 64]⟩
abbrev S1x128 : Shape := ⟨2, ![1, 128]⟩
abbrev S32x4 : Shape := ⟨2, ![32, 4]⟩
abbrev S2x2x512 : Shape := ⟨3, ![2, 2, 512]⟩
abbrev S2x16384x512 : Shape := ⟨3, ![2, 16384, 512]⟩
abbrev S_ : Shape := ⟨0, ![]⟩

class Facts : Prop where
  bcast_S_S2x16384x4x2x64 : S_.BroadcastsInDim S2x16384x4x2x64 (![] : Fin 0 → Fin S2x16384x4x2x64.rank)
  bcast_S_S2x16384x4x128 : S_.BroadcastsInDim S2x16384x4x128 (![] : Fin 0 → Fin S2x16384x4x128.rank)
  bcast_S_S1x4x64 : S_.BroadcastsInDim S1x4x64 (![] : Fin 0 → Fin S1x4x64.rank)
  bcast_S_S32x4 : S_.BroadcastsInDim S32x4 (![] : Fin 0 → Fin S32x4.rank)

variable [Facts]

def fn {F : FTy → Type} [FloatOps F] (main_arg0 : FVec F S2x16384x4x2x64 .f32) (main_arg1 : FVec F S2x16384x4x2x64 .f32) (main_arg2 : FVec F S2x16384x4x128 .f32) (main_arg3 : FVec F S1x2x64 .f32) (main_arg4 : FVec F S1x4x64 .f32) (main_arg5 : FVec F S1x128 .f32) (main_arg6 : FVec F S32x4 .f32) (main_arg7 : FVec F S2x2x512 .f32) (main_arg8 : FVec F S2x16384x512 .f32) (main_arg9 : FVec F S2x16384x512 .f32) (main_arg10 : FVec F S2x16384x512 .f32) (main_arg11 : FVec F S2x16384x512 .f32) : IVec S2x16384x4x2x64 1 × IVec S2x16384x4x2x64 1 × IVec S2x16384x4x128 1 × IVec S1x4x64 1 × IVec S32x4 1 :=
  let main_v0 : FVec F S2x16384x4x2x64 .f32 := Host.absf main_arg0
  let main_cst : FVec F S_ .f32 := constant S_ .f32 0x7F800000#32
  let main_v1 : FVec F S2x16384x4x2x64 .f32 := broadcastInDim S2x16384x4x2x64 ![] bcast_S_S2x16384x4x2x64 main_cst
  let main_v2 : IVec S2x16384x4x2x64 1 := cmpf .olt main_v0 main_v1
  let main_v3 : FVec F S2x16384x4x2x64 .f32 := Host.absf main_arg1
  let main_cst_0 : FVec F S_ .f32 := constant S_ .f32 0x7F800000#32
  let main_v4 : FVec F S2x16384x4x2x64 .f32 := broadcastInDim S2x16384x4x2x64 ![] bcast_S_S2x16384x4x2x64 main_cst_0
  let main_v5 : IVec S2x16384x4x2x64 1 := cmpf .olt main_v3 main_v4
  let main_v6 : FVec F S2x16384x4x128 .f32 := Host.absf main_arg2
  let main_cst_1 : FVec F S_ .f32 := constant S_ .f32 0x7F800000#32
  let main_v7 : FVec F S2x16384x4x128 .f32 := broadcastInDim S2x16384x4x128 ![] bcast_S_S2x16384x4x128 main_cst_1
  let main_v8 : IVec S2x16384x4x128 1 := cmpf .olt main_v6 main_v7
  let main_v9 : FVec F S1x4x64 .f32 := Host.absf main_arg4
  let main_cst_2 : FVec F S_ .f32 := constant S_ .f32 0x7F800000#32
  let main_v10 : FVec F S1x4x64 .f32 := broadcastInDim S1x4x64 ![] bcast_S_S1x4x64 main_cst_2
  let main_v11 : IVec S1x4x64 1 := cmpf .olt main_v9 main_v10
  let main_v12 : FVec F S32x4 .f32 := Host.absf main_arg6
  let main_cst_3 : FVec F S_ .f32 := constant S_ .f32 0x7F800000#32
  let main_v13 : FVec F S32x4 .f32 := broadcastInDim S32x4 ![] bcast_S_S32x4 main_cst_3
  let main_v14 : IVec S32x4 1 := cmpf .olt main_v12 main_v13
  (main_v2, main_v5, main_v8, main_v11, main_v14)
-- ==== Kernel.lean ====
abbrev S2x16384x4x2x64 : Shape := ⟨5, ![2, 16384, 4, 2, 64]⟩
abbrev S2x16384x4x128 : Shape := ⟨4, ![2, 16384, 4, 128]⟩
abbrev S1x2x64 : Shape := ⟨3, ![1, 2, 64]⟩
abbrev S1x4x64 : Shape := ⟨3, ![1, 4, 64]⟩
abbrev S1x128 : Shape := ⟨2, ![1, 128]⟩
abbrev S32x4 : Shape := ⟨2, ![32, 4]⟩
abbrev S2x2x512 : Shape := ⟨3, ![2, 2, 512]⟩
abbrev S2x16384x512 : Shape := ⟨3, ![2, 16384, 512]⟩
abbrev S1 : Shape := ⟨1, ![1]⟩
abbrev S4x64 : Shape := ⟨2, ![4, 64]⟩
abbrev S1x64 : Shape := ⟨2, ![1, 64]⟩
abbrev S64 : Shape := ⟨1, ![64]⟩
abbrev S_ : Shape := ⟨0, ![]⟩
abbrev S2x512 : Shape := ⟨2, ![2, 512]⟩
abbrev S2x1x512 : Shape := ⟨3, ![2, 1, 512]⟩
abbrev S1x1 : Shape := ⟨2, ![1, 1]⟩
abbrev S1x4 : Shape := ⟨2, ![1, 4]⟩
abbrev S6x1024x512 : Shape := ⟨3, ![6, 1024, 512]⟩
abbrev S6x1024x512x1 : Shape := ⟨4, ![6, 1024, 512, 1]⟩
abbrev S6x1024x512x4 : Shape := ⟨4, ![6, 1024, 512, 4]⟩
abbrev S4x6x1024x512 : Shape := ⟨4, ![4, 6, 1024, 512]⟩
abbrev S1x1x64 : Shape := ⟨3, ![1, 1, 64]⟩
abbrev S128 : Shape := ⟨1, ![128]⟩
abbrev S2x16384x4x256 : Shape := ⟨4, ![2, 16384, 4, 256]⟩
abbrev S2x16384x1024 : Shape := ⟨3, ![2, 16384, 1024]⟩
abbrev S1x1024x128 : Shape := ⟨3, ![1, 1024, 128]⟩
abbrev S1x16384x128 : Shape := ⟨3, ![1, 16384, 128]⟩
abbrev S1x16384x256 : Shape := ⟨3, ![1, 16384, 256]⟩
abbrev S1x6x1024x512 : Shape := ⟨4, ![1, 6, 1024, 512]⟩
abbrev S2x128 : Shape := ⟨2, ![2, 128]⟩
abbrev S2048x1 : Shape := ⟨2, ![2048, 1]⟩
abbrev S2048x256 : Shape := ⟨2, ![2048, 256]⟩
abbrev S128x128 : Shape := ⟨2, ![128, 128]⟩
abbrev S1024x128 : Shape := ⟨2, ![1024, 128]⟩
abbrev S2048x128 : Shape := ⟨2, ![2048, 128]⟩
abbrev S1x512x128 : Shape := ⟨3, ![1, 512, 128]⟩
abbrev S512x128 : Shape := ⟨2, ![512, 128]⟩
abbrev S2048x512 : Shape := ⟨2, ![2048, 512]⟩
abbrev S1x1x1024x512 : Shape := ⟨4, ![1, 1, 1024, 512]⟩
abbrev S1024x512 : Shape := ⟨2, ![1024, 512]⟩
abbrev S2x1024x512 : Shape := ⟨3, ![2, 1024, 512]⟩
abbrev S1x1024x512 : Shape := ⟨3, ![1, 1024, 512]⟩
abbrev S1x512x256 : Shape := ⟨3, ![1, 512, 256]⟩
abbrev S512x256 : Shape := ⟨2, ![512, 256]⟩
abbrev S256x128 : Shape := ⟨2, ![256, 128]⟩
abbrev S1x256x128 : Shape := ⟨3, ![1, 256, 128]⟩
abbrev S2x128x128 : Shape := ⟨3, ![2, 128, 128]⟩
abbrev S2x1x128 : Shape := ⟨3, ![2, 1, 128]⟩
abbrev S1x128x128 : Shape := ⟨3, ![1, 128, 128]⟩
abbrev S1x1x128 : Shape := ⟨3, ![1, 1, 128]⟩
abbrev S2048 : Shape := ⟨1, ![2048]⟩
abbrev S1024 : Shape := ⟨1, ![1024]⟩
abbrev S1024x1 : Shape := ⟨2, ![1024, 1]⟩

abbrev nBuf : Space → Nat
  | .hbm => 197
  | .vmem => 32
  | .smem => 2
  | _ => 0

abbrev hbmTy0_0 (i : Nat) : BufTy := match i % 128 with
  | 0 => ⟨S2x16384x4x2x64, .f32⟩
  | 1 => ⟨S2x16384x4x2x64, .f32⟩
  | 2 => ⟨S2x16384x4x128, .f32⟩
  | 3 => ⟨S1x2x64, .f32⟩
  | 4 => ⟨S1x4x64, .f32⟩
  | 5 => ⟨S1x128, .f32⟩
  | 6 => ⟨S32x4, .f32⟩
  | 7 => ⟨S2x2x512, .f32⟩
  | 8 => ⟨S2x16384x512, .f32⟩
  | 9 => ⟨S2x16384x512, .f32⟩
  | 10 => ⟨S2x16384x512, .f32⟩
  | 11 => ⟨S2x16384x512, .f32⟩
  | 12 => ⟨S1, .i32⟩
  | 13 => ⟨S4x64, .f32⟩
  | 14 => ⟨S1x64, .f32⟩
  | 15 => ⟨S64, .f32⟩
  | 16 => ⟨S1x64, .f32⟩
  | 17 => ⟨S64, .f32⟩
  | 18 => ⟨S64, .f32⟩
  | 19 => ⟨S_, .f32⟩
  | 20 => ⟨S_, .f32⟩
  | 21 => ⟨S_, .f32⟩
  | 22 => ⟨S1x64, .f32⟩
  | 23 => ⟨S64, .f32⟩
  | 24 => ⟨S1x64, .f32⟩
  | 25 => ⟨S64, .f32⟩
  | 26 => ⟨S64, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S2x512, .f32⟩
  | 35 => ⟨S_, .f32⟩
  | 36 => ⟨S2x512, .f32⟩
  | 37 => ⟨S2x512, .f32⟩
  | 38 => ⟨S2x1x512, .f32⟩
  | 39 => ⟨S2x2x512, .f32⟩
  | 40 => ⟨S2x2x512, .f32⟩
  | 41 => ⟨S2x2x512, .f32⟩
  | 42 => ⟨S_, .f32⟩
  | 43 => ⟨S2x512, .f32⟩
  | 44 => ⟨S2x1x512, .f32⟩
  | 45 => ⟨S2x2x512, .f32⟩
  | 46 => ⟨S2x2x512, .f32⟩
  | 47 => ⟨S_, .f32⟩
  | 48 => ⟨S_, .f32⟩
  | 49 => ⟨S2x2x512, .f32⟩
  | 50 => ⟨S2x1x512, .f32⟩
  | 51 => ⟨S2x512, .f32⟩
  | 52 => ⟨S_, .i32⟩
  | 53 => ⟨S1, .i32⟩
  | 54 => ⟨S1, .i1⟩
  | 55 => ⟨S_, .i32⟩
  | 56 => ⟨S_, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S1, .f32⟩
  | 65 => ⟨S_, .f32⟩
  | 66 => ⟨S1, .f32⟩
  | 67 => ⟨S1, .f32⟩
  | 68 => ⟨S1, .f32⟩
  | 69 => ⟨S_, .f32⟩
  | 70 => ⟨S1, .f32⟩
  | 71 => ⟨S1, .f32⟩
  | 72 => ⟨S_, .f32⟩
  | 73 => ⟨S1, .f32⟩
  | 74 => ⟨S1, .f32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S_, .i32⟩
  | 83 => ⟨S1, .i32⟩
  | 84 => ⟨S1, .i1⟩
  | 85 => ⟨S1, .i32⟩
  | 86 => ⟨S1, .i32⟩
  | 87 => ⟨S1, .i32⟩
  | 88 => ⟨S1x1, .i32⟩
  | 89 => ⟨S1x4, .f32⟩
  | 90 => ⟨S32x4, .f32⟩
  | 91 => ⟨S32x4, .f32⟩
  | 92 => ⟨S6x1024x512, .i32⟩
  | 93 => ⟨S_, .i32⟩
  | 94 => ⟨S6x1024x512, .i32⟩
  | 95 => ⟨S6x1024x512, .i32⟩
  | 96 => ⟨S_, .i32⟩
  | 97 => ⟨S6x1024x512, .i32⟩
  | 98 => ⟨S6x1024x512, .i32⟩
  | 99 => ⟨S6x1024x512, .i32⟩
  | 100 => ⟨S6x1024x512, .i32⟩
  | 101 => ⟨S6x1024x512, .i32⟩
  | 102 => ⟨S6x1024x512, .i32⟩
  | 103 => ⟨S_, .i32⟩
  | 104 => ⟨S6x1024x512, .i32⟩
  | 105 => ⟨S6x1024x512, .i1⟩
  | 106 => ⟨S_, .i32⟩
  | 107 => ⟨S_, .i32⟩
  | 108 => ⟨S6x1024x512, .i32⟩
  | 109 => ⟨S6x1024x512, .i32⟩
  | 110 => ⟨S6x1024x512, .i32⟩
  | 111 => ⟨S6x1024x512, .i32⟩
  | 112 => ⟨S_, .i32⟩
  | 113 => ⟨S6x1024x512, .i32⟩
  | 114 => ⟨S6x1024x512, .i32⟩
  | 115 => ⟨S6x1024x512, .f32⟩
  | 116 => ⟨S_, .f32⟩
  | 117 => ⟨S6x1024x512, .f32⟩
  | 118 => ⟨S6x1024x512, .f32⟩
  | 119 => ⟨S6x1024x512, .f32⟩
  | 120 => ⟨S_, .f32⟩
  | 121 => ⟨S6x1024x512, .f32⟩
  | 122 => ⟨S6x1024x512, .f32⟩
  | 123 => ⟨S_, .f32⟩
  | 124 => ⟨S6x1024x512, .f32⟩
  | 125 => ⟨S6x1024x512, .f32⟩
  | 126 => ⟨S6x1024x512, .i32⟩
  | 127 => ⟨S_, .i32⟩
  | _ => ⟨S2x16384x4x2x64, .f32⟩

abbrev hbmTy0_1 (i : Nat) : BufTy := match i % 128 with
  | 0 => ⟨S6x1024x512, .i32⟩
  | 1 => ⟨S6x1024x512, .i32⟩
  | 2 => ⟨S_, .i32⟩
  | 3 => ⟨S6x1024x512, .i32⟩
  | 4 => ⟨S6x1024x512, .i32⟩
  | 5 => ⟨S_, .i32⟩
  | 6 => ⟨S6x1024x512, .i32⟩
  | 7 => ⟨S6x1024x512, .i1⟩
  | 8 => ⟨S6x1024x512, .i32⟩
  | 9 => ⟨S6x1024x512, .i32⟩
  | 10 => ⟨S6x1024x512, .i32⟩
  | 11 => ⟨S6x1024x512x1, .i32⟩
  | 12 => ⟨S6x1024x512x4, .f32⟩
  | 13 => ⟨S4x6x1024x512, .f32⟩
  | 14 => ⟨S1x1x64, .f32⟩
  | 15 => ⟨S64, .f32⟩
  | 16 => ⟨S_, .f32⟩
  | 17 => ⟨S64, .f32⟩
  | 18 => ⟨S64, .f32⟩
  | 19 => ⟨S1x1x64, .f32⟩
  | 20 => ⟨S64, .f32⟩
  | 21 => ⟨S64, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S32x4, .f32⟩
  | 29 => ⟨S32x4, .f32⟩
  | 30 => ⟨S32x4, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .i1⟩
  | 38 => ⟨S_, .i32⟩
  | 39 => ⟨S1, .i32⟩
  | 40 => ⟨S1, .f32⟩
  | 41 => ⟨S128, .f32⟩
  | 42 => ⟨S1x128, .f32⟩
  | 43 => ⟨S2x16384x4x2x64, .bf16⟩
  | 44 => ⟨S2x16384x512, .bf16⟩
  | 45 => ⟨S2x16384x4x2x64, .bf16⟩
  | 46 => ⟨S2x16384x512, .bf16⟩
  | 47 => ⟨S2x16384x4x128, .bf16⟩
  | 48 => ⟨S_, .bf16⟩
  | 49 => ⟨S2x16384x4x128, .bf16⟩
  | 50 => ⟨S2x16384x4x256, .bf16⟩
  | 51 => ⟨S2x16384x1024, .bf16⟩
  | 52 => ⟨S2x16384x512, .f32⟩
  | 53 => ⟨S2x16384x512, .f32⟩
  | 54 => ⟨S_, .f32⟩
  | 55 => ⟨S2x16384x512, .f32⟩
  | 56 => ⟨S2x16384x512, .f32⟩
  | 57 => ⟨S_, .f32⟩
  | 58 => ⟨S2x16384x512, .f32⟩
  | 59 => ⟨S2x16384x512, .f32⟩
  | 60 => ⟨S2x16384x512, .f32⟩
  | 61 => ⟨S_, .f32⟩
  | 62 => ⟨S2x16384x512, .f32⟩
  | 63 => ⟨S2x16384x512, .f32⟩
  | 64 => ⟨S2x16384x512, .bf16⟩
  | 65 => ⟨S2x16384x512, .bf16⟩
  | 66 => ⟨S2x16384x512, .bf16⟩
  | 67 => ⟨S2x16384x512, .f32⟩
  | 68 => ⟨S2x16384x512, .f32⟩
  | _ => ⟨S2x16384x4x2x64, .f32⟩

abbrev hbmTy (i : Nat) : BufTy := match i / 128 with
  | 0 => hbmTy0_0 i
  | 1 => hbmTy0_1 i
  | _ => ⟨S2x16384x4x2x64, .f32⟩

abbrev bufTy : (tb : Table) → Fin (tcTables nBuf tb) → BufTy
  | .hbm, ⟨i, _⟩ => hbmTy i
  | .local _ .vmem, ⟨0, _⟩ => ⟨S1x1024x128, .bf16⟩
  | .local _ .vmem, ⟨1, _⟩ => ⟨S1x1024x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x256, .bf16⟩
  | .local _ .vmem, ⟨5, _⟩ => ⟨S1x16384x256, .bf16⟩
  | .local _ .vmem, ⟨6, _⟩ => ⟨S1x6x1024x512, .f32⟩
  | .local _ .vmem, ⟨7, _⟩ => ⟨S1x128, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .f32⟩
  | .local _ .vmem, ⟨11, _⟩ => ⟨S1x1024x128, .f32⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .f32⟩
  | .local _ .vmem, ⟨17, _⟩ => ⟨S1x1024x128, .f32⟩
  | .local _ .vmem, ⟨18, _⟩ => ⟨S1x1024x128, .bf16⟩
  | .local _ .vmem, ⟨19, _⟩ => ⟨S1x1024x128, .bf16⟩
  | .local _ .vmem, ⟨20, _⟩ => ⟨S2x128, .f32⟩
  | .local _ .vmem, ⟨21, _⟩ => ⟨S2x128, .f32⟩
  | .local _ .vmem, ⟨22, _⟩ => ⟨S1x1024x128, .bf16⟩
  | .local _ .vmem, ⟨23, _⟩ => ⟨S1x1024x128, .bf16⟩
  | .local _ .vmem, ⟨24, _⟩ => ⟨S1x1024x128, .f32⟩
  | .local _ .vmem, ⟨25, _⟩ => ⟨S1x1024x128, .f32⟩
  | .local _ .vmem, ⟨26, _⟩ => ⟨S1x1024x128, .f32⟩
  | .local _ .vmem, ⟨27, _⟩ => ⟨S1x1024x128, .f32⟩
  | .local _ .vmem, ⟨28, _⟩ => ⟨S2048x1, .f32⟩
  | .local _ .vmem, ⟨29, _⟩ => ⟨S2048x256, .f32⟩
  | .local _ .vmem, ⟨30, _⟩ => ⟨S128x128, .f32⟩
  | .local _ .vmem, ⟨31, _⟩ => ⟨S128x128, .f32⟩
  | .local _ .smem, ⟨0, _⟩ => ⟨S1, .i32⟩
  | .local _ .smem, ⟨1, _⟩ => ⟨S1, .f32⟩
  | _, _ => ⟨S2x16384x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_call0_cst : Ref sig .tc := ⟨.hbm, 47, rfl⟩
abbrev main_call0_call0_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_c_7 : Ref sig .tc := ⟨.hbm, 56, rfl⟩
abbrev main_call1_v0 : Ref sig .tc := ⟨.hbm, 57, rfl⟩
abbrev main_call1_v1 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_10 : Ref sig .tc := ⟨.hbm, 69, rfl⟩
abbrev main_v41 : Ref sig .tc := ⟨.hbm, 70, rfl⟩
abbrev main_v42 : Ref sig .tc := ⟨.hbm, 71, rfl⟩
abbrev main_cst_11 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_12 : Ref sig .tc := ⟨.hbm, 76, rfl⟩
abbrev main_v46 : Ref sig .tc := ⟨.hbm, 77, rfl⟩
abbrev main_v47 : Ref sig .tc := ⟨.hbm, 78, rfl⟩
abbrev main_c_13 : Ref sig .tc := ⟨.hbm, 79, rfl⟩
abbrev main_v48 : Ref sig .tc := ⟨.hbm, 80, rfl⟩
abbrev main_v49 : Ref sig .tc := ⟨.hbm, 81, rfl⟩
abbrev main_c_14 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call3_v0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_15 : Ref sig .tc := ⟨.hbm, 93, rfl⟩
abbrev main_v59 : Ref sig .tc := ⟨.hbm, 94, rfl⟩
abbrev main_v60 : Ref sig .tc := ⟨.hbm, 95, rfl⟩
abbrev main_c_16 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_17 : Ref sig .tc := ⟨.hbm, 103, rfl⟩
abbrev main_v67 : Ref sig .tc := ⟨.hbm, 104, rfl⟩
abbrev main_v68 : Ref sig .tc := ⟨.hbm, 105, rfl⟩
abbrev main_c_18 : Ref sig .tc := ⟨.hbm, 106, rfl⟩
abbrev main_c_19 : Ref sig .tc := ⟨.hbm, 107, rfl⟩
abbrev main_call4_v0 : Ref sig .tc := ⟨.hbm, 108, rfl⟩
abbrev main_call4_v1 : Ref sig .tc := ⟨.hbm, 109, rfl⟩
abbrev main_v69 : Ref sig .tc := ⟨.hbm, 110, rfl⟩
abbrev main_v70 : Ref sig .tc := ⟨.hbm, 111, rfl⟩
abbrev main_c_20 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_21 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_22 : Ref sig .tc := ⟨.hbm, 120, rfl⟩
abbrev main_v77 : Ref sig .tc := ⟨.hbm, 121, rfl⟩
abbrev main_v78 : Ref sig .tc := ⟨.hbm, 122, rfl⟩
abbrev main_cst_23 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_24 : Ref sig .tc := ⟨.hbm, 127, rfl⟩
abbrev main_v82 : Ref sig .tc := ⟨.hbm, 128, rfl⟩
abbrev main_v83 : Ref sig .tc := ⟨.hbm, 129, rfl⟩
abbrev main_c_25 : Ref sig .tc := ⟨.hbm, 130, rfl⟩
abbrev main_v84 : Ref sig .tc := ⟨.hbm, 131, rfl⟩
abbrev main_v85 : Ref sig .tc := ⟨.hbm, 132, rfl⟩
abbrev main_c_26 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_call6_v0 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_27 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_28 : Ref sig .tc := ⟨.hbm, 151, rfl⟩
abbrev main_v101 : Ref sig .tc := ⟨.hbm, 152, rfl⟩
abbrev main_cst_29 : Ref sig .tc := ⟨.hbm, 153, rfl⟩
abbrev main_v102 : Ref sig .tc := ⟨.hbm, 154, rfl⟩
abbrev main_cst_30 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_31 : Ref sig .tc := ⟨.hbm, 159, rfl⟩
abbrev main_v106 : Ref sig .tc := ⟨.hbm, 160, rfl⟩
abbrev main_cst_32 : Ref sig .tc := ⟨.hbm, 161, rfl⟩
abbrev main_v107 : Ref sig .tc := ⟨.hbm, 162, rfl⟩
abbrev main_v108 : Ref sig .tc := ⟨.hbm, 163, rfl⟩
abbrev main_cst_33 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_34 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_call7_v0 : Ref sig .tc := ⟨.hbm, 180, rfl⟩
abbrev main_call7_v1 : Ref sig .tc := ⟨.hbm, 181, rfl⟩
abbrev main_call7_cst : Ref sig .tc := ⟨.hbm, 182, rfl⟩
abbrev main_call7_v2 : Ref sig .tc := ⟨.hbm, 183, rfl⟩
abbrev main_call7_v3 : Ref sig .tc := ⟨.hbm, 184, rfl⟩
abbrev main_call7_cst_0 : Ref sig .tc := ⟨.hbm, 185, rfl⟩
abbrev main_call7_v4 : Ref sig .tc := ⟨.hbm, 186, rfl⟩
abbrev main_call7_v5 : Ref sig .tc := ⟨.hbm, 187, rfl⟩
abbrev main_v123 : Ref sig .tc := ⟨.hbm, 188, rfl⟩
abbrev main_cst_35 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128_0 : Ref sig .tc := ⟨.hbm, 194, rfl⟩
abbrev main_v128_1 : Ref sig .tc := ⟨.hbm, 195, rfl⟩
abbrev main_v128_2 : Ref sig .tc := ⟨.hbm, 196, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨3, ![4, 2, 16], ![false, false, false]⟩

def k0_mult1 : BitVec 32 :=
  let c0_i32_27 : BitVec 32 := 0#32
  c0_i32_27
def k0_off1 (i : grid0.Coords) (c0_i32_25 : BitVec 32) : Fin 4 → Nat :=
  let c0_31 : Index := 0#32
  let c3_i32 : BitVec 32 := 3#32
  let c_m2_i32 : BitVec 32 := 4294967294#32
  let arg2 : BitVec 32 := BitVec.ofNat 32 (i 2).val
  let c2_i32 : BitVec 32 := 2#32
  let v61 : BitVec 32 := Scalar.muli arg2 c2_i32
  let v62 : BitVec 32 := Scalar.subi c0_i32_25 v61
  let v63 : BitVec 32 := Scalar.maxsi c_m2_i32 v62
  let v64 : BitVec 32 := Scalar.minsi c3_i32 v63
  let c_m2_i32_26 : BitVec 32 := 4294967294#32
  let v65 : BitVec 32 := Scalar.subi v64 c_m2_i32_26
  let v71 : Index := Scalar.indexCast v65
  let c0_32 : Index := 0#32
  let c0_33 : Index := 0#32
  ![0, v71.toNat, 0, 0]
def k0_mult2 : BitVec 32 :=
  let c0_i32_35 : BitVec 32 := 0#32
  c0_i32_35
def k0_mult3 : BitVec 32 :=
  let c512_i32 : BitVec 32 := 512#32
  c512_i32
def k0_mult4 : BitVec 32 :=
  let c512_i32_53 : BitVec 32 := 512#32
  c512_i32_53
def k0_mult5 : BitVec 32 :=
  let c1024_i32 : BitVec 32 := 1024#32
  c1024_i32
def k0_mult6 : BitVec 32 :=
  let c1024_i32_73 : BitVec 32 := 1024#32
  c1024_i32_73
def k0_mult7 : BitVec 32 :=
  let c1536_i32 : BitVec 32 := 1536#32
  c1536_i32
def k0_mult8 : BitVec 32 :=
  let c1536_i32_93 : BitVec 32 := 1536#32
  c1536_i32_93
def k0_mult9 : BitVec 32 :=
  let c2048_i32 : BitVec 32 := 2048#32
  c2048_i32
def k0_mult10 : BitVec 32 :=
  let c2048_i32_112 : BitVec 32 := 2048#32
  c2048_i32_112
def k0_mult11 : BitVec 32 :=
  let c2560_i32 : BitVec 32 := 2560#32
  c2560_i32
def k0_mult12 : BitVec 32 :=
  let c2560_i32_131 : BitVec 32 := 2560#32
  c2560_i32_131
def k0_mult13 : BitVec 32 :=
  let c3072_i32 : BitVec 32 := 3072#32
  c3072_i32
def k0_mult14 : BitVec 32 :=
  let c3072_i32_150 : BitVec 32 := 3072#32
  c3072_i32_150
def k0_mult15 : BitVec 32 :=
  let c3584_i32 : BitVec 32 := 3584#32
  c3584_i32
def k0_mult16 : BitVec 32 :=
  let c3584_i32_169 : BitVec 32 := 3584#32
  c3584_i32_169
def k0_mult17 : BitVec 32 :=
  let c0_i32_177 : BitVec 32 := 0#32
  c0_i32_177
def k0_mult18 : BitVec 32 :=
  let c768_i32 : BitVec 32 := 768#32
  c768_i32
@[reducible] def k0_t1_loop : Scf.Loop 32 :=
  let c1_i32_267 : BitVec 32 := 1#32
  let c3_i32_268 : BitVec 32 := 3#32
  let v667 : BitVec 32 := Scalar.addi c1_i32_267 c3_i32_268
  let c1_i32_269 : BitVec 32 := 1#32
  ⟨c1_i32_267, v667, c1_i32_269⟩
def k0_mult19 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_271 : BitVec 32 := 8#32
  let v668 : BitVec 32 := Scalar.muli arg24 c8_i32_271
  let c0_i32_272 : BitVec 32 := 0#32
  let v669 : BitVec 32 := Scalar.addi v668 c0_i32_272
  let c512_i32_277 : BitVec 32 := 512#32
  let v675 : BitVec 32 := Scalar.muli v669 c512_i32_277
  v675
def k0_off2 (k0_t1 : Fin k0_t1_loop.trips) (c0_i32_272 : BitVec 32) : Fin 3 → Nat :=
  let c0_278 : Index := 0#32
  let c1_i32_267 : BitVec 32 := 1#32
  let c1_i32_269 : BitVec 32 := 1#32
  let arg24 : BitVec 32 := Scf.iv c1_i32_267 c1_i32_269 k0_t1
  let c8_i32_271 : BitVec 32 := 8#32
  let v668 : BitVec 32 := Scalar.muli arg24 c8_i32_271
  let v669 : BitVec 32 := Scalar.addi v668 c0_i32_272
  let c512_i32_277 : BitVec 32 := 512#32
  let v675 : BitVec 32 := Scalar.muli v669 c512_i32_277
  let v676 : BitVec 32 := v675
  let v677 : Index := Scalar.indexCast v676
  let c0_279 : Index := 0#32
  ![0, v677.toNat, 0]
def k0_off3 (i : grid0.Coords) (k0_t1 : Fin k0_t1_loop.trips) (c0_i32_272 : BitVec 32) : Fin 4 → Nat :=
  let c0_281 : Index := 0#32
  let c3_i32_275 : BitVec 32 := 3#32
  let c_m2_i32_274 : BitVec 32 := 4294967294#32
  let c1_i32_267 : BitVec 32 := 1#32
  let c1_i32_269 : BitVec 32 := 1#32
  let arg24 : BitVec 32 := Scf.iv c1_i32_267 c1_i32_269 k0_t1
  let c8_i32_271 : BitVec 32 := 8#32
  let v668 : BitVec 32 := Scalar.muli arg24 c8_i32_271
  let v669 : BitVec 32 := Scalar.addi v668 c0_i32_272
  let arg2 : BitVec 32 := BitVec.ofNat 32 (i 2).val
  let c2_i32_273 : BitVec 32 := 2#32
  let v670 : BitVec 32 := Scalar.muli arg2 c2_i32_273
  let v671 : BitVec 32 := Scalar.subi v669 v670
  let v672 : BitVec 32 := Scalar.maxsi c_m2_i32_274 v671
  let v673 : BitVec 32 := Scalar.minsi c3_i32_275 v672
  let c_m2_i32_276 : BitVec 32 := 4294967294#32
  let v674 : BitVec 32 := Scalar.subi v673 c_m2_i32_276
  let v681 : Index := Scalar.indexCast v674
  let c0_282 : Index := 0#32
  let c0_283 : Index := 0#32
  ![0, v681.toNat, 0, 0]
def k0_mult20 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_271 : BitVec 32 := 8#32
  let v668 : BitVec 32 := Scalar.muli arg24 c8_i32_271
  let c0_i32_272 : BitVec 32 := 0#32
  let v669 : BitVec 32 := Scalar.addi v668 c0_i32_272
  let c512_i32_285 : BitVec 32 := 512#32
  let v693 : BitVec 32 := Scalar.muli v669 c512_i32_285
  v693
def k0_off4 (k0_t1 : Fin k0_t1_loop.trips) (c0_i32_272 : BitVec 32) : Fin 3 → Nat :=
  let c0_286 : Index := 0#32
  let c1_i32_267 : BitVec 32 := 1#32
  let c1_i32_269 : BitVec 32 := 1#32
  let arg24 : BitVec 32 := Scf.iv c1_i32_267 c1_i32_269 k0_t1
  let c8_i32_271 : BitVec 32 := 8#32
  let v668 : BitVec 32 := Scalar.muli arg24 c8_i32_271
  let v669 : BitVec 32 := Scalar.addi v668 c0_i32_272
  let c512_i32_285 : BitVec 32 := 512#32
  let v693 : BitVec 32 := Scalar.muli v669 c512_i32_285
  let v694 : BitVec 32 := v693
  let v695 : Index := Scalar.indexCast v694
  let c0_287 : Index := 0#32
  ![0, v695.toNat, 0]
def k0_mult21 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_293 : BitVec 32 := 8#32
  let v704 : BitVec 32 := Scalar.muli arg24 c8_i32_293
  let c1_i32_294 : BitVec 32 := 1#32
  let v705 : BitVec 32 := Scalar.addi v704 c1_i32_294
  let c512_i32_299 : BitVec 32 := 512#32
  let v711 : BitVec 32 := Scalar.muli v705 c512_i32_299
  v711
def k0_mult22 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_293 : BitVec 32 := 8#32
  let v704 : BitVec 32 := Scalar.muli arg24 c8_i32_293
  let c1_i32_294 : BitVec 32 := 1#32
  let v705 : BitVec 32 := Scalar.addi v704 c1_i32_294
  let c512_i32_307 : BitVec 32 := 512#32
  let v729 : BitVec 32 := Scalar.muli v705 c512_i32_307
  v729
def k0_mult23 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_315 : BitVec 32 := 8#32
  let v740 : BitVec 32 := Scalar.muli arg24 c8_i32_315
  let c2_i32_316 : BitVec 32 := 2#32
  let v741 : BitVec 32 := Scalar.addi v740 c2_i32_316
  let c512_i32_321 : BitVec 32 := 512#32
  let v747 : BitVec 32 := Scalar.muli v741 c512_i32_321
  v747
def k0_mult24 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_315 : BitVec 32 := 8#32
  let v740 : BitVec 32 := Scalar.muli arg24 c8_i32_315
  let c2_i32_316 : BitVec 32 := 2#32
  let v741 : BitVec 32 := Scalar.addi v740 c2_i32_316
  let c512_i32_329 : BitVec 32 := 512#32
  let v765 : BitVec 32 := Scalar.muli v741 c512_i32_329
  v765
def k0_mult25 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_337 : BitVec 32 := 8#32
  let v776 : BitVec 32 := Scalar.muli arg24 c8_i32_337
  let c3_i32_338 : BitVec 32 := 3#32
  let v777 : BitVec 32 := Scalar.addi v776 c3_i32_338
  let c512_i32_343 : BitVec 32 := 512#32
  let v783 : BitVec 32 := Scalar.muli v777 c512_i32_343
  v783
def k0_mult26 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_337 : BitVec 32 := 8#32
  let v776 : BitVec 32 := Scalar.muli arg24 c8_i32_337
  let c3_i32_338 : BitVec 32 := 3#32
  let v777 : BitVec 32 := Scalar.addi v776 c3_i32_338
  let c512_i32_351 : BitVec 32 := 512#32
  let v801 : BitVec 32 := Scalar.muli v777 c512_i32_351
  v801
def k0_mult27 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_359 : BitVec 32 := 8#32
  let v812 : BitVec 32 := Scalar.muli arg24 c8_i32_359
  let c4_i32_360 : BitVec 32 := 4#32
  let v813 : BitVec 32 := Scalar.addi v812 c4_i32_360
  let c512_i32_365 : BitVec 32 := 512#32
  let v819 : BitVec 32 := Scalar.muli v813 c512_i32_365
  v819
def k0_mult28 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_359 : BitVec 32 := 8#32
  let v812 : BitVec 32 := Scalar.muli arg24 c8_i32_359
  let c4_i32_360 : BitVec 32 := 4#32
  let v813 : BitVec 32 := Scalar.addi v812 c4_i32_360
  let c512_i32_373 : BitVec 32 := 512#32
  let v837 : BitVec 32 := Scalar.muli v813 c512_i32_373
  v837
def k0_mult29 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_381 : BitVec 32 := 8#32
  let v848 : BitVec 32 := Scalar.muli arg24 c8_i32_381
  let c5_i32_382 : BitVec 32 := 5#32
  let v849 : BitVec 32 := Scalar.addi v848 c5_i32_382
  let c512_i32_387 : BitVec 32 := 512#32
  let v855 : BitVec 32 := Scalar.muli v849 c512_i32_387
  v855
def k0_mult30 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_381 : BitVec 32 := 8#32
  let v848 : BitVec 32 := Scalar.muli arg24 c8_i32_381
  let c5_i32_382 : BitVec 32 := 5#32
  let v849 : BitVec 32 := Scalar.addi v848 c5_i32_382
  let c512_i32_395 : BitVec 32 := 512#32
  let v873 : BitVec 32 := Scalar.muli v849 c512_i32_395
  v873
def k0_mult31 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_403 : BitVec 32 := 8#32
  let v884 : BitVec 32 := Scalar.muli arg24 c8_i32_403
  let c6_i32_404 : BitVec 32 := 6#32
  let v885 : BitVec 32 := Scalar.addi v884 c6_i32_404
  let c512_i32_409 : BitVec 32 := 512#32
  let v891 : BitVec 32 := Scalar.muli v885 c512_i32_409
  v891
def k0_mult32 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_403 : BitVec 32 := 8#32
  let v884 : BitVec 32 := Scalar.muli arg24 c8_i32_403
  let c6_i32_404 : BitVec 32 := 6#32
  let v885 : BitVec 32 := Scalar.addi v884 c6_i32_404
  let c512_i32_417 : BitVec 32 := 512#32
  let v909 : BitVec 32 := Scalar.muli v885 c512_i32_417
  v909
def k0_mult33 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_425 : BitVec 32 := 8#32
  let v920 : BitVec 32 := Scalar.muli arg24 c8_i32_425
  let c7_i32_426 : BitVec 32 := 7#32
  let v921 : BitVec 32 := Scalar.addi v920 c7_i32_426
  let c512_i32_431 : BitVec 32 := 512#32
  let v927 : BitVec 32 := Scalar.muli v921 c512_i32_431
  v927
def k0_mult34 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c8_i32_425 : BitVec 32 := 8#32
  let v920 : BitVec 32 := Scalar.muli arg24 c8_i32_425
  let c7_i32_426 : BitVec 32 := 7#32
  let v921 : BitVec 32 := Scalar.addi v920 c7_i32_426
  let c512_i32_439 : BitVec 32 := 512#32
  let v945 : BitVec 32 := Scalar.muli v921 c512_i32_439
  v945
def k0_mult35 (k0_t1 : Fin k0_t1_loop.trips) : BitVec 32 :=
  let c1_i32_267 : BitVec 32 := 1#32
  let c1_i32_269 : BitVec 32 := 1#32
  let arg24 : BitVec 32 := Scf.iv c1_i32_267 c1_i32_269 k0_t1
  let c256_i32 : BitVec 32 := 256#32
  let v956 : BitVec 32 := Scalar.muli arg24 c256_i32
  v956
def k0_off5 (k0_t1 : Fin k0_t1_loop.trips) : Fin 3 → Nat :=
  let c0_455 : Index := 0#32
  let c1_i32_267 : BitVec 32 := 1#32
  let c1_i32_269 : BitVec 32 := 1#32
  let arg24 : BitVec 32 := Scf.iv c1_i32_267 c1_i32_269 k0_t1
  let c256_i32 : BitVec 32 := 256#32
  let v956 : BitVec 32 := Scalar.muli arg24 c256_i32
  let v957 : BitVec 32 := v956
  let v978 : Index := Scalar.indexCast v957
  let c0_456 : Index := 0#32
  ![0, v978.toNat, 0]
def k0_mult36 (k0_t1 : Fin k0_t1_loop.trips) : BitVec 32 :=
  let c3_i32_500 : BitVec 32 := 3#32
  let c1_i32_267 : BitVec 32 := 1#32
  let c1_i32_269 : BitVec 32 := 1#32
  let arg24 : BitVec 32 := Scf.iv c1_i32_267 c1_i32_269 k0_t1
  let v1133 : BitVec 32 := Scalar.subi c3_i32_500 arg24
  let c256_i32_501 : BitVec 32 := 256#32
  let v1134 : BitVec 32 := Scalar.muli v1133 c256_i32_501
  v1134
def k0_off6 (k0_t1 : Fin k0_t1_loop.trips) : Fin 3 → Nat :=
  let c0_510 : Index := 0#32
  let c3_i32_500 : BitVec 32 := 3#32
  let c1_i32_267 : BitVec 32 := 1#32
  let c1_i32_269 : BitVec 32 := 1#32
  let arg24 : BitVec 32 := Scf.iv c1_i32_267 c1_i32_269 k0_t1
  let v1133 : BitVec 32 := Scalar.subi c3_i32_500 arg24
  let c256_i32_501 : BitVec 32 := 256#32
  let v1134 : BitVec 32 := Scalar.muli v1133 c256_i32_501
  let v1135 : BitVec 32 := v1134
  let v1156 : Index := Scalar.indexCast v1135
  let c0_511 : Index := 0#32
  ![0, v1156.toNat, 0]
@[reducible] def k0_t2_loop : Scf.Loop 32 :=
  let c0_i32_31 : BitVec 32 := 0#32
  let c4_i32 : BitVec 32 := 4#32
  let v69 : BitVec 32 := Scalar.addi c0_i32_31 c4_i32
  let c1_i32_32 : BitVec 32 := 1#32
  ⟨c0_i32_31, v69, c1_i32_32⟩
def k0_mult37 (k0_t2 : Fin k0_t2_loop.trips) : BitVec 32 :=
  let c0_i32_31 : BitVec 32 := 0#32
  let c1_i32_32 : BitVec 32 := 1#32
  let arg24 : BitVec 32 := Scf.iv c0_i32_31 c1_i32_32 k0_t2
  let c256_i32 : BitVec 32 := 256#32
  let v71 : BitVec 32 := Scalar.muli arg24 c256_i32
  v71
def k0_off7 (k0_t2 : Fin k0_t2_loop.trips) : Fin 3 → Nat :=
  let c0_44 : Index := 0#32
  let c0_i32_31 : BitVec 32 := 0#32
  let c1_i32_32 : BitVec 32 := 1#32
  let arg24 : BitVec 32 := Scf.iv c0_i32_31 c1_i32_32 k0_t2
  let c256_i32 : BitVec 32 := 256#32
  let v71 : BitVec 32 := Scalar.muli arg24 c256_i32
  let v72 : BitVec 32 := v71
  let v93 : Index := Scalar.indexCast v72
  let c0_45 : Index := 0#32
  ![0, v93.toNat, 0]
def k0_mult38 (k0_t2 : Fin k0_t2_loop.trips) : BitVec 32 :=
  let c3_i32 : BitVec 32 := 3#32
  let c0_i32_31 : BitVec 32 := 0#32
  let c1_i32_32 : BitVec 32 := 1#32
  let arg24 : BitVec 32 := Scf.iv c0_i32_31 c1_i32_32 k0_t2
  let v248 : BitVec 32 := Scalar.subi c3_i32 arg24
  let c256_i32_86 : BitVec 32 := 256#32
  let v249 : BitVec 32 := Scalar.muli v248 c256_i32_86
  v249
def k0_off8 (k0_t2 : Fin k0_t2_loop.trips) : Fin 3 → Nat :=
  let c0_95 : Index := 0#32
  let c3_i32 : BitVec 32 := 3#32
  let c0_i32_31 : BitVec 32 := 0#32
  let c1_i32_32 : BitVec 32 := 1#32
  let arg24 : BitVec 32 := Scf.iv c0_i32_31 c1_i32_32 k0_t2
  let v248 : BitVec 32 := Scalar.subi c3_i32 arg24
  let c256_i32_86 : BitVec 32 := 256#32
  let v249 : BitVec 32 := Scalar.muli v248 c256_i32_86
  let v250 : BitVec 32 := v249
  let v271 : Index := Scalar.indexCast v250
  let c0_96 : Index := 0#32
  ![0, v271.toNat, 0]
@[reducible] def k0_t3_loop : Scf.Loop 32 :=
  let c0_i32_34 : BitVec 32 := 0#32
  let c32_i32 : BitVec 32 := 32#32
  let v70 : BitVec 32 := Scalar.addi c0_i32_34 c32_i32
  let c1_i32_35 : BitVec 32 := 1#32
  ⟨c0_i32_34, v70, c1_i32_35⟩
def k0_mult39 (k0_t3 : Fin k0_t3_loop.trips) : BitVec 32 :=
  let c0_i32_34 : BitVec 32 := 0#32
  let c1_i32_35 : BitVec 32 := 1#32
  let arg24 : BitVec 32 := Scf.iv c0_i32_34 c1_i32_35 k0_t3
  let c512_i32 : BitVec 32 := 512#32
  let v76 : BitVec 32 := Scalar.muli arg24 c512_i32
  v76
def k0_off9 (k0_t3 : Fin k0_t3_loop.trips) : Fin 3 → Nat :=
  let c0_38 : Index := 0#32
  let c0_i32_34 : BitVec 32 := 0#32
  let c1_i32_35 : BitVec 32 := 1#32
  let arg24 : BitVec 32 := Scf.iv c0_i32_34 c1_i32_35 k0_t3
  let c512_i32 : BitVec 32 := 512#32
  let v76 : BitVec 32 := Scalar.muli arg24 c512_i32
  let v77 : BitVec 32 := v76
  let v78 : Index := Scalar.indexCast v77
  let c0_39 : Index := 0#32
  ![0, v78.toNat, 0]
def k0_off10 (i : grid0.Coords) (k0_t3 : Fin k0_t3_loop.trips) : Fin 4 → Nat :=
  let c0_41 : Index := 0#32
  let c3_i32 : BitVec 32 := 3#32
  let c_m2_i32 : BitVec 32 := 4294967294#32
  let c0_i32_34 : BitVec 32 := 0#32
  let c1_i32_35 : BitVec 32 := 1#32
  let arg24 : BitVec 32 := Scf.iv c0_i32_34 c1_i32_35 k0_t3
  let arg2 : BitVec 32 := BitVec.ofNat 32 (i 2).val
  let c2_i32 : BitVec 32 := 2#32
  let v71 : BitVec 32 := Scalar.muli arg2 c2_i32
  let v72 : BitVec 32 := Scalar.subi arg24 v71
  let v73 : BitVec 32 := Scalar.maxsi c_m2_i32 v72
  let v74 : BitVec 32 := Scalar.minsi c3_i32 v73
  let c_m2_i32_37 : BitVec 32 := 4294967294#32
  let v75 : BitVec 32 := Scalar.subi v74 c_m2_i32_37
  let v82 : Index := Scalar.indexCast v75
  let c0_42 : Index := 0#32
  let c0_43 : Index := 0#32
  ![0, v82.toNat, 0, 0]
def k0_mult40 (k0_t3 : Fin k0_t3_loop.trips) : BitVec 32 :=
  let c0_i32_34 : BitVec 32 := 0#32
  let c1_i32_35 : BitVec 32 := 1#32
  let arg24 : BitVec 32 := Scf.iv c0_i32_34 c1_i32_35 k0_t3
  let c512_i32_50 : BitVec 32 := 512#32
  let v105 : BitVec 32 := Scalar.muli arg24 c512_i32_50
  v105
def k0_off11 (k0_t3 : Fin k0_t3_loop.trips) : Fin 3 → Nat :=
  let c0_51 : Index := 0#32
  let c0_i32_34 : BitVec 32 := 0#32
  let c1_i32_35 : BitVec 32 := 1#32
  let arg24 : BitVec 32 := Scf.iv c0_i32_34 c1_i32_35 k0_t3
  let c512_i32_50 : BitVec 32 := 512#32
  let v105 : BitVec 32 := Scalar.muli arg24 c512_i32_50
  let v106 : BitVec 32 := v105
  let v107 : Index := Scalar.indexCast v106
  let c0_52 : Index := 0#32
  ![0, v107.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg1.toNat, v0.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg1.toNat, v0.toNat, arg0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg1.toNat, v0.toNat, arg0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg1.toNat, v0.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x6x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S2x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S1x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== ReferenceIdeal.lean ====
abbrev S2x16384x4x2x64 : Shape := ⟨5, ![2, 16384, 4, 2, 64]⟩
abbrev S2x16384x4x128 : Shape := ⟨4, ![2, 16384, 4, 128]⟩
abbrev S1x2x64 : Shape := ⟨3, ![1, 2, 64]⟩
abbrev S1x4x64 : Shape := ⟨3, ![1, 4, 64]⟩
abbrev S1x128 : Shape := ⟨2, ![1, 128]⟩
abbrev S32x4 : Shape := ⟨2, ![32, 4]⟩
abbrev S2x2x512 : Shape := ⟨3, ![2, 2, 512]⟩
abbrev S2x16384x512 : Shape := ⟨3, ![2, 16384, 512]⟩
abbrev S4x64 : Shape := ⟨2, ![4, 64]⟩
abbrev S1x64 : Shape := ⟨2, ![1, 64]⟩
abbrev S64 : Shape := ⟨1, ![64]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x16384x1 : Shape := ⟨3, ![16384, 16384, 1]⟩
abbrev S16384x16384x4 : Shape := ⟨3, ![16384, 16384, 4]⟩
abbrev S4x16384x16384 : Shape := ⟨3, ![4, 16384, 16384]⟩
abbrev S2x4x2x16384x16384 : Shape := ⟨5, ![2, 4, 2, 16384, 16384]⟩
abbrev S1x4x1x16384x16384 : Shape := ⟨5, ![1, 4, 1, 16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S128 : Shape := ⟨1, ![128]⟩
abbrev S1x1x1x128 : Shape := ⟨4, ![1, 1, 1, 128]⟩

abbrev nBuf : Space → Nat
  | .hbm => 129
  | .vmem => 0
  | .smem => 0
  | _ => 0

abbrev hbmTy0_0 (i : Nat) : BufTy := match i % 128 with
  | 0 => ⟨S2x16384x4x2x64, .f32⟩
  | 1 => ⟨S2x16384x4x2x64, .f32⟩
  | 2 => ⟨S2x16384x4x128, .f32⟩
  | 3 => ⟨S1x2x64, .f32⟩
  | 4 => ⟨S1x4x64, .f32⟩
  | 5 => ⟨S1x128, .f32⟩
  | 6 => ⟨S32x4, .f32⟩
  | 7 => ⟨S2x2x512, .f32⟩
  | 8 => ⟨S2x16384x512, .f32⟩
  | 9 => ⟨S2x16384x512, .f32⟩
  | 10 => ⟨S2x16384x512, .f32⟩
  | 11 => ⟨S2x16384x512, .f32⟩
  | 12 => ⟨S4x64, .f32⟩
  | 13 => ⟨S1x64, .f32⟩
  | 14 => ⟨S64, .f32⟩
  | 15 => ⟨S1x64, .f32⟩
  | 16 => ⟨S64, .f32⟩
  | 17 => ⟨S64, .f32⟩
  | 18 => ⟨S_, .f32⟩
  | 19 => ⟨S_, .f32⟩
  | 20 => ⟨S_, .f32⟩
  | 21 => ⟨S1x64, .f32⟩
  | 22 => ⟨S64, .f32⟩
  | 23 => ⟨S1x64, .f32⟩
  | 24 => ⟨S64, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S16384, .i32⟩
  | 33 => ⟨S1x16384, .i32⟩
  | 34 => ⟨S16384x1, .i32⟩
  | 35 => ⟨S16384x16384, .i32⟩
  | 36 => ⟨S16384x16384, .i32⟩
  | 37 => ⟨S16384x16384, .i32⟩
  | 38 => ⟨S_, .i32⟩
  | 39 => ⟨S16384x16384, .i32⟩
  | 40 => ⟨S16384x16384, .i1⟩
  | 41 => ⟨S_, .i32⟩
  | 42 => ⟨S_, .i32⟩
  | 43 => ⟨S16384x16384, .i32⟩
  | 44 => ⟨S16384x16384, .i32⟩
  | 45 => ⟨S16384x16384, .i32⟩
  | 46 => ⟨S16384x16384, .i32⟩
  | 47 => ⟨S_, .i32⟩
  | 48 => ⟨S16384x16384, .i32⟩
  | 49 => ⟨S16384x16384, .i32⟩
  | 50 => ⟨S16384x16384, .f32⟩
  | 51 => ⟨S_, .f32⟩
  | 52 => ⟨S16384x16384, .f32⟩
  | 53 => ⟨S16384x16384, .f32⟩
  | 54 => ⟨S16384x16384, .f32⟩
  | 55 => ⟨S_, .f32⟩
  | 56 => ⟨S16384x16384, .f32⟩
  | 57 => ⟨S16384x16384, .f32⟩
  | 58 => ⟨S_, .f32⟩
  | 59 => ⟨S16384x16384, .f32⟩
  | 60 => ⟨S16384x16384, .f32⟩
  | 61 => ⟨S16384x16384, .i32⟩
  | 62 => ⟨S_, .i32⟩
  | 63 => ⟨S16384x16384, .i32⟩
  | 64 => ⟨S16384x16384, .i32⟩
  | 65 => ⟨S_, .i32⟩
  | 66 => ⟨S16384x16384, .i32⟩
  | 67 => ⟨S16384x16384, .i32⟩
  | 68 => ⟨S_, .i32⟩
  | 69 => ⟨S16384x16384, .i32⟩
  | 70 => ⟨S16384x16384, .i1⟩
  | 71 => ⟨S16384x16384, .i32⟩
  | 72 => ⟨S16384x16384, .i32⟩
  | 73 => ⟨S16384x16384, .i32⟩
  | 74 => ⟨S16384x16384x1, .i32⟩
  | 75 => ⟨S16384x16384x4, .f32⟩
  | 76 => ⟨S4x16384x16384, .f32⟩
  | 77 => ⟨S2x4x2x16384x16384, .f32⟩
  | 78 => ⟨S_, .f32⟩
  | 79 => ⟨S2x4x2x16384x16384, .f32⟩
  | 80 => ⟨S2x4x2x16384x16384, .f32⟩
  | 81 => ⟨S1x4x1x16384x16384, .f32⟩
  | 82 => ⟨S2x4x2x16384x16384, .f32⟩
  | 83 => ⟨S2x4x2x16384x16384, .f32⟩
  | 84 => ⟨S_, .f32⟩
  | 85 => ⟨S2x4x2x16384, .f32⟩
  | 86 => ⟨S_, .f32⟩
  | 87 => ⟨S2x4x2x16384, .f32⟩
  | 88 => ⟨S2x4x2x16384, .f32⟩
  | 89 => ⟨S2x4x2x16384x1, .f32⟩
  | 90 => ⟨S2x4x2x16384x16384, .f32⟩
  | 91 => ⟨S2x4x2x16384x16384, .f32⟩
  | 92 => ⟨S2x4x2x16384x16384, .f32⟩
  | 93 => ⟨S_, .f32⟩
  | 94 => ⟨S2x4x2x16384, .f32⟩
  | 95 => ⟨S2x4x2x16384x1, .f32⟩
  | 96 => ⟨S2x4x2x16384x16384, .f32⟩
  | 97 => ⟨S2x4x2x16384x16384, .f32⟩
  | 98 => ⟨S2x4x1x16384x16384, .f32⟩
  | 99 => ⟨S2x4x16384x16384, .f32⟩
  | 100 => ⟨S2x4x1x16384x16384, .f32⟩
  | 101 => ⟨S2x4x16384x16384, .f32⟩
  | 102 => ⟨S2x4x16384x16384, .f32⟩
  | 103 => ⟨S2x4x16384x16384, .f32⟩
  | 104 => ⟨S2x4x16384x16384, .f32⟩
  | 105 => ⟨S2x4x128x16384, .f32⟩
  | 106 => ⟨S2x16384x4x128, .f32⟩
  | 107 => ⟨S2x16384x4x128, .f32⟩
  | 108 => ⟨S_, .f32⟩
  | 109 => ⟨S2x16384x4, .f32⟩
  | 110 => ⟨S2x16384x4x1, .f32⟩
  | 111 => ⟨S_, .f32⟩
  | 112 => ⟨S2x16384x4x1, .f32⟩
  | 113 => ⟨S2x16384x4x1, .f32⟩
  | 114 => ⟨S_, .f32⟩
  | 115 => ⟨S2x16384x4x1, .f32⟩
  | 116 => ⟨S2x16384x4x1, .f32⟩
  | 117 => ⟨S2x16384x4x1, .f32⟩
  | 118 => ⟨S2x16384x4x128, .f32⟩
  | 119 => ⟨S2x16384x4x128, .f32⟩
  | 120 => ⟨S128, .f32⟩
  | 121 => ⟨S1x1x1x128, .f32⟩
  | 122 => ⟨S2x16384x4x128, .f32⟩
  | 123 => ⟨S2x16384x4x128, .f32⟩
  | 124 => ⟨S_, .f32⟩
  | 125 => ⟨S2x16384x4x128, .f32⟩
  | 126 => ⟨S2x16384x4x128, .f32⟩
  | 127 => ⟨S2x16384x4x128, .bf16⟩
  | _ => ⟨S2x16384x4x2x64, .f32⟩

abbrev hbmTy0_1 (i : Nat) : BufTy := match i % 128 with
  | 0 => ⟨S2x16384x512, .bf16⟩
  | _ => ⟨S2x16384x4x2x64, .f32⟩

abbrev hbmTy (i : Nat) : BufTy := match i / 128 with
  | 0 => hbmTy0_0 i
  | 1 => hbmTy0_1 i
  | _ => ⟨S2x16384x4x2x64, .f32⟩

abbrev bufTy : (tb : Table) → Fin (tcTables nBuf tb) → BufTy
  | .hbm, ⟨i, _⟩ => hbmTy i
  | _, _ => ⟨S2x16384x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_c_3 : Ref sig .tc := ⟨.hbm, 42, rfl⟩
abbrev main_call0_v0 : Ref sig .tc := ⟨.hbm, 43, rfl⟩
abbrev main_call0_v1 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call2_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]
-- ==== Mlp.lean ====
abbrev S32768x1024 : Shape := ⟨2, ![32768, 1024]⟩
abbrev S32768x512 : Shape := ⟨2, ![32768, 512]⟩
abbrev S1x128 : Shape := ⟨2, ![1, 128]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S128 : Shape := ⟨1, ![128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S1x128, .f32⟩
  | .hbm, ⟨6, _⟩ => ⟨S1x1024x1024, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S128, .f32⟩
  | .hbm, ⟨11, _⟩ => ⟨S1x128, .f32⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024x4096, .f32⟩
  | .hbm, ⟨17, _⟩ => ⟨S1024x4096, .bf16⟩
  | .hbm, ⟨18, _⟩ => ⟨S4096x1024, .f32⟩
  | .hbm, ⟨19, _⟩ => ⟨S4096x1024, .bf16⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S1024x1024, .bf16⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpReferenceIdeal.lean ====
abbrev S32768x1024 : Shape := ⟨2, ![32768, 1024]⟩
abbrev S32768x512 : Shape := ⟨2, ![32768, 512]⟩
abbrev S1x128 : Shape := ⟨2, ![1, 128]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S32768x4x128 : Shape := ⟨3, ![32768, 4, 128]⟩
abbrev S128 : Shape := ⟨1, ![128]⟩
abbrev S_ : Shape := ⟨0, ![]⟩
abbrev S32768x4 : Shape := ⟨2, ![32768, 4]⟩
abbrev S32768x4x1 : Shape := ⟨3, ![32768, 4, 1]⟩
abbrev S1x1x128 : Shape := ⟨3, ![1, 1, 128]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩
abbrev S1024x4096 : Shape := ⟨2, ![1024, 4096]⟩
abbrev S32768x4096 : Shape := ⟨2, ![32768, 4096]⟩
abbrev S4096x1024 : Shape := ⟨2, ![4096, 1024]⟩

abbrev nBuf : Space → Nat
  | .hbm => 72
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S1x128, .f32⟩
  | .hbm, ⟨6, _⟩ => ⟨S1x1024x1024, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S32768x512, .f32⟩
  | .hbm, ⟨11, _⟩ => ⟨S32768x4x128, .f32⟩
  | .hbm, ⟨12, _⟩ => ⟨S128, .f32⟩
  | .hbm, ⟨13, _⟩ => ⟨S32768x4x128, .f32⟩
  | .hbm, ⟨14, _⟩ => ⟨S_, .f32⟩
  | .hbm, ⟨15, _⟩ => ⟨S32768x4, .f32⟩
  | .hbm, ⟨16, _⟩ => ⟨S32768x4x1, .f32⟩
  | .hbm, ⟨17, _⟩ => ⟨S_, .f32⟩
  | .hbm, ⟨18, _⟩ => ⟨S32768x4x1, .f32⟩
  | .hbm, ⟨19, _⟩ => ⟨S32768x4x1, .f32⟩
  | .hbm, ⟨20, _⟩ => ⟨S_, .f32⟩
  | .hbm, ⟨21, _⟩ => ⟨S32768x4x1, .f32⟩
  | .hbm, ⟨22, _⟩ => ⟨S32768x4x1, .f32⟩
  | .hbm, ⟨23, _⟩ => ⟨S32768x4x1, .f32⟩
  | .hbm, ⟨24, _⟩ => ⟨S32768x4x128, .f32⟩
  | .hbm, ⟨25, _⟩ => ⟨S32768x4x128, .f32⟩
  | .hbm, ⟨26, _⟩ => ⟨S1x1x128, .f32⟩
  | .hbm, ⟨27, _⟩ => ⟨S32768x4x128, .f32⟩
  | .hbm, ⟨28, _⟩ => ⟨S32768x4x128, .f32⟩
  | .hbm, ⟨29, _⟩ => ⟨S32768x4x128, .f32⟩
  | .hbm, ⟨30, _⟩ => ⟨S32768x4x128, .f32⟩
  | .hbm, ⟨31, _⟩ => ⟨S32768x4x128, .f32⟩
  | .hbm, ⟨32, _⟩ => ⟨S_, .f32⟩
  | .hbm, ⟨33, _⟩ => ⟨S32768x4x128, .f32⟩
  | .hbm, ⟨34, _⟩ => ⟨S32768x4x128, .f32⟩
  | .hbm, ⟨35, _⟩ => ⟨S_, .f32⟩
  | .hbm, ⟨36, _⟩ => ⟨S32768x4x128, .f32⟩
  | .hbm, ⟨37, _⟩ => ⟨S32768x4x128, .f32⟩
  | .hbm, ⟨38, _⟩ => ⟨S32768x4x128, .f32⟩
  | .hbm, ⟨39, _⟩ => ⟨S32768x4x128, .f32⟩
  | .hbm, ⟨40, _⟩ => ⟨S32768x512, .f32⟩
  | .hbm, ⟨41, _⟩ => ⟨S32768x512, .f32⟩
  | .hbm, ⟨42, _⟩ => ⟨S32768x1024, .f32⟩
  | .hbm, ⟨43, _⟩ => ⟨S1024x1024, .f32⟩
  | .hbm, ⟨44, _⟩ => ⟨S32768x1024, .f32⟩
  | .hbm, ⟨45, _⟩ => ⟨S32768x1024, .f32⟩
  | .hbm, ⟨46, _⟩ => ⟨S1024, .f32⟩
  | .hbm, ⟨47, _⟩ => ⟨S32768x1024, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S32768x1024, .f32⟩
  | .hbm, ⟨62, _⟩ => ⟨S32768x1024, .f32⟩
  | .hbm, ⟨63, _⟩ => ⟨S1024x4096, .f32⟩
  | .hbm, ⟨64, _⟩ => ⟨S32768x4096, .f32⟩
  | .hbm, ⟨65, _⟩ => ⟨S_, .f32⟩
  | .hbm, ⟨66, _⟩ => ⟨S32768x4096, .f32⟩
  | .hbm, ⟨67, _⟩ => ⟨S32768x4096, .f32⟩
  | .hbm, ⟨68, _⟩ => ⟨S32768x4096, .f32⟩
  | .hbm, ⟨69, _⟩ => ⟨S4096x1024, .f32⟩
  | .hbm, ⟨70, _⟩ => ⟨S32768x1024, .f32⟩
  | .hbm, ⟨71, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_cst : Ref sig .tc := ⟨.hbm, 65, rfl⟩
abbrev main_call1_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]
-- ==== Proj.lean ====
abbrev S32768x1024 : Shape := ⟨2, ![32768, 1024]⟩
abbrev S1x1024 : Shape := ⟨2, ![1, 1024]⟩
abbrev S1x1024x4096 : Shape := ⟨3, ![1, 1024, 4096]⟩
abbrev S1x2x64 : Shape := ⟨3, ![1, 2, 64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024 : Shape := ⟨1, ![1024]⟩
abbrev S1024x4096 : Shape := ⟨2, ![1024, 4096]⟩
abbrev S1x1x64 : Shape := ⟨3, ![1, 1, 64]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32768x512 : Shape := ⟨2, ![32768, 512]⟩
abbrev S1024x1024 : Shape := ⟨2, ![1024, 1024]⟩
abbrev S1024x512 : Shape := ⟨2, ![1024, 512]⟩
abbrev S1024x1 : Shape := ⟨2, ![1024, 1]⟩
abbrev S1024x256 : Shape := ⟨2, ![1024, 256]⟩
abbrev S1024x128 : Shape := ⟨2, ![1024, 128]⟩

abbrev nBuf : Space → Nat
  | .hbm => 58
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x4096, .f32⟩
  | .hbm, ⟨3, _⟩ => ⟨S1x2x64, .f32⟩
  | .hbm, ⟨4, _⟩ => ⟨S256, .i32⟩
  | .hbm, ⟨5, _⟩ => ⟨S_, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S256x1, .i32⟩
  | .hbm, ⟨24, _⟩ => ⟨S1x256, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S_, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .bf16⟩
  | .hbm, ⟨34, _⟩ => ⟨S1024, .f32⟩
  | .hbm, ⟨35, _⟩ => ⟨S1x1024, .f32⟩
  | .hbm, ⟨36, _⟩ => ⟨S1024x4096, .f32⟩
  | .hbm, ⟨37, _⟩ => ⟨S1024x4096, .bf16⟩
  | .hbm, ⟨38, _⟩ => ⟨S1x1x64, .f32⟩
  | .hbm, ⟨39, _⟩ => ⟨S64, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x512, .f32⟩
  | .hbm, ⟨44, _⟩ => ⟨S1x1x64, .f32⟩
  | .hbm, ⟨45, _⟩ => ⟨S64, .f32⟩
  | .hbm, ⟨46, _⟩ => ⟨S1x64, .f32⟩
  | .hbm, ⟨47, _⟩ => ⟨S8x64, .f32⟩
  | .hbm, ⟨48, _⟩ => ⟨S512, .f32⟩
  | .hbm, ⟨49, _⟩ => ⟨S1x512, .f32⟩
  | .hbm, ⟨50, _⟩ => ⟨S32768x512, .bf16⟩
  | .hbm, ⟨51, _⟩ => ⟨S32768x512, .bf16⟩
  | .hbm, ⟨52, _⟩ => ⟨S32768x1024, .bf16⟩
  | .hbm, ⟨53, _⟩ => ⟨S32768x512, .bf16⟩
  | .hbm, ⟨54, _⟩ => ⟨S32768x512, .f32⟩
  | .hbm, ⟨55, _⟩ => ⟨S32768x512, .f32⟩
  | .hbm, ⟨56, _⟩ => ⟨S32768x512, .bf16⟩
  | .hbm, ⟨57, _⟩ => ⟨S32768x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S256x256, .bf16⟩
  | .local _ .vmem, ⟨5, _⟩ => ⟨S1x512, .f32⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x1024, .bf16⟩
  | .local _ .vmem, ⟨12, _⟩ => ⟨S1024x1024, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .bf16⟩
  | .local _ .vmem, ⟨20, _⟩ => ⟨S1024x512, .bf16⟩
  | .local _ .vmem, ⟨21, _⟩ => ⟨S1024x512, .f32⟩
  | .local _ .vmem, ⟨22, _⟩ => ⟨S1024x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev main_v25_3 : Ref sig .tc := ⟨.hbm, 53, rfl⟩
abbrev main_v25_4 : Ref sig .tc := ⟨.hbm, 54, rfl⟩
abbrev main_v25_5 : Ref sig .tc := ⟨.hbm, 55, rfl⟩
abbrev main_v25_6 : Ref sig .tc := ⟨.hbm, 56, rfl⟩
abbrev main_v25_7 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjReferenceIdeal.lean ====
abbrev S32768x1024 : Shape := ⟨2, ![32768, 1024]⟩
abbrev S1x1024 : Shape := ⟨2, ![1, 1024]⟩
abbrev S1x1024x4096 : Shape := ⟨3, ![1, 1024, 4096]⟩
abbrev S1x2x64 : Shape := ⟨3, ![1, 2, 64]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x4096 : Shape := ⟨2, ![1024, 4096]⟩
abbrev S32768x4096 : Shape := ⟨2, ![32768, 4096]⟩
abbrev S32768x512 : Shape := ⟨2, ![32768, 512]⟩
abbrev S32768x4x2x64 : Shape := ⟨4, ![32768, 4, 2, 64]⟩
abbrev S1x1x64 : Shape := ⟨3, ![1, 1, 64]⟩
abbrev S64 : Shape := ⟨1, ![64]⟩
abbrev S32768x4x2 : Shape := ⟨3, ![32768, 4, 2]⟩
abbrev S32768x4x2x1 : Shape := ⟨4, ![32768, 4, 2, 1]⟩
abbrev S1x1x1x64 : Shape := ⟨4, ![1, 1, 1, 64]⟩

abbrev nBuf : Space → Nat
  | .hbm => 87
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x4096, .f32⟩
  | .hbm, ⟨3, _⟩ => ⟨S1x2x64, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x4096, .f32⟩
  | .hbm, ⟨22, _⟩ => ⟨S32768x4096, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x4x2x64, .f32⟩
  | .hbm, ⟨32, _⟩ => ⟨S1x1x64, .f32⟩
  | .hbm, ⟨33, _⟩ => ⟨S64, .f32⟩
  | .hbm, ⟨34, _⟩ => ⟨S32768x4x2x64, .f32⟩
  | .hbm, ⟨35, _⟩ => ⟨S_, .f32⟩
  | .hbm, ⟨36, _⟩ => ⟨S32768x4x2, .f32⟩
  | .hbm, ⟨37, _⟩ => ⟨S32768x4x2x1, .f32⟩
  | .hbm, ⟨38, _⟩ => ⟨S_, .f32⟩
  | .hbm, ⟨39, _⟩ => ⟨S32768x4x2x1, .f32⟩
  | .hbm, ⟨40, _⟩ => ⟨S32768x4x2x1, .f32⟩
  | .hbm, ⟨41, _⟩ => ⟨S_, .f32⟩
  | .hbm, ⟨42, _⟩ => ⟨S32768x4x2x1, .f32⟩
  | .hbm, ⟨43, _⟩ => ⟨S32768x4x2x1, .f32⟩
  | .hbm, ⟨44, _⟩ => ⟨S32768x4x2x1, .f32⟩
  | .hbm, ⟨45, _⟩ => ⟨S32768x4x2x64, .f32⟩
  | .hbm, ⟨46, _⟩ => ⟨S32768x4x2x64, .f32⟩
  | .hbm, ⟨47, _⟩ => ⟨S1x1x1x64, .f32⟩
  | .hbm, ⟨48, _⟩ => ⟨S32768x4x2x64, .f32⟩
  | .hbm, ⟨49, _⟩ => ⟨S32768x4x2x64, .f32⟩
  | .hbm, ⟨50, _⟩ => ⟨S32768x512, .f32⟩
  | .hbm, ⟨51, _⟩ => ⟨S32768x4x2x64, .f32⟩
  | .hbm, ⟨52, _⟩ => ⟨S1x1x64, .f32⟩
  | .hbm, ⟨53, _⟩ => ⟨S64, .f32⟩
  | .hbm, ⟨54, _⟩ => ⟨S32768x4x2x64, .f32⟩
  | .hbm, ⟨55, _⟩ => ⟨S_, .f32⟩
  | .hbm, ⟨56, _⟩ => ⟨S32768x4x2, .f32⟩
  | .hbm, ⟨57, _⟩ => ⟨S32768x4x2x1, .f32⟩
  | .hbm, ⟨58, _⟩ => ⟨S_, .f32⟩
  | .hbm, ⟨59, _⟩ => ⟨S32768x4x2x1, .f32⟩
  | .hbm, ⟨60, _⟩ => ⟨S32768x4x2x1, .f32⟩
  | .hbm, ⟨61, _⟩ => ⟨S_, .f32⟩
  | .hbm, ⟨62, _⟩ => ⟨S32768x4x2x1, .f32⟩
  | .hbm, ⟨63, _⟩ => ⟨S32768x4x2x1, .f32⟩
  | .hbm, ⟨64, _⟩ => ⟨S32768x4x2x1, .f32⟩
  | .hbm, ⟨65, _⟩ => ⟨S32768x4x2x64, .f32⟩
  | .hbm, ⟨66, _⟩ => ⟨S32768x4x2x64, .f32⟩
  | .hbm, ⟨67, _⟩ => ⟨S1x1x1x64, .f32⟩
  | .hbm, ⟨68, _⟩ => ⟨S32768x4x2x64, .f32⟩
  | .hbm, ⟨69, _⟩ => ⟨S32768x4x2x64, .f32⟩
  | .hbm, ⟨70, _⟩ => ⟨S32768x512, .f32⟩
  | .hbm, ⟨71, _⟩ => ⟨S32768x512, .f32⟩
  | .hbm, ⟨72, _⟩ => ⟨S32768x512, .f32⟩
  | .hbm, ⟨73, _⟩ => ⟨S_, .f32⟩
  | .hbm, ⟨74, _⟩ => ⟨S32768x512, .f32⟩
  | .hbm, ⟨75, _⟩ => ⟨S32768x512, .f32⟩
  | .hbm, ⟨76, _⟩ => ⟨S_, .f32⟩
  | .hbm, ⟨77, _⟩ => ⟨S32768x512, .f32⟩
  | .hbm, ⟨78, _⟩ => ⟨S32768x512, .f32⟩
  | .hbm, ⟨79, _⟩ => ⟨S32768x512, .f32⟩
  | .hbm, ⟨80, _⟩ => ⟨S_, .f32⟩
  | .hbm, ⟨81, _⟩ => ⟨S32768x512, .f32⟩
  | .hbm, ⟨82, _⟩ => ⟨S32768x512, .f32⟩
  | .hbm, ⟨83, _⟩ => ⟨S32768x512, .bf16⟩
  | .hbm, ⟨84, _⟩ => ⟨S32768x512, .bf16⟩
  | .hbm, ⟨85, _⟩ => ⟨S32768x512, .bf16⟩
  | .hbm, ⟨86, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Proof.LoopInv.lean ====
module

public import proofs.«01_k».proof.Proof.Gen.KernelIdeal.Frame
public import proofs.«01_k».proof.Proof.Gen.KernelIdeal.Loops

public import Idealize.ShloMosaic.Lib.Pipeline.ValueKit.Acc

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The resource algebra of the launch. -/
local notation "𝕄" => MT nD τ sig Unit (Elt F) ℕ (UR sig nD τ) ℕ

/-! ## The counted loop of the offset branch, with its accumulator named

The loop walks the key tiles in groups of eight. Each tile adds one product to the accumulator `arg21`. The other buffers
the loop writes (the recurrence's outputs and states) are kept at some contents: nothing is claimed of them. -/

/-- The whole accumulator as a rectangle. -/
abbrev wholeAcc : Rect S2048x256 := Rect.unit (s := S2048x256) ![0, 0] S2048x256.size inb_S2048x256_S2048x256_0_0

/-- What key tile `r` of group `k` makes of the accumulator `a`. -/
def tile1 (i : grid0.Coords) (arg6 : Memref sig .tc .vmem S1x16384x128 .bf16) (arg7 : Memref sig .tc .vmem S1x16384x256 .bf16) (arg8 : Memref sig .tc .vmem S1x6x1024x512 .f32)
    (v7 : Vec F S1x1024x128 .bf16) (X_arg6 : BufTy.Contents (Elt F) arg6.view.ty) (X_arg7 : BufTy.Contents (Elt F) arg7.view.ty)
    (X_arg8 : BufTy.Contents (Elt F) arg8.view.ty) (k : Fin k0_t1_loop.trips) (r : Fin 8) (a : Vec F S2048x256 .f32) : Vec F S2048x256 .f32 :=
  k0_pay2 (k0_pay199 v7)
    (View.readAt (Elt F) arg6.view (Rect.unit (s := S1x16384x128) (k0_off2 k (BitVec.ofNat 32 r.val)) S1x512x128.size (k0_off2_inb k r)).toLoadRect X_arg6)
    (View.readAt (Elt F) arg8.view (Rect.unit (s := S1x6x1024x512) (k0_off3 i k (BitVec.ofNat 32 r.val)) S1x1x1024x512.size (k0_off3_inb i k r)).toLoadRect X_arg8)
    (View.readAt (Elt F) arg7.view (Rect.unit (s := S1x16384x256) (k0_off4 k (BitVec.ofNat 32 r.val)) S1x512x256.size (k0_off4_inb k r)).toLoadRect X_arg7) a

/-- What one group of eight key tiles makes of the accumulator `a`. -/
def group (i : grid0.Coords) (arg6 : Memref sig .tc .vmem S1x16384x128 .bf16) (arg7 : Memref sig .tc .vmem S1x16384x256 .bf16) (arg8 : Memref sig .tc .vmem S1x6x1024x512 .f32)
    (v7 : Vec F S1x1024x128 .bf16) (X_arg6 : BufTy.Contents (Elt F) arg6.view.ty) (X_arg7 : BufTy.Contents (Elt F) arg7.view.ty)
    (X_arg8 : BufTy.Contents (Elt F) arg8.view.ty) (k : Fin k0_t1_loop.trips) (a : Vec F S2048x256 .f32) : Vec F S2048x256 .f32 :=
  (List.finRange 8).foldl (fun (a : Vec F S2048x256 .f32) (r : Fin 8) => tile1 i arg6 arg7 arg8 v7 X_arg6 X_arg7 X_arg8 k r a) a

/-- The accumulator's stores of the first `k` groups, over the contents `G` at loop entry: the last group's store covers the
others, so one is listed per group. -/
def pieces1 (i : grid0.Coords) (arg6 : Memref sig .tc .vmem S1x16384x128 .bf16) (arg7 : Memref sig .tc .vmem S1x16384x256 .bf16) (arg8 : Memref sig .tc .vmem S1x6x1024x512 .f32) (arg21 : Memref sig .tc .vmem S2048x256 .f32)
    (v7 : Vec F S1x1024x128 .bf16) (X_arg6 : BufTy.Contents (Elt F) arg6.view.ty) (X_arg7 : BufTy.Contents (Elt F) arg7.view.ty)
    (X_arg8 : BufTy.Contents (Elt F) arg8.view.ty) (G : BufTy.Contents (Elt F) arg21.view.ty) : ℕ → List (View.Piece (Elt F) S2048x256 .f32)
  | 0 => []
  | k + 1 => if h : k < k0_t1_loop.trips then
      ⟨wholeAcc, group i arg6 arg7 arg8 v7 X_arg6 X_arg7 X_arg8 ⟨k, h⟩ (View.readAt (Elt F) arg21.view wholeAcc.toLoadRect
          (arg21.view.writes (Elt F) G (pieces1 i arg6 arg7 arg8 arg21 v7 X_arg6 X_arg7 X_arg8 G k)))⟩
        :: pieces1 i arg6 arg7 arg8 arg21 v7 X_arg6 X_arg7 X_arg8 G k
    else pieces1 i arg6 arg7 arg8 arg21 v7 X_arg6 X_arg7 X_arg8 G k

set_option maxHeartbeats 1000000

variable (𝒱 : Variants) (c : Dev nD) (bd : Option 𝒱.V) (i : grid0.Coords)
  (arg3 : Memref sig .tc .smem S1 .i32) (harg3 : arg3.IsWhole)
  (arg4 : Memref sig .tc .smem S1 .f32) (harg4 : arg4.IsWhole)
  (arg5 : Memref sig .tc .vmem S1x1024x128 .bf16) (harg5 : arg5.IsWhole)
  (arg6 : Memref sig .tc .vmem S1x16384x128 .bf16) (harg6 : arg6.IsWhole)
  (arg7 : Memref sig .tc .vmem S1x16384x256 .bf16) (harg7 : arg7.IsWhole)
  (arg8 : Memref sig .tc .vmem S1x6x1024x512 .f32) (harg8 : arg8.IsWhole)
  (arg9 : Memref sig .tc .vmem S1x128 .f32) (harg9 : arg9.IsWhole)
  (arg10 : Memref sig .tc .vmem S1x1024x128 .bf16) (harg10 : arg10.IsWhole)
  (arg11 : Memref sig .tc .vmem S1x1024x128 .f32) (harg11 : arg11.IsWhole)
  (arg12 : Memref sig .tc .vmem S1x1024x128 .bf16) (harg12 : arg12.IsWhole)
  (arg13 : Memref sig .tc .vmem S1x1024x128 .bf16) (harg13 : arg13.IsWhole)
  (arg14 : Memref sig .tc .vmem S1x1024x128 .f32) (harg14 : arg14.IsWhole)
  (arg15 : Memref sig .tc .vmem S1x1024x128 .bf16) (harg15 : arg15.IsWhole)
  (arg16 : Memref sig .tc .vmem S2x128 .f32) (harg16 : arg16.IsWhole)
  (arg17 : Memref sig .tc .vmem S1x1024x128 .bf16) (harg17 : arg17.IsWhole)
  (arg18 : Memref sig .tc .vmem S1x1024x128 .f32) (harg18 : arg18.IsWhole)
  (arg19 : Memref sig .tc .vmem S1x1024x128 .f32) (harg19 : arg19.IsWhole)
  (arg20 : Memref sig .tc .vmem S2048x1 .f32) (harg20 : arg20.IsWhole)
  (arg21 : Memref sig .tc .vmem S2048x256 .f32) (harg21 : arg21.IsWhole)
  (arg22 : Memref sig .tc .vmem S128x128 .f32) (harg22 : arg22.IsWhole)
  (arg23 : Memref sig .tc .vmem S128x128 .f32) (harg23 : arg23.IsWhole)
  (arg2 : BitVec 32) (v3 v5 : Vec F S1x128 .f32) (v7 : Vec F S1x1024x128 .bf16)
  (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty)

/-- One trip leaves in the accumulator the group's value of what it found there. -/
theorem trip_acc (k : Fin k0_t1_loop.trips) (f18 : BufTy.Contents (Elt F) arg18.view.ty) (f19 : BufTy.Contents (Elt F) arg19.view.ty)
    (f21 : BufTy.Contents (Elt F) arg21.view.ty) (f22 : BufTy.Contents (Elt F) arg22.view.ty) (f23 : BufTy.Contents (Elt F) arg23.view.ty)
    (L : List (View.Piece (Elt F) S2048x256 .f32)) (f : BufTy.Contents (Elt F) arg21.view.ty) :
    arg21.view.writes (Elt F) f21 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v3 v5 v7 X_arg6 X_arg7 X_arg8 X_arg10 X_arg11 X_arg12 X_arg13 X_arg14 X_arg15 k).2.2.1 f18 f19 f21 f22 f23)
      = arg21.view.writes (Elt F) f (⟨wholeAcc, group i arg6 arg7 arg8 v7 X_arg6 X_arg7 X_arg8 k (View.readAt (Elt F) arg21.view wholeAcc.toLoadRect f21)⟩ :: L) := by
  have hz : ∀ a : Fin S2048x256.rank, (![0, 0] : Fin 2 → Nat) a = 0 := by decide
  have hc : ∀ (w : Vec F S2048x256 .f32) (L : List (View.Piece (Elt F) S2048x256 .f32)) (y : S2048x256.Idx),
      ∃ p ∈ ((⟨wholeAcc, w⟩ : View.Piece (Elt F) S2048x256 .f32) :: L), y ∈ p.1.set := fun w L y =>
    ⟨_, List.mem_cons_self, View.mem_set_unit_zero (S := S2048x256) (funext hz) inb_S2048x256_S2048x256_0_0 y⟩
  apply harg21.read_bijective.1
  unfold trip_k0_t1
  dsimp only
  rw [View.read_writes_eq_canon _ _ _ (hc _ _), View.read_writes_eq_canon _ _ _ (hc _ _), View.canon_cons_unit_lit _ _ _ hz,
    View.canon_cons_unit_lit _ _ _ hz]
  simp only [trip_k0_t1.sl.v951, trip_k0_t1.sl.HW_arg21_7, trip_k0_t1.sl.v915, trip_k0_t1.sl.HW_arg21_6, trip_k0_t1.sl.v879,
    trip_k0_t1.sl.HW_arg21_5, trip_k0_t1.sl.v843, trip_k0_t1.sl.HW_arg21_4, trip_k0_t1.sl.v807, trip_k0_t1.sl.HW_arg21_3,
    trip_k0_t1.sl.v771, trip_k0_t1.sl.HW_arg21_2, trip_k0_t1.sl.v735, trip_k0_t1.sl.HW_arg21_1, View.readCov_cons_toLoadRect]
  rfl

set_option warn.classDefReducibility false in
/-- The loop by its invariant: what it reads stays, the accumulator holds the groups' value, the rest is at some contents. -/
@[sl_loop]
def loopInv1 (E : Set ℕ) (G : BufTy.Contents (Elt F) arg21.view.ty) :
    Idealize.ShloMosaic.LoopInv (M := 𝕄) Idealize.ShloMosaic.frame (wpE defs₀ 𝒱 (c : Thread nD τ) bd) E
      k0_t1_loop.lb k0_t1_loop.ub k0_t1_loop.st k0_t1_ok () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v3 v5 v7) where
  inv := fun k _ => iprop((arg6.view.loc (c : Thread nD τ) ↦[arg6.view.set]{fullShare} X_arg6) ∗
    (arg7.view.loc (c : Thread nD τ) ↦[arg7.view.set]{fullShare} X_arg7) ∗
    (arg8.view.loc (c : Thread nD τ) ↦[arg8.view.set]{fullShare} X_arg8) ∗
    (arg10.view.loc (c : Thread nD τ) ↦[arg10.view.set]{fullShare} X_arg10) ∗
    (arg11.view.loc (c : Thread nD τ) ↦[arg11.view.set]{fullShare} X_arg11) ∗
    (arg12.view.loc (c : Thread nD τ) ↦[arg12.view.set]{fullShare} X_arg12) ∗
    (arg13.view.loc (c : Thread nD τ) ↦[arg13.view.set]{fullShare} X_arg13) ∗
    (arg14.view.loc (c : Thread nD τ) ↦[arg14.view.set]{fullShare} X_arg14) ∗
    (arg15.view.loc (c : Thread nD τ) ↦[arg15.view.set]{fullShare} X_arg15) ∗
    (∃ f, (arg18.view.loc (c : Thread nD τ) ↦[arg18.view.set]{fullShare} f)) ∗
    (∃ f, (arg19.view.loc (c : Thread nD τ) ↦[arg19.view.set]{fullShare} f)) ∗
    (∃ f, (arg21.view.loc (c : Thread nD τ) ↦[arg21.view.set]{fullShare} f) ∗ ⌜f = arg21.view.writes (Elt F) G (pieces1 i arg6 arg7 arg8 arg21 v7 X_arg6 X_arg7 X_arg8 G k)⌝) ∗
    (∃ f, (arg22.view.loc (c : Thread nD τ) ↦[arg22.view.set]{fullShare} f)) ∗
    (∃ f, (arg23.view.loc (c : Thread nD τ) ↦[arg23.view.set]{fullShare} f)))
  step := fun k _ => by
    iintro ⟨HR_arg6, HR_arg7, HR_arg8, HR_arg10, HR_arg11, HR_arg12, HR_arg13, HR_arg14, HR_arg15, ⟨%f_arg18, HW_arg18⟩, ⟨%f_arg19, HW_arg19⟩, ⟨%f_arg21, HW_arg21, %h_arg21⟩, ⟨%f_arg22, HW_arg22⟩, ⟨%f_arg23, HW_arg23⟩⟩
    iapply wp_wand $$ [HR_arg6 HR_arg7 HR_arg8 HR_arg10 HR_arg11 HR_arg12 HR_arg13 HR_arg14 HR_arg15 HW_arg18 HW_arg19 HW_arg21 HW_arg22 HW_arg23]
    · iapply (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v3 v5 v7 X_arg6 X_arg7 X_arg8 X_arg10 X_arg11 X_arg12 X_arg13 X_arg14 X_arg15 k).2.2.2.2.2 E f_arg18 f_arg19 f_arg21 f_arg22 f_arg23
      isplitl [HR_arg6]; · iexact HR_arg6
      isplitl [HR_arg7]; · iexact HR_arg7
      isplitl [HR_arg8]; · iexact HR_arg8
      isplitl [HR_arg10]; · iexact HR_arg10
      isplitl [HR_arg11]; · iexact HR_arg11
      isplitl [HR_arg12]; · iexact HR_arg12
      isplitl [HR_arg13]; · iexact HR_arg13
      isplitl [HR_arg14]; · iexact HR_arg14
      isplitl [HR_arg15]; · iexact HR_arg15
      isplitl [HW_arg18]; · iexact HW_arg18
      isplitl [HW_arg19]; · iexact HW_arg19
      isplitl [HW_arg21]; · iexact HW_arg21
      isplitl [HW_arg22]; · iexact HW_arg22
      iexact HW_arg23
    · iintro %_ ⟨HR_arg6, HR_arg7, HR_arg8, HR_arg10, HR_arg11, HR_arg12, HR_arg13, HR_arg14, HR_arg15, HW_arg18, HW_arg19, HW_arg21, HW_arg22, HW_arg23⟩
      isplitl [HR_arg6]; · iexact HR_arg6
      isplitl [HR_arg7]; · iexact HR_arg7
      isplitl [HR_arg8]; · iexact HR_arg8
      isplitl [HR_arg10]; · iexact HR_arg10
      isplitl [HR_arg11]; · iexact HR_arg11
      isplitl [HR_arg12]; · iexact HR_arg12
      isplitl [HR_arg13]; · iexact HR_arg13
      isplitl [HR_arg14]; · iexact HR_arg14
      isplitl [HR_arg15]; · iexact HR_arg15
      isplitl [HW_arg18]; · iexists _; iexact HW_arg18
      isplitl [HW_arg19]; · iexists _; iexact HW_arg19
      isplitl [HW_arg21]
      · iexists _; isplitl [HW_arg21]; · iexact HW_arg21
        ipureintro
        rw [pieces1.eq_2, dif_pos k.isLt, trip_acc, h_arg21]
      isplitl [HW_arg22]; · iexists _; iexact HW_arg22
      iexists _; iexact HW_arg23

end Cert.KernelIdeal.Att

end
-- ==== Proof.RunFast.lean ====
module

public import proofs.«01_k».proof.Proof.Gen.KernelIdeal.Frame
public import proofs.«01_k».proof.Proof.Gen.KernelIdeal.Loops

public import proofs.«01_k».proof.Proof.LoopInv

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The resource algebra of the launch. -/
local notation "𝕄" => MT nD τ sig Unit (Elt F) ℕ (UR sig nD τ) ℕ

/-- The point is a head's first block of rows: the recurrence's states start there. -/
abbrev atFirst (i : grid0.Coords) : Prop :=
  (Scalar.cmpi .ne (Scalar.extui (Scalar.cmpi .eq (BitVec.ofNat 32 (i 2).val) 0#32)) 0#32) = 1#1

/-- The word selects the branch whose exponents are taken without a running maximum. -/
abbrev isFast (w : BitVec 32) : Prop := (Scalar.cmpi .ne (Scalar.extui (Scalar.cmpi .eq w 1#32)) 0#32) = 1#1

/-- The word selects the branch that keeps a running maximum. -/
abbrev isSlow (w : BitVec 32) : Prop := (Scalar.cmpi .ne (Scalar.extui (Scalar.cmpi .ne w 1#32)) 0#32) = 1#1

set_option maxHeartbeats 4000000 in
/-- The body at a first point under the word that selects the offset branch: it runs to the continuation, the argument blocks as
they were, the output block written by the one store found, the other buffers at some contents. -/
noncomputable def runF0 (c : Dev nD) (i : grid0.Coords)
    (arg3 : Memref sig .tc .smem S1 .i32) (harg3 : arg3.IsWhole)
    (arg4 : Memref sig .tc .smem S1 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x256 .bf16) (harg7 : arg7.IsWhole)
    (arg8 : Memref sig .tc .vmem S1x6x1024x512 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S1x1024x128 .f32) (harg11 : arg11.IsWhole)
    (arg12 : Memref sig .tc .vmem S1x1024x128 .bf16) (harg12 : arg12.IsWhole)
    (arg13 : Memref sig .tc .vmem S1x1024x128 .bf16) (harg13 : arg13.IsWhole)
    (arg14 : Memref sig .tc .vmem S1x1024x128 .f32) (harg14 : arg14.IsWhole)
    (arg15 : Memref sig .tc .vmem S1x1024x128 .bf16) (harg15 : arg15.IsWhole)
    (arg16 : Memref sig .tc .vmem S2x128 .f32) (harg16 : arg16.IsWhole)
    (arg17 : Memref sig .tc .vmem S1x1024x128 .bf16) (harg17 : arg17.IsWhole)
    (arg18 : Memref sig .tc .vmem S1x1024x128 .f32) (harg18 : arg18.IsWhole)
    (arg19 : Memref sig .tc .vmem S1x1024x128 .f32) (harg19 : arg19.IsWhole)
    (arg20 : Memref sig .tc .vmem S2048x1 .f32) (harg20 : arg20.IsWhole)
    (arg21 : Memref sig .tc .vmem S2048x256 .f32) (harg21 : arg21.IsWhole)
    (arg22 : Memref sig .tc .vmem S128x128 .f32) (harg22 : arg22.IsWhole)
    (arg23 : Memref sig .tc .vmem S128x128 .f32) (harg23 : arg23.IsWhole)
    (hc0 : atFirst i) (x0 : Vec F S1 .i32) (x1 : Vec F S1 .f32) (x2 : Vec F S1x1024x128 .bf16) (x3 : Vec F S1x16384x128 .bf16) (x4 : Vec F S1x16384x256 .bf16) (x5 : Vec F S1x6x1024x512 .f32) (x6 : Vec F S1x128 .f32) (x7 : Vec F S1x1024x128 .bf16) (x8 : Vec F S1x1024x128 .f32) (x9 : Vec F S1x1024x128 .bf16) (x10 : Vec F S1x1024x128 .bf16) (x11 : Vec F S1x1024x128 .f32) (x12 : Vec F S1x1024x128 .bf16) (x13 : Vec F S2x128 .f32)
    (hc1 : isFast (arg3.view.readAt (Elt F) (Rect.unit (s := S1) ![0] S1.size inb_S1_S1_0).toLoadRect (harg3.unread x0) (Shape.Idx.first (numel1_S1.symm ▸ Nat.one_pos))))
    (hc2 : ¬ isSlow (arg3.view.readAt (Elt F) (Rect.unit (s := S1) ![0] S1.size inb_S1_S1_0).toLoadRect (harg3.unread x0) (Shape.Idx.first (numel1_S1.symm ▸ Nat.one_pos)))) :
    { L14 : List (View.Piece (Elt F) S1x1024x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ f, arg17.view.loc (c : Thread nD τ) ↦[arg17.view.set]{fullShare} arg17.view.writes (Elt F) f L14) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K PUnit.unit))
          ⊢ wp frame (wpE (defs₀ (F := F)) Variants.none c none) E (cc0_mixer i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, fun E K => ?run⟩
  case run =>
    simp only [cc0_mixer_eq_skeleton]; unfold cc0_mixer_skel
    simp only [k0_part39_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

set_option maxHeartbeats 4000000 in
/-- The body at a later point under the word that selects the offset branch: it runs to the continuation, the argument blocks as
they were, the output block written by the one store found, the other buffers at some contents. -/
noncomputable def runF1 (c : Dev nD) (i : grid0.Coords)
    (arg3 : Memref sig .tc .smem S1 .i32) (harg3 : arg3.IsWhole)
    (arg4 : Memref sig .tc .smem S1 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x256 .bf16) (harg7 : arg7.IsWhole)
    (arg8 : Memref sig .tc .vmem S1x6x1024x512 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S1x1024x128 .f32) (harg11 : arg11.IsWhole)
    (arg12 : Memref sig .tc .vmem S1x1024x128 .bf16) (harg12 : arg12.IsWhole)
    (arg13 : Memref sig .tc .vmem S1x1024x128 .bf16) (harg13 : arg13.IsWhole)
    (arg14 : Memref sig .tc .vmem S1x1024x128 .f32) (harg14 : arg14.IsWhole)
    (arg15 : Memref sig .tc .vmem S1x1024x128 .bf16) (harg15 : arg15.IsWhole)
    (arg16 : Memref sig .tc .vmem S2x128 .f32) (harg16 : arg16.IsWhole)
    (arg17 : Memref sig .tc .vmem S1x1024x128 .bf16) (harg17 : arg17.IsWhole)
    (arg18 : Memref sig .tc .vmem S1x1024x128 .f32) (harg18 : arg18.IsWhole)
    (arg19 : Memref sig .tc .vmem S1x1024x128 .f32) (harg19 : arg19.IsWhole)
    (arg20 : Memref sig .tc .vmem S2048x1 .f32) (harg20 : arg20.IsWhole)
    (arg21 : Memref sig .tc .vmem S2048x256 .f32) (harg21 : arg21.IsWhole)
    (arg22 : Memref sig .tc .vmem S128x128 .f32) (harg22 : arg22.IsWhole)
    (arg23 : Memref sig .tc .vmem S128x128 .f32) (harg23 : arg23.IsWhole)
    (hc0 : ¬ atFirst i) (x0 : Vec F S1 .i32) (x1 : Vec F S1 .f32) (x2 : Vec F S1x1024x128 .bf16) (x3 : Vec F S1x16384x128 .bf16) (x4 : Vec F S1x16384x256 .bf16) (x5 : Vec F S1x6x1024x512 .f32) (x6 : Vec F S1x128 .f32) (x7 : Vec F S1x1024x128 .bf16) (x8 : Vec F S1x1024x128 .f32) (x9 : Vec F S1x1024x128 .bf16) (x10 : Vec F S1x1024x128 .bf16) (x11 : Vec F S1x1024x128 .f32) (x12 : Vec F S1x1024x128 .bf16) (x13 : Vec F S2x128 .f32)
    (hc1 : isFast (arg3.view.readAt (Elt F) (Rect.unit (s := S1) ![0] S1.size inb_S1_S1_0).toLoadRect (harg3.unread x0) (Shape.Idx.first (numel1_S1.symm ▸ Nat.one_pos))))
    (hc2 : ¬ isSlow (arg3.view.readAt (Elt F) (Rect.unit (s := S1) ![0] S1.size inb_S1_S1_0).toLoadRect (harg3.unread x0) (Shape.Idx.first (numel1_S1.symm ▸ Nat.one_pos)))) :
    { L14 : List (View.Piece (Elt F) S1x1024x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ f, arg17.view.loc (c : Thread nD τ) ↦[arg17.view.set]{fullShare} arg17.view.writes (Elt F) f L14) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K PUnit.unit))
          ⊢ wp frame (wpE (defs₀ (F := F)) Variants.none c none) E (cc0_mixer i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, fun E K => ?run⟩
  case run =>
    simp only [cc0_mixer_eq_skeleton]; unfold cc0_mixer_skel
    simp only [k0_part39_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Att

end
-- ==== Proof.RunSlow.lean ====
module

public import proofs.«01_k».proof.Proof.Gen.KernelIdeal.Frame
public import proofs.«01_k».proof.Proof.Gen.KernelIdeal.Loops

public import proofs.«01_k».proof.Proof.RunFast

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The resource algebra of the launch. -/
local notation "𝕄" => MT nD τ sig Unit (Elt F) ℕ (UR sig nD τ) ℕ

set_option maxHeartbeats 4000000 in
/-- The body at a first point under any other word: it runs to the continuation, the argument blocks as they were, the output
block written by the one store found, the other buffers at some contents. -/
noncomputable def runS0 (c : Dev nD) (i : grid0.Coords)
    (arg3 : Memref sig .tc .smem S1 .i32) (harg3 : arg3.IsWhole)
    (arg4 : Memref sig .tc .smem S1 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x256 .bf16) (harg7 : arg7.IsWhole)
    (arg8 : Memref sig .tc .vmem S1x6x1024x512 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S1x1024x128 .f32) (harg11 : arg11.IsWhole)
    (arg12 : Memref sig .tc .vmem S1x1024x128 .bf16) (harg12 : arg12.IsWhole)
    (arg13 : Memref sig .tc .vmem S1x1024x128 .bf16) (harg13 : arg13.IsWhole)
    (arg14 : Memref sig .tc .vmem S1x1024x128 .f32) (harg14 : arg14.IsWhole)
    (arg15 : Memref sig .tc .vmem S1x1024x128 .bf16) (harg15 : arg15.IsWhole)
    (arg16 : Memref sig .tc .vmem S2x128 .f32) (harg16 : arg16.IsWhole)
    (arg17 : Memref sig .tc .vmem S1x1024x128 .bf16) (harg17 : arg17.IsWhole)
    (arg18 : Memref sig .tc .vmem S1x1024x128 .f32) (harg18 : arg18.IsWhole)
    (arg19 : Memref sig .tc .vmem S1x1024x128 .f32) (harg19 : arg19.IsWhole)
    (arg20 : Memref sig .tc .vmem S2048x1 .f32) (harg20 : arg20.IsWhole)
    (arg21 : Memref sig .tc .vmem S2048x256 .f32) (harg21 : arg21.IsWhole)
    (arg22 : Memref sig .tc .vmem S128x128 .f32) (harg22 : arg22.IsWhole)
    (arg23 : Memref sig .tc .vmem S128x128 .f32) (harg23 : arg23.IsWhole)
    (hc0 : atFirst i) (x0 : Vec F S1 .i32) (x1 : Vec F S1 .f32) (x2 : Vec F S1x1024x128 .bf16) (x3 : Vec F S1x16384x128 .bf16) (x4 : Vec F S1x16384x256 .bf16) (x5 : Vec F S1x6x1024x512 .f32) (x6 : Vec F S1x128 .f32) (x7 : Vec F S1x1024x128 .bf16) (x8 : Vec F S1x1024x128 .f32) (x9 : Vec F S1x1024x128 .bf16) (x10 : Vec F S1x1024x128 .bf16) (x11 : Vec F S1x1024x128 .f32) (x12 : Vec F S1x1024x128 .bf16) (x13 : Vec F S2x128 .f32)
    (hc1 : ¬ isFast (arg3.view.readAt (Elt F) (Rect.unit (s := S1) ![0] S1.size inb_S1_S1_0).toLoadRect (harg3.unread x0) (Shape.Idx.first (numel1_S1.symm ▸ Nat.one_pos))))
    (hc2 : isSlow (arg3.view.readAt (Elt F) (Rect.unit (s := S1) ![0] S1.size inb_S1_S1_0).toLoadRect (harg3.unread x0) (Shape.Idx.first (numel1_S1.symm ▸ Nat.one_pos)))) :
    { L14 : List (View.Piece (Elt F) S1x1024x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ f, arg17.view.loc (c : Thread nD τ) ↦[arg17.view.set]{fullShare} arg17.view.writes (Elt F) f L14) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K PUnit.unit))
          ⊢ wp frame (wpE (defs₀ (F := F)) Variants.none c none) E (cc0_mixer i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, fun E K => ?run⟩
  case run =>
    simp only [cc0_mixer_eq_skeleton]; unfold cc0_mixer_skel
    simp only [k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

set_option maxHeartbeats 4000000 in
/-- The body at a later point under any other word: it runs to the continuation, the argument blocks as they were, the output
block written by the one store found, the other buffers at some contents. -/
noncomputable def runS1 (c : Dev nD) (i : grid0.Coords)
    (arg3 : Memref sig .tc .smem S1 .i32) (harg3 : arg3.IsWhole)
    (arg4 : Memref sig .tc .smem S1 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x256 .bf16) (harg7 : arg7.IsWhole)
    (arg8 : Memref sig .tc .vmem S1x6x1024x512 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S1x1024x128 .f32) (harg11 : arg11.IsWhole)
    (arg12 : Memref sig .tc .vmem S1x1024x128 .bf16) (harg12 : arg12.IsWhole)
    (arg13 : Memref sig .tc .vmem S1x1024x128 .bf16) (harg13 : arg13.IsWhole)
    (arg14 : Memref sig .tc .vmem S1x1024x128 .f32) (harg14 : arg14.IsWhole)
    (arg15 : Memref sig .tc .vmem S1x1024x128 .bf16) (harg15 : arg15.IsWhole)
    (arg16 : Memref sig .tc .vmem S2x128 .f32) (harg16 : arg16.IsWhole)
    (arg17 : Memref sig .tc .vmem S1x1024x128 .bf16) (harg17 : arg17.IsWhole)
    (arg18 : Memref sig .tc .vmem S1x1024x128 .f32) (harg18 : arg18.IsWhole)
    (arg19 : Memref sig .tc .vmem S1x1024x128 .f32) (harg19 : arg19.IsWhole)
    (arg20 : Memref sig .tc .vmem S2048x1 .f32) (harg20 : arg20.IsWhole)
    (arg21 : Memref sig .tc .vmem S2048x256 .f32) (harg21 : arg21.IsWhole)
    (arg22 : Memref sig .tc .vmem S128x128 .f32) (harg22 : arg22.IsWhole)
    (arg23 : Memref sig .tc .vmem S128x128 .f32) (harg23 : arg23.IsWhole)
    (hc0 : ¬ atFirst i) (x0 : Vec F S1 .i32) (x1 : Vec F S1 .f32) (x2 : Vec F S1x1024x128 .bf16) (x3 : Vec F S1x16384x128 .bf16) (x4 : Vec F S1x16384x256 .bf16) (x5 : Vec F S1x6x1024x512 .f32) (x6 : Vec F S1x128 .f32) (x7 : Vec F S1x1024x128 .bf16) (x8 : Vec F S1x1024x128 .f32) (x9 : Vec F S1x1024x128 .bf16) (x10 : Vec F S1x1024x128 .bf16) (x11 : Vec F S1x1024x128 .f32) (x12 : Vec F S1x1024x128 .bf16) (x13 : Vec F S2x128 .f32)
    (hc1 : ¬ isFast (arg3.view.readAt (Elt F) (Rect.unit (s := S1) ![0] S1.size inb_S1_S1_0).toLoadRect (harg3.unread x0) (Shape.Idx.first (numel1_S1.symm ▸ Nat.one_pos))))
    (hc2 : isSlow (arg3.view.readAt (Elt F) (Rect.unit (s := S1) ![0] S1.size inb_S1_S1_0).toLoadRect (harg3.unread x0) (Shape.Idx.first (numel1_S1.symm ▸ Nat.one_pos)))) :
    { L14 : List (View.Piece (Elt F) S1x1024x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ f, arg17.view.loc (c : Thread nD τ) ↦[arg17.view.set]{fullShare} arg17.view.writes (Elt F) f L14) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K PUnit.unit))
          ⊢ wp frame (wpE (defs₀ (F := F)) Variants.none c none) E (cc0_mixer i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, fun E K => ?run⟩
  case run =>
    simp only [cc0_mixer_eq_skeleton]; unfold cc0_mixer_skel
    simp only [k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Att

end
-- ==== Proof.AttnAcc.lean ====
/-
  What the body leaves in its output block, as one value of the point's input blocks: a fold over the 32 key tiles, without
  or with a running maximum, and the normed difference of the two quotients.
-/
module

public import proofs.«01_k».proof.Proof.RunFast
public import proofs.«01_k».proof.Proof.RunSlow
public import Idealize.ShloMosaic.Lib.ValueLayout
public import Idealize.ShloMosaic.Lib.VecWindow
public import Idealize.ShloMosaic.Lib.WholeRead

@[expose] public section

set_option maxRecDepth 16384

noncomputable section

namespace Cert.KernelIdeal.Att

open Idealize.ShloMosaic Idealize.ShloMosaic.TcCoe Idealize.ShloMosaic.ValueIdx
open Cert.KernelIdeal.Gen

variable {F : FTy → Type} [FloatOps F] [Named F]

/-- Key tile `j` of the keys. -/
def kblk (x : Vec F S1x16384x128 .bf16) (j : Fin 32) : Vec F S1x512x128 .bf16 :=
  fun y => x (ix3 (0 : Fin 1) ⟨512 * j.val + (y 1).val, by have := (y 1).isLt; have h : (y 1).val < 512 := this; omega⟩ (y 2))

/-- Key tile `j` of the values. -/
def vblk (x : Vec F S1x16384x256 .bf16) (j : Fin 32) : Vec F S1x512x256 .bf16 :=
  fun y => x (ix3 (0 : Fin 1) ⟨512 * j.val + (y 1).val, by have := (y 1).isLt; have h : (y 1).val < 512 := this; omega⟩ (y 2))

/-- Bias tile `n`. -/
def bblk (x : Vec F S1x6x1024x512 .f32) (n : Fin 6) : Vec F S1x1x1024x512 .f32 := fun y => x (ix4 (0 : Fin 1) n (y 2) (y 3))

/-- The bias tile of query block `q` and key tile `j`: their distance in tiles, clipped to the band. -/
def bsel (q j : ℕ) : Fin 6 := ⟨(max (-2) (min 3 ((j : ℤ) - q * 2)) + 2).toNat, by omega⟩

theorem kblk_read {m : Memref sig .tc .vmem S1x16384x128 .bf16} (h : m.IsWhole) (x : Vec F S1x16384x128 .bf16) (j : Fin 32) (off : Fin 3 → ℕ)
    (inb : ∀ a, off a + S1x512x128.size a ≤ S1x16384x128.size a) (ho : off = ![0, 512 * j.val, 0]) :
    View.readAt (Elt F) m.view (Rect.unit (s := S1x16384x128) off S1x512x128.size inb).toLoadRect (h.unread x) = kblk x j := by
  subst ho
  funext y
  refine (h.readAt_unread x _ y).trans (congrArg x ?_)
  funext a
  apply Fin.ext
  match a with
  | ⟨0, _⟩ => have h0 : (y 0).val < 1 := (y 0).isLt; show 0 + 1 * (y 0).val = 0; omega
  | ⟨1, _⟩ => show 512 * j.val + 1 * (y 1).val = 512 * j.val + (y 1).val; omega
  | ⟨2, _⟩ => show 0 + 1 * (y 2).val = (y 2).val; omega

theorem vblk_read {m : Memref sig .tc .vmem S1x16384x256 .bf16} (h : m.IsWhole) (x : Vec F S1x16384x256 .bf16) (j : Fin 32) (off : Fin 3 → ℕ)
    (inb : ∀ a, off a + S1x512x256.size a ≤ S1x16384x256.size a) (ho : off = ![0, 512 * j.val, 0]) :
    View.readAt (Elt F) m.view (Rect.unit (s := S1x16384x256) off S1x512x256.size inb).toLoadRect (h.unread x) = vblk x j := by
  subst ho
  funext y
  refine (h.readAt_unread x _ y).trans (congrArg x ?_)
  funext a
  apply Fin.ext
  match a with
  | ⟨0, _⟩ => have h0 : (y 0).val < 1 := (y 0).isLt; show 0 + 1 * (y 0).val = 0; omega
  | ⟨1, _⟩ => show 512 * j.val + 1 * (y 1).val = 512 * j.val + (y 1).val; omega
  | ⟨2, _⟩ => show 0 + 1 * (y 2).val = (y 2).val; omega

theorem bblk_read {m : Memref sig .tc .vmem S1x6x1024x512 .f32} (h : m.IsWhole) (x : Vec F S1x6x1024x512 .f32) (n : Fin 6) (off : Fin 4 → ℕ)
    (inb : ∀ a, off a + S1x1x1024x512.size a ≤ S1x6x1024x512.size a) (ho : off = ![0, n.val, 0, 0]) :
    View.readAt (Elt F) m.view (Rect.unit (s := S1x6x1024x512) off S1x1x1024x512.size inb).toLoadRect (h.unread x) = bblk x n := by
  subst ho
  funext y
  refine (h.readAt_unread x _ y).trans (congrArg x ?_)
  funext a
  apply Fin.ext
  match a with
  | ⟨0, _⟩ => have h0 : (y 0).val < 1 := (y 0).isLt; show 0 + 1 * (y 0).val = 0; omega
  | ⟨1, _⟩ => have h0 : (y 1).val < 1 := (y 1).isLt; show n.val + 1 * (y 1).val = n.val; omega
  | ⟨2, _⟩ => show 0 + 1 * (y 2).val = (y 2).val; omega
  | ⟨3, _⟩ => show 0 + 1 * (y 3).val = (y 3).val; omega

theorem off1_eq (i : grid0.Coords) (r : Fin 8) : k0_off1 i (BitVec.ofNat 32 r.val) = ![0, (bsel (i 2).val r.val).val, 0, 0] := by
  unfold k0_off1; dsimp only; generalize i 2 = q; revert q r; decide +kernel

theorem off2_eq (k : Fin k0_t1_loop.trips) (r : Fin 8) : k0_off2 k (BitVec.ofNat 32 r.val) = ![0, 512 * (8 * (k.val + 1) + r.val), 0] := by
  revert k r; decide +kernel

theorem off3_eq (i : grid0.Coords) (k : Fin k0_t1_loop.trips) (r : Fin 8) :
    k0_off3 i k (BitVec.ofNat 32 r.val) = ![0, (bsel (i 2).val (8 * (k.val + 1) + r.val)).val, 0, 0] := by
  unfold k0_off3; dsimp only; generalize i 2 = q; revert q k r; decide +kernel

theorem off4_eq (k : Fin k0_t1_loop.trips) (r : Fin 8) : k0_off4 k (BitVec.ofNat 32 r.val) = ![0, 512 * (8 * (k.val + 1) + r.val), 0] := by
  revert k r; decide +kernel

theorem off9_eq (k : Fin k0_t3_loop.trips) : k0_off9 k = ![0, 512 * k.val, 0] := by revert k; decide +kernel

theorem off10_eq (i : grid0.Coords) (k : Fin k0_t3_loop.trips) : k0_off10 i k = ![0, (bsel (i 2).val k.val).val, 0, 0] := by
  unfold k0_off10; dsimp only; generalize i 2 = q; revert q k; decide +kernel

theorem off11_eq (k : Fin k0_t3_loop.trips) : k0_off11 k = ![0, 512 * k.val, 0] := by revert k; decide +kernel

section Acc
variable (i : grid0.Coords) (x2 : Vec F S1x1024x128 .bf16) (x3 : Vec F S1x16384x128 .bf16) (x4 : Vec F S1x16384x256 .bf16) (x5 : Vec F S1x6x1024x512 .f32)

/-- The accumulator after tile `j` in place of `a`, without a running maximum. -/
def tileF (j : Fin 32) (a : Vec F S2048x256 .f32) : Vec F S2048x256 .f32 :=
  k0_pay2 (k0_pay199 x2) (kblk x3 j) (bblk x5 (bsel (i 2).val j.val)) (vblk x4 j) a

/-- The accumulator after tiles `0 … n`. -/
def accF : ℕ → Vec F S2048x256 .f32
  | 0 => k0_pay66 (k0_pay199 x2) (kblk x3 0) (bblk x5 (bsel (i 2).val 0)) (vblk x4 0)
  | n + 1 => if h : n + 1 < 32 then tileF i x2 x3 x4 x5 ⟨n + 1, h⟩ (accF n) else accF n

/-- The running maximum and the accumulator after `n` tiles. -/
def accS : ℕ → Vec F S2048x1 .f32 × Vec F S2048x256 .f32
  | 0 => (k0_pay204, k0_pay205)
  | n + 1 => if h : n < 32 then
      (k0_pay210 (k0_pay191 (k0_pay199 x2) (kblk x3 ⟨n, h⟩) (bblk x5 (bsel (i 2).val n)) (accS n).1),
        k0_pay209 (k0_pay192 (k0_pay199 x2) (kblk x3 ⟨n, h⟩) (bblk x5 (bsel (i 2).val n)) (accS n).1)
          (k0_pay193 (k0_pay199 x2) (kblk x3 ⟨n, h⟩) (bblk x5 (bsel (i 2).val n)) (accS n).1 (accS n).2) (k0_pay194 (vblk x4 ⟨n, h⟩)))
    else accS n
end Acc

/-- The word of the branch. -/
abbrev word (x0 : Vec F S1 .i32) : BitVec 32 := x0 (ix1 (0 : Fin 1))

/-- The accumulator the output is taken from. -/
def accO (i : grid0.Coords) (x0 : Vec F S1 .i32) (x2 : Vec F S1x1024x128 .bf16) (x3 : Vec F S1x16384x128 .bf16) (x4 : Vec F S1x16384x256 .bf16)
    (x5 : Vec F S1x6x1024x512 .f32) : Vec F S2048x256 .f32 :=
  if x0 (ix1 (0 : Fin 1)) = 1#32 then accF i x2 x3 x4 x5 31 else (accS i x2 x3 x4 x5 32).2

/-- The output block from an accumulator, the difference's weight and the norm's weights. -/
def outOf (a : Vec F S2048x256 .f32) (x1 : Vec F S1 .f32) (x6 : Vec F S1x128 .f32) : Vec F S1x1024x128 .bf16 :=
  k0_pay1 a (k0_pay211 a) (k0_pay212 a) (x1 (ix1 (0 : Fin 1))) x6

section Runs
variable (c : Dev nD) (i : grid0.Coords)
    (arg3 : Memref sig .tc .smem S1 .i32) (harg3 : arg3.IsWhole)
    (arg4 : Memref sig .tc .smem S1 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x256 .bf16) (harg7 : arg7.IsWhole)
    (arg8 : Memref sig .tc .vmem S1x6x1024x512 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S1x1024x128 .f32) (harg11 : arg11.IsWhole)
    (arg12 : Memref sig .tc .vmem S1x1024x128 .bf16) (harg12 : arg12.IsWhole)
    (arg13 : Memref sig .tc .vmem S1x1024x128 .bf16) (harg13 : arg13.IsWhole)
    (arg14 : Memref sig .tc .vmem S1x1024x128 .f32) (harg14 : arg14.IsWhole)
    (arg15 : Memref sig .tc .vmem S1x1024x128 .bf16) (harg15 : arg15.IsWhole)
    (arg16 : Memref sig .tc .vmem S2x128 .f32) (harg16 : arg16.IsWhole)
    (arg17 : Memref sig .tc .vmem S1x1024x128 .bf16) (harg17 : arg17.IsWhole)
    (arg18 : Memref sig .tc .vmem S1x1024x128 .f32) (harg18 : arg18.IsWhole)
    (arg19 : Memref sig .tc .vmem S1x1024x128 .f32) (harg19 : arg19.IsWhole)
    (arg20 : Memref sig .tc .vmem S2048x1 .f32) (harg20 : arg20.IsWhole)
    (arg21 : Memref sig .tc .vmem S2048x256 .f32) (harg21 : arg21.IsWhole)
    (arg22 : Memref sig .tc .vmem S128x128 .f32) (harg22 : arg22.IsWhole)
    (arg23 : Memref sig .tc .vmem S128x128 .f32) (harg23 : arg23.IsWhole)
    (x2 : Vec F S1x1024x128 .bf16) (x3 : Vec F S1x16384x128 .bf16) (x4 : Vec F S1x16384x256 .bf16) (x5 : Vec F S1x6x1024x512 .f32)

/-- A load of the whole block reads it. -/
theorem whole_read {s : Shape} {e : EltTy} {sp : Space} {m : Memref sig .tc sp s e} (h : m.IsWhole) (x : s.Idx → Elt F e) (off : Fin s.rank → ℕ)
    (inb : ∀ a, off a + s.size a ≤ s.size a) : View.readAt (Elt F) m.view (Rect.unit (s := s) off s.size inb).toLoadRect (h.unread x) = x := by
  rw [View.readAt_full]; exact h.read_unread x

include harg6 harg7 harg8 in
theorem group_eq (k : Fin k0_t1_loop.trips) (a : Vec F S2048x256 .f32) (ha : a = accF i x2 x3 x4 x5 (8 * (k.val + 1) - 1)) :
    group i arg6 arg7 arg8 x2 (harg6.unread x3) (harg7.unread x4) (harg8.unread x5) k a = accF i x2 x3 x4 x5 (8 * (k.val + 2) - 1) := by
  have hk : k.val < 3 := k.isLt
  have ht (r : Fin 8) (b : Vec F S2048x256 .f32) : tile1 i arg6 arg7 arg8 x2 (harg6.unread x3) (harg7.unread x4) (harg8.unread x5) k r b
      = tileF i x2 x3 x4 x5 ⟨8 * (k.val + 1) + r.val, by omega⟩ b := by
    unfold tile1 tileF
    rw [kblk_read harg6 x3 ⟨8 * (k.val + 1) + r.val, by omega⟩ _ _ (off2_eq k r), vblk_read harg7 x4 ⟨8 * (k.val + 1) + r.val, by omega⟩ _ _ (off4_eq k r),
      bblk_read harg8 x5 _ _ _ (off3_eq i k r)]
  have hs (r : Fin 8) : tileF i x2 x3 x4 x5 ⟨8 * (k.val + 1) + r.val, by omega⟩ (accF i x2 x3 x4 x5 (8 * (k.val + 1) + r.val - 1)) = accF i x2 x3 x4 x5 (8 * (k.val + 1) + r.val) := by
    obtain ⟨n, hn⟩ : ∃ n, 8 * (k.val + 1) + r.val = n + 1 := ⟨8 * k.val + 7 + r.val, by omega⟩
    have hn32 : n + 1 < 32 := by omega
    simp only [hn, Nat.add_sub_cancel]
    rw [accF, dif_pos hn32]
  unfold group
  rw [show List.finRange 8 = [0, 1, 2, 3, 4, 5, 6, 7] from rfl]
  simp only [List.foldl_cons, List.foldl_nil, ht]
  subst ha
  have h0 := hs 0; have h1 := hs 1; have h2 := hs 2; have h3 := hs 3; have h4 := hs 4; have h5 := hs 5; have h6 := hs 6; have h7 := hs 7
  simp only [Fin.val_zero, Nat.add_zero, show ((1 : Fin 8) : ℕ) = 1 from rfl, show ((2 : Fin 8) : ℕ) = 2 from rfl, show ((3 : Fin 8) : ℕ) = 3 from rfl, show ((4 : Fin 8) : ℕ) = 4 from rfl,
    show ((5 : Fin 8) : ℕ) = 5 from rfl, show ((6 : Fin 8) : ℕ) = 6 from rfl, show ((7 : Fin 8) : ℕ) = 7 from rfl, Nat.add_succ_sub_one] at h0 h1 h2 h3 h4 h5 h6 h7 ⊢
  rw [h0, h1, h2, h3, h4, h5, h6, h7, show 8 * (k.val + 2) - 1 = 8 * (k.val + 1) + 7 by omega]

include harg6 harg7 harg8 in
/-- After `k` groups over an accumulator the first group left. -/
theorem pieces1_read (G : BufTy.Contents (Elt F) arg21.view.ty) (L : List (View.Piece (Elt F) S2048x256 .f32)) (hG : View.readAt (Elt F) arg21.view wholeAcc.toLoadRect G = accF i x2 x3 x4 x5 7)
    (k : ℕ) (hk : k ≤ 3) :
    View.readAt (Elt F) arg21.view wholeAcc.toLoadRect (arg21.view.writes (Elt F) G (pieces1 i arg6 arg7 arg8 arg21 x2 (harg6.unread x3) (harg7.unread x4) (harg8.unread x5) G k))
      = accF i x2 x3 x4 x5 (8 * (k + 1) - 1) := by
  induction k with
  | zero => exact hG
  | succ k ih =>
    have hk' : k < k0_t1_loop.trips := hk
    rw [pieces1.eq_2, dif_pos hk']
    rw [View.readAt_writes_full]
    exact group_eq i arg6 harg6 arg7 harg7 arg8 harg8 x2 x3 x4 x5 ⟨k, hk'⟩ _ (ih (by omega))

include harg6 harg7 harg8 in
set_option maxHeartbeats 2000000 in
theorem runF0_v30 : runF0.sl.v30 c i arg5 harg5 arg6 harg6 arg7 harg7 arg8 harg8 arg21 x2 x3 x4 x5 = accF i x2 x3 x4 x5 31 := by
  have hq : View.readAt (Elt F) arg5.view (Rect.unit ![0, 0, 0] S1x1024x128.size inb_S1x1024x128_S1x1024x128_0_0_0).toLoadRect (harg5.unread x2) = x2 := whole_read harg5 x2 _ _
  have k0 := kblk_read (F := F) harg6 x3 0 ![0, 0, 0] inb_S1x16384x128_S1x512x128_0_0_0 rfl
  have v0 := vblk_read (F := F) harg7 x4 0 ![0, 0, 0] inb_S1x16384x256_S1x512x256_0_0_0 rfl
  have b0 := bblk_read (F := F) harg8 x5 (bsel (i 2).val 0) (k0_off1 i 0#32) (k0_off1_inb i 0) (off1_eq i 0)
  have k1 := kblk_read (F := F) harg6 x3 1 ![0, 512, 0] inb_S1x16384x128_S1x512x128_0_512_0 rfl
  have v1 := vblk_read (F := F) harg7 x4 1 ![0, 512, 0] inb_S1x16384x256_S1x512x256_0_512_0 rfl
  have b1 := bblk_read (F := F) harg8 x5 (bsel (i 2).val 1) (k0_off1 i 1#32) (k0_off1_inb i 1) (off1_eq i 1)
  have k2 := kblk_read (F := F) harg6 x3 2 ![0, 1024, 0] inb_S1x16384x128_S1x512x128_0_1024_0 rfl
  have v2 := vblk_read (F := F) harg7 x4 2 ![0, 1024, 0] inb_S1x16384x256_S1x512x256_0_1024_0 rfl
  have b2 := bblk_read (F := F) harg8 x5 (bsel (i 2).val 2) (k0_off1 i 2#32) (k0_off1_inb i 2) (off1_eq i 2)
  have k3 := kblk_read (F := F) harg6 x3 3 ![0, 1536, 0] inb_S1x16384x128_S1x512x128_0_1536_0 rfl
  have v3 := vblk_read (F := F) harg7 x4 3 ![0, 1536, 0] inb_S1x16384x256_S1x512x256_0_1536_0 rfl
  have b3 := bblk_read (F := F) harg8 x5 (bsel (i 2).val 3) (k0_off1 i 3#32) (k0_off1_inb i 3) (off1_eq i 3)
  have k4 := kblk_read (F := F) harg6 x3 4 ![0, 2048, 0] inb_S1x16384x128_S1x512x128_0_2048_0 rfl
  have v4 := vblk_read (F := F) harg7 x4 4 ![0, 2048, 0] inb_S1x16384x256_S1x512x256_0_2048_0 rfl
  have b4 := bblk_read (F := F) harg8 x5 (bsel (i 2).val 4) (k0_off1 i 4#32) (k0_off1_inb i 4) (off1_eq i 4)
  have k5 := kblk_read (F := F) harg6 x3 5 ![0, 2560, 0] inb_S1x16384x128_S1x512x128_0_2560_0 rfl
  have v5 := vblk_read (F := F) harg7 x4 5 ![0, 2560, 0] inb_S1x16384x256_S1x512x256_0_2560_0 rfl
  have b5 := bblk_read (F := F) harg8 x5 (bsel (i 2).val 5) (k0_off1 i 5#32) (k0_off1_inb i 5) (off1_eq i 5)
  have k6 := kblk_read (F := F) harg6 x3 6 ![0, 3072, 0] inb_S1x16384x128_S1x512x128_0_3072_0 rfl
  have v6 := vblk_read (F := F) harg7 x4 6 ![0, 3072, 0] inb_S1x16384x256_S1x512x256_0_3072_0 rfl
  have b6 := bblk_read (F := F) harg8 x5 (bsel (i 2).val 6) (k0_off1 i 6#32) (k0_off1_inb i 6) (off1_eq i 6)
  have k7 := kblk_read (F := F) harg6 x3 7 ![0, 3584, 0] inb_S1x16384x128_S1x512x128_0_3584_0 rfl
  have v7 := vblk_read (F := F) harg7 x4 7 ![0, 3584, 0] inb_S1x16384x256_S1x512x256_0_3584_0 rfl
  have b7 := bblk_read (F := F) harg8 x5 (bsel (i 2).val 7) (k0_off1 i 7#32) (k0_off1_inb i 7) (off1_eq i 7)
  have s0 : runF0.sl.v118 c i arg5 harg5 arg6 harg6 arg7 harg7 arg8 harg8 arg21 x2 x3 x4 x5 = accF i x2 x3 x4 x5 0 := by
    unfold runF0.sl.v118 runF0.sl.H18_1; rw [View.readCov_full, hq, k0, v0, b0]; rfl
  have s1 : runF0.sl.v150 c i arg5 harg5 arg6 harg6 arg7 harg7 arg8 harg8 arg21 x2 x3 x4 x5 = accF i x2 x3 x4 x5 1 := by
    unfold runF0.sl.v150 runF0.sl.H18_2; rw [View.readCov_full, hq, k1, v1, b1, s0]; rfl
  have s2 : runF0.sl.v182 c i arg5 harg5 arg6 harg6 arg7 harg7 arg8 harg8 arg21 x2 x3 x4 x5 = accF i x2 x3 x4 x5 2 := by
    unfold runF0.sl.v182 runF0.sl.H18_3 runF0.sl.r_1; rw [View.readCov_full, hq, k2, v2, b2, s1]; rfl
  have s3 : runF0.sl.v214 c i arg5 harg5 arg6 harg6 arg7 harg7 arg8 harg8 arg21 x2 x3 x4 x5 = accF i x2 x3 x4 x5 3 := by
    unfold runF0.sl.v214 runF0.sl.H18_4 runF0.sl.r_2; rw [View.readCov_full, hq, k3, v3, b3, s2]; rfl
  have s4 : runF0.sl.v246 c i arg5 harg5 arg6 harg6 arg7 harg7 arg8 harg8 arg21 x2 x3 x4 x5 = accF i x2 x3 x4 x5 4 := by
    unfold runF0.sl.v246 runF0.sl.H18_5 runF0.sl.r_3 runF0.sl.r_4; rw [View.readCov_full, hq, k4, v4, b4, s3]; rfl
  have s5 : runF0.sl.v278 c i arg5 harg5 arg6 harg6 arg7 harg7 arg8 harg8 arg21 x2 x3 x4 x5 = accF i x2 x3 x4 x5 5 := by
    unfold runF0.sl.v278 runF0.sl.H18_6 runF0.sl.r_5; rw [View.readCov_full, hq, k5, v5, b5, s4]; rfl
  have s6 : runF0.sl.v310 c i arg5 harg5 arg6 harg6 arg7 harg7 arg8 harg8 arg21 x2 x3 x4 x5 = accF i x2 x3 x4 x5 6 := by
    unfold runF0.sl.v310 runF0.sl.H18_7 runF0.sl.r_6; rw [View.readCov_full, hq, k6, v6, b6, s5]; rfl
  have s7 : runF0.sl.v314 c i arg5 harg5 arg6 harg6 arg7 harg7 arg8 harg8 arg21 x2 x3 x4 x5 = accF i x2 x3 x4 x5 7 := by
    unfold runF0.sl.v314 runF0.sl.v311 runF0.sl.r_7; rw [hq, k7, v7, b7, s6]; rfl
  unfold runF0.sl.v30
  rw [View.readCov, View.writes_append, hq]
  refine pieces1_read i arg6 harg6 arg7 harg7 arg8 harg8 arg21 x2 x3 x4 x5 _ [] ?_ 3 le_rfl
  unfold runF0.sl.H18_8
  rw [View.readAt_writes_full, s7]

include harg6 harg7 harg8 in
set_option maxHeartbeats 2000000 in
theorem runF1_v30 : runF1.sl.v30 c i arg5 harg5 arg6 harg6 arg7 harg7 arg8 harg8 arg21 x2 x3 x4 x5 = accF i x2 x3 x4 x5 31 := by
  have hq : View.readAt (Elt F) arg5.view (Rect.unit ![0, 0, 0] S1x1024x128.size inb_S1x1024x128_S1x1024x128_0_0_0).toLoadRect (harg5.unread x2) = x2 := whole_read harg5 x2 _ _
  have k0 := kblk_read (F := F) harg6 x3 0 ![0, 0, 0] inb_S1x16384x128_S1x512x128_0_0_0 rfl
  have v0 := vblk_read (F := F) harg7 x4 0 ![0, 0, 0] inb_S1x16384x256_S1x512x256_0_0_0 rfl
  have b0 := bblk_read (F := F) harg8 x5 (bsel (i 2).val 0) (k0_off1 i 0#32) (k0_off1_inb i 0) (off1_eq i 0)
  have k1 := kblk_read (F := F) harg6 x3 1 ![0, 512, 0] inb_S1x16384x128_S1x512x128_0_512_0 rfl
  have v1 := vblk_read (F := F) harg7 x4 1 ![0, 512, 0] inb_S1x16384x256_S1x512x256_0_512_0 rfl
  have b1 := bblk_read (F := F) harg8 x5 (bsel (i 2).val 1) (k0_off1 i 1#32) (k0_off1_inb i 1) (off1_eq i 1)
  have k2 := kblk_read (F := F) harg6 x3 2 ![0, 1024, 0] inb_S1x16384x128_S1x512x128_0_1024_0 rfl
  have v2 := vblk_read (F := F) harg7 x4 2 ![0, 1024, 0] inb_S1x16384x256_S1x512x256_0_1024_0 rfl
  have b2 := bblk_read (F := F) harg8 x5 (bsel (i 2).val 2) (k0_off1 i 2#32) (k0_off1_inb i 2) (off1_eq i 2)
  have k3 := kblk_read (F := F) harg6 x3 3 ![0, 1536, 0] inb_S1x16384x128_S1x512x128_0_1536_0 rfl
  have v3 := vblk_read (F := F) harg7 x4 3 ![0, 1536, 0] inb_S1x16384x256_S1x512x256_0_1536_0 rfl
  have b3 := bblk_read (F := F) harg8 x5 (bsel (i 2).val 3) (k0_off1 i 3#32) (k0_off1_inb i 3) (off1_eq i 3)
  have k4 := kblk_read (F := F) harg6 x3 4 ![0, 2048, 0] inb_S1x16384x128_S1x512x128_0_2048_0 rfl
  have v4 := vblk_read (F := F) harg7 x4 4 ![0, 2048, 0] inb_S1x16384x256_S1x512x256_0_2048_0 rfl
  have b4 := bblk_read (F := F) harg8 x5 (bsel (i 2).val 4) (k0_off1 i 4#32) (k0_off1_inb i 4) (off1_eq i 4)
  have k5 := kblk_read (F := F) harg6 x3 5 ![0, 2560, 0] inb_S1x16384x128_S1x512x128_0_2560_0 rfl
  have v5 := vblk_read (F := F) harg7 x4 5 ![0, 2560, 0] inb_S1x16384x256_S1x512x256_0_2560_0 rfl
  have b5 := bblk_read (F := F) harg8 x5 (bsel (i 2).val 5) (k0_off1 i 5#32) (k0_off1_inb i 5) (off1_eq i 5)
  have k6 := kblk_read (F := F) harg6 x3 6 ![0, 3072, 0] inb_S1x16384x128_S1x512x128_0_3072_0 rfl
  have v6 := vblk_read (F := F) harg7 x4 6 ![0, 3072, 0] inb_S1x16384x256_S1x512x256_0_3072_0 rfl
  have b6 := bblk_read (F := F) harg8 x5 (bsel (i 2).val 6) (k0_off1 i 6#32) (k0_off1_inb i 6) (off1_eq i 6)
  have k7 := kblk_read (F := F) harg6 x3 7 ![0, 3584, 0] inb_S1x16384x128_S1x512x128_0_3584_0 rfl
  have v7 := vblk_read (F := F) harg7 x4 7 ![0, 3584, 0] inb_S1x16384x256_S1x512x256_0_3584_0 rfl
  have b7 := bblk_read (F := F) harg8 x5 (bsel (i 2).val 7) (k0_off1 i 7#32) (k0_off1_inb i 7) (off1_eq i 7)
  have s0 : runF1.sl.v118 c i arg5 harg5 arg6 harg6 arg7 harg7 arg8 harg8 arg21 x2 x3 x4 x5 = accF i x2 x3 x4 x5 0 := by
    unfold runF1.sl.v118 runF1.sl.H18_1; rw [View.readCov_full, hq, k0, v0, b0]; rfl
  have s1 : runF1.sl.v150 c i arg5 harg5 arg6 harg6 arg7 harg7 arg8 harg8 arg21 x2 x3 x4 x5 = accF i x2 x3 x4 x5 1 := by
    unfold runF1.sl.v150 runF1.sl.H18_2; rw [View.readCov_full, hq, k1, v1, b1, s0]; rfl
  have s2 : runF1.sl.v182 c i arg5 harg5 arg6 harg6 arg7 harg7 arg8 harg8 arg21 x2 x3 x4 x5 = accF i x2 x3 x4 x5 2 := by
    unfold runF1.sl.v182 runF1.sl.H18_3 runF1.sl.r_1; rw [View.readCov_full, hq, k2, v2, b2, s1]; rfl
  have s3 : runF1.sl.v214 c i arg5 harg5 arg6 harg6 arg7 harg7 arg8 harg8 arg21 x2 x3 x4 x5 = accF i x2 x3 x4 x5 3 := by
    unfold runF1.sl.v214 runF1.sl.H18_4 runF1.sl.r_2; rw [View.readCov_full, hq, k3, v3, b3, s2]; rfl
  have s4 : runF1.sl.v246 c i arg5 harg5 arg6 harg6 arg7 harg7 arg8 harg8 arg21 x2 x3 x4 x5 = accF i x2 x3 x4 x5 4 := by
    unfold runF1.sl.v246 runF1.sl.H18_5 runF1.sl.r_3 runF1.sl.r_4; rw [View.readCov_full, hq, k4, v4, b4, s3]; rfl
  have s5 : runF1.sl.v278 c i arg5 harg5 arg6 harg6 arg7 harg7 arg8 harg8 arg21 x2 x3 x4 x5 = accF i x2 x3 x4 x5 5 := by
    unfold runF1.sl.v278 runF1.sl.H18_6 runF1.sl.r_5; rw [View.readCov_full, hq, k5, v5, b5, s4]; rfl
  have s6 : runF1.sl.v310 c i arg5 harg5 arg6 harg6 arg7 harg7 arg8 harg8 arg21 x2 x3 x4 x5 = accF i x2 x3 x4 x5 6 := by
    unfold runF1.sl.v310 runF1.sl.H18_7 runF1.sl.r_6; rw [View.readCov_full, hq, k6, v6, b6, s5]; rfl
  have s7 : runF1.sl.v314 c i arg5 harg5 arg6 harg6 arg7 harg7 arg8 harg8 arg21 x2 x3 x4 x5 = accF i x2 x3 x4 x5 7 := by
    unfold runF1.sl.v314 runF1.sl.v311 runF1.sl.r_7; rw [hq, k7, v7, b7, s6]; rfl
  unfold runF1.sl.v30
  rw [View.readCov, View.writes_append, hq]
  refine pieces1_read i arg6 harg6 arg7 harg7 arg8 harg8 arg21 x2 x3 x4 x5 _ [] ?_ 3 le_rfl
  unfold runF1.sl.H18_8
  rw [View.readAt_writes_full, s7]

include harg6 harg7 harg8 in
set_option maxHeartbeats 2000000 in
/-- After `k` tiles of the branch with a running maximum. -/
theorem pb3_read (v : BitVec 32) (G20 : BufTy.Contents (Elt F) arg20.view.ty) (G21 : BufTy.Contents (Elt F) arg21.view.ty)
    (h20 : View.readAt (Elt F) arg20.view (Rect.unit (s := S2048x1) ![0, 0] S2048x1.size inb_S2048x1_S2048x1_0_0).toLoadRect G20 = k0_pay204)
    (h21 : View.readAt (Elt F) arg21.view wholeAcc.toLoadRect G21 = k0_pay205) (k : ℕ) (hk : k ≤ 32) :
    View.readAt (Elt F) arg20.view (Rect.unit (s := S2048x1) ![0, 0] S2048x1.size inb_S2048x1_S2048x1_0_0).toLoadRect (arg20.view.writes (Elt F) G20 (pb_k0_t3 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v x2 (harg6.unread x3) (harg7.unread x4) (harg8.unread x5) G20 G21 k).1)
        = (accS i x2 x3 x4 x5 k).1
      ∧ View.readAt (Elt F) arg21.view wholeAcc.toLoadRect (arg21.view.writes (Elt F) G21 (pb_k0_t3 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v x2 (harg6.unread x3) (harg7.unread x4) (harg8.unread x5) G20 G21 k).2)
        = (accS i x2 x3 x4 x5 k).2 := by
  induction k with
  | zero => exact ⟨h20, h21⟩
  | succ k ih =>
    obtain ⟨i1, i2⟩ := ih (by omega)
    have hk' : k < k0_t3_loop.trips := hk
    have e := pb_k0_t3_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v x2 (harg6.unread x3) (harg7.unread x4) (harg8.unread x5) G20 G21 ⟨k, hk'⟩
    have ek := kblk_read (F := F) harg6 x3 ⟨k, hk⟩ _ (k0_off9_inb ⟨k, hk'⟩) (off9_eq ⟨k, hk'⟩)
    have ev := vblk_read (F := F) harg7 x4 ⟨k, hk⟩ _ (k0_off11_inb ⟨k, hk'⟩) (off11_eq ⟨k, hk'⟩)
    have eb := bblk_read (F := F) harg8 x5 _ _ (k0_off10_inb i ⟨k, hk'⟩) (off10_eq i ⟨k, hk'⟩)
    rw [show k + 1 = (⟨k, hk'⟩ : Fin k0_t3_loop.trips).val + 1 from rfl, e]
    dsimp only [tripL_k0_t3]
    unfold trip_k0_t3
    dsimp only [List.cons_append, List.nil_append]
    rw [View.readAt_writes_full, View.readAt_writes_full, accS, dif_pos (show k < 32 from hk)]
    unfold trip_k0_t3.sl.r trip_k0_t3.sl.r_1 trip_k0_t3.sl.r_2 trip_k0_t3.sl.r_3
    rw [ek, ev, eb, i1, i2]
    exact ⟨rfl, rfl⟩

include harg6 harg7 harg8 in
theorem runS0_v30 : runS0.sl.v30 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 = (accS i x2 x3 x4 x5 32).2 := by
  have hq : View.readAt (Elt F) arg5.view (Rect.unit ![0, 0, 0] S1x1024x128.size inb_S1x1024x128_S1x1024x128_0_0_0).toLoadRect (harg5.unread x2) = x2 := whole_read harg5 x2 _ _
  unfold runS0.sl.v30
  rw [View.readCov, View.writes_append, hq]
  refine (pb3_read c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 _ _ _ ?_ ?_ 32 le_rfl).2
  · unfold runS0.sl.H17_1; rw [View.readAt_writes_full]
  · unfold runS0.sl.H18_1; rw [View.readAt_writes_full]

include harg6 harg7 harg8 in
theorem runS1_v30 : runS1.sl.v30 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 = (accS i x2 x3 x4 x5 32).2 := by
  have hq : View.readAt (Elt F) arg5.view (Rect.unit ![0, 0, 0] S1x1024x128.size inb_S1x1024x128_S1x1024x128_0_0_0).toLoadRect (harg5.unread x2) = x2 := whole_read harg5 x2 _ _
  unfold runS1.sl.v30
  rw [View.readCov, View.writes_append, hq]
  refine (pb3_read c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 _ _ _ ?_ ?_ 32 le_rfl).2
  · unfold runS1.sl.H17_1; rw [View.readAt_writes_full]
  · unfold runS1.sl.H18_1; rw [View.readAt_writes_full]

end Runs

end Cert.KernelIdeal.Att

end
-- ==== Proof.Body.lean ====
module

public import proofs.«01_k».proof.Proof.RunFast
public import proofs.«01_k».proof.Proof.RunSlow
public import proofs.«01_k».proof.Proof.AttnAcc

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The resource algebra of the launch. -/
local notation "𝕄" => MT nD τ sig Unit (Elt F) ℕ (UR sig nD τ) ℕ

theorem isFast_iff (w : BitVec 32) : isFast w ↔ w = 1#32 := by
  unfold isFast
  by_cases h : w = 1#32
  · subst h; decide
  · have hb : (w == 1#32) = false := beq_false_of_ne h
    simp [Scalar.cmpi, IntOp.cmpi, h, hb, Scalar.extui]

theorem isSlow_iff (w : BitVec 32) : isSlow w ↔ w ≠ 1#32 := by
  unfold isSlow
  by_cases h : w = 1#32
  · subst h; decide
  · have hb : (w == 1#32) = false := beq_false_of_ne h
    simp [Scalar.cmpi, IntOp.cmpi, h, hb, Scalar.extui, bne]

/-- A one-element block at its first index. -/
theorem first_read {e : EltTy} {sp : Space} {m : Memref sig .tc sp S1 e} (h : m.IsWhole) (x : S1.Idx → Elt F e) (hp : 0 < S1.numel) :
    View.readAt (Elt F) m.view (Rect.unit (s := S1) ![0] S1.size inb_S1_S1_0).toLoadRect (h.unread x) (Shape.Idx.first hp) = x (ValueIdx.ix1 (0 : Fin 1)) := by
  rw [whole_read h x]
  refine congrArg x (funext fun a => Fin.ext ?_)
  match a with
  | ⟨0, ha⟩ => exact Nat.lt_one_iff.mp (Shape.Idx.first hp ⟨0, ha⟩).isLt

theorem runF0_out (c : Dev nD) (i : grid0.Coords)
    (arg3 : Memref sig .tc .smem S1 .i32) (harg3 : arg3.IsWhole)
    (arg4 : Memref sig .tc .smem S1 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x256 .bf16) (harg7 : arg7.IsWhole)
    (arg8 : Memref sig .tc .vmem S1x6x1024x512 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S1x1024x128 .f32) (harg11 : arg11.IsWhole)
    (arg12 : Memref sig .tc .vmem S1x1024x128 .bf16) (harg12 : arg12.IsWhole)
    (arg13 : Memref sig .tc .vmem S1x1024x128 .bf16) (harg13 : arg13.IsWhole)
    (arg14 : Memref sig .tc .vmem S1x1024x128 .f32) (harg14 : arg14.IsWhole)
    (arg15 : Memref sig .tc .vmem S1x1024x128 .bf16) (harg15 : arg15.IsWhole)
    (arg16 : Memref sig .tc .vmem S2x128 .f32) (harg16 : arg16.IsWhole)
    (arg17 : Memref sig .tc .vmem S1x1024x128 .bf16) (harg17 : arg17.IsWhole)
    (arg18 : Memref sig .tc .vmem S1x1024x128 .f32) (harg18 : arg18.IsWhole)
    (arg19 : Memref sig .tc .vmem S1x1024x128 .f32) (harg19 : arg19.IsWhole)
    (arg20 : Memref sig .tc .vmem S2048x1 .f32) (harg20 : arg20.IsWhole)
    (arg21 : Memref sig .tc .vmem S2048x256 .f32) (harg21 : arg21.IsWhole)
    (arg22 : Memref sig .tc .vmem S128x128 .f32) (harg22 : arg22.IsWhole)
    (arg23 : Memref sig .tc .vmem S128x128 .f32) (harg23 : arg23.IsWhole)
    (h0 : atFirst i) (x0 : Vec F S1 .i32) (x1 : Vec F S1 .f32) (x2 : Vec F S1x1024x128 .bf16) (x3 : Vec F S1x16384x128 .bf16) (x4 : Vec F S1x16384x256 .bf16) (x5 : Vec F S1x6x1024x512 .f32) (x6 : Vec F S1x128 .f32) (x7 : Vec F S1x1024x128 .bf16) (x8 : Vec F S1x1024x128 .f32) (x9 : Vec F S1x1024x128 .bf16) (x10 : Vec F S1x1024x128 .bf16) (x11 : Vec F S1x1024x128 .f32) (x12 : Vec F S1x1024x128 .bf16) (x13 : Vec F S2x128 .f32)
    (h1 : isFast (arg3.view.readAt (Elt F) (Rect.unit (s := S1) ![0] S1.size inb_S1_S1_0).toLoadRect (harg3.unread x0) (Shape.Idx.first (numel1_S1.symm ▸ Nat.one_pos))))
    (h2 : ¬ isSlow (arg3.view.readAt (Elt F) (Rect.unit (s := S1) ![0] S1.size inb_S1_S1_0).toLoadRect (harg3.unread x0) (Shape.Idx.first (numel1_S1.symm ▸ Nat.one_pos)))) (f : BufTy.Contents (Elt F) arg17.view.ty) :
    arg17.view.read (Elt F) (arg17.view.writes (Elt F) f (runF0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2).1) = outOf (accO i x0 x2 x3 x4 x5) x1 x6 := by
  have ea : accO i x0 x2 x3 x4 x5 = runF0.sl.v30 c i arg5 harg5 arg6 harg6 arg7 harg7 arg8 harg8 arg21 x2 x3 x4 x5 := by
    have h := h1
    rw [first_read] at h
    rw [runF0_v30, accO, if_pos ((isFast_iff _).mp h)]
  unfold runF0; dsimp only
  rw [View.read_writes_full, ea]
  unfold runF0.sl.r_10 runF0.sl.r_11 runF0.sl.r_12 outOf
  generalize runF0.sl.v30 c i arg5 harg5 arg6 harg6 arg7 harg7 arg8 harg8 arg21 x2 x3 x4 x5 = a
  exact congrArg₂ (fun z w => k0_pay1 a (k0_pay211 a) (k0_pay212 a) z w) (first_read harg4 x1 _) (whole_read harg9 x6 ![0, 0] inb_S1x128_S1x128_0_0)

theorem runF1_out (c : Dev nD) (i : grid0.Coords)
    (arg3 : Memref sig .tc .smem S1 .i32) (harg3 : arg3.IsWhole)
    (arg4 : Memref sig .tc .smem S1 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x256 .bf16) (harg7 : arg7.IsWhole)
    (arg8 : Memref sig .tc .vmem S1x6x1024x512 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S1x1024x128 .f32) (harg11 : arg11.IsWhole)
    (arg12 : Memref sig .tc .vmem S1x1024x128 .bf16) (harg12 : arg12.IsWhole)
    (arg13 : Memref sig .tc .vmem S1x1024x128 .bf16) (harg13 : arg13.IsWhole)
    (arg14 : Memref sig .tc .vmem S1x1024x128 .f32) (harg14 : arg14.IsWhole)
    (arg15 : Memref sig .tc .vmem S1x1024x128 .bf16) (harg15 : arg15.IsWhole)
    (arg16 : Memref sig .tc .vmem S2x128 .f32) (harg16 : arg16.IsWhole)
    (arg17 : Memref sig .tc .vmem S1x1024x128 .bf16) (harg17 : arg17.IsWhole)
    (arg18 : Memref sig .tc .vmem S1x1024x128 .f32) (harg18 : arg18.IsWhole)
    (arg19 : Memref sig .tc .vmem S1x1024x128 .f32) (harg19 : arg19.IsWhole)
    (arg20 : Memref sig .tc .vmem S2048x1 .f32) (harg20 : arg20.IsWhole)
    (arg21 : Memref sig .tc .vmem S2048x256 .f32) (harg21 : arg21.IsWhole)
    (arg22 : Memref sig .tc .vmem S128x128 .f32) (harg22 : arg22.IsWhole)
    (arg23 : Memref sig .tc .vmem S128x128 .f32) (harg23 : arg23.IsWhole)
    (h0 : ¬ atFirst i) (x0 : Vec F S1 .i32) (x1 : Vec F S1 .f32) (x2 : Vec F S1x1024x128 .bf16) (x3 : Vec F S1x16384x128 .bf16) (x4 : Vec F S1x16384x256 .bf16) (x5 : Vec F S1x6x1024x512 .f32) (x6 : Vec F S1x128 .f32) (x7 : Vec F S1x1024x128 .bf16) (x8 : Vec F S1x1024x128 .f32) (x9 : Vec F S1x1024x128 .bf16) (x10 : Vec F S1x1024x128 .bf16) (x11 : Vec F S1x1024x128 .f32) (x12 : Vec F S1x1024x128 .bf16) (x13 : Vec F S2x128 .f32)
    (h1 : isFast (arg3.view.readAt (Elt F) (Rect.unit (s := S1) ![0] S1.size inb_S1_S1_0).toLoadRect (harg3.unread x0) (Shape.Idx.first (numel1_S1.symm ▸ Nat.one_pos))))
    (h2 : ¬ isSlow (arg3.view.readAt (Elt F) (Rect.unit (s := S1) ![0] S1.size inb_S1_S1_0).toLoadRect (harg3.unread x0) (Shape.Idx.first (numel1_S1.symm ▸ Nat.one_pos)))) (f : BufTy.Contents (Elt F) arg17.view.ty) :
    arg17.view.read (Elt F) (arg17.view.writes (Elt F) f (runF1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2).1) = outOf (accO i x0 x2 x3 x4 x5) x1 x6 := by
  have ea : accO i x0 x2 x3 x4 x5 = runF1.sl.v30 c i arg5 harg5 arg6 harg6 arg7 harg7 arg8 harg8 arg21 x2 x3 x4 x5 := by
    have h := h1
    rw [first_read] at h
    rw [runF1_v30, accO, if_pos ((isFast_iff _).mp h)]
  unfold runF1; dsimp only
  rw [View.read_writes_full, ea]
  unfold runF1.sl.r_12 runF1.sl.r_13 runF1.sl.r_14 outOf
  generalize runF1.sl.v30 c i arg5 harg5 arg6 harg6 arg7 harg7 arg8 harg8 arg21 x2 x3 x4 x5 = a
  exact congrArg₂ (fun z w => k0_pay1 a (k0_pay211 a) (k0_pay212 a) z w) (first_read harg4 x1 _) (whole_read harg9 x6 ![0, 0] inb_S1x128_S1x128_0_0)

theorem runS0_out (c : Dev nD) (i : grid0.Coords)
    (arg3 : Memref sig .tc .smem S1 .i32) (harg3 : arg3.IsWhole)
    (arg4 : Memref sig .tc .smem S1 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x256 .bf16) (harg7 : arg7.IsWhole)
    (arg8 : Memref sig .tc .vmem S1x6x1024x512 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S1x1024x128 .f32) (harg11 : arg11.IsWhole)
    (arg12 : Memref sig .tc .vmem S1x1024x128 .bf16) (harg12 : arg12.IsWhole)
    (arg13 : Memref sig .tc .vmem S1x1024x128 .bf16) (harg13 : arg13.IsWhole)
    (arg14 : Memref sig .tc .vmem S1x1024x128 .f32) (harg14 : arg14.IsWhole)
    (arg15 : Memref sig .tc .vmem S1x1024x128 .bf16) (harg15 : arg15.IsWhole)
    (arg16 : Memref sig .tc .vmem S2x128 .f32) (harg16 : arg16.IsWhole)
    (arg17 : Memref sig .tc .vmem S1x1024x128 .bf16) (harg17 : arg17.IsWhole)
    (arg18 : Memref sig .tc .vmem S1x1024x128 .f32) (harg18 : arg18.IsWhole)
    (arg19 : Memref sig .tc .vmem S1x1024x128 .f32) (harg19 : arg19.IsWhole)
    (arg20 : Memref sig .tc .vmem S2048x1 .f32) (harg20 : arg20.IsWhole)
    (arg21 : Memref sig .tc .vmem S2048x256 .f32) (harg21 : arg21.IsWhole)
    (arg22 : Memref sig .tc .vmem S128x128 .f32) (harg22 : arg22.IsWhole)
    (arg23 : Memref sig .tc .vmem S128x128 .f32) (harg23 : arg23.IsWhole)
    (h0 : atFirst i) (x0 : Vec F S1 .i32) (x1 : Vec F S1 .f32) (x2 : Vec F S1x1024x128 .bf16) (x3 : Vec F S1x16384x128 .bf16) (x4 : Vec F S1x16384x256 .bf16) (x5 : Vec F S1x6x1024x512 .f32) (x6 : Vec F S1x128 .f32) (x7 : Vec F S1x1024x128 .bf16) (x8 : Vec F S1x1024x128 .f32) (x9 : Vec F S1x1024x128 .bf16) (x10 : Vec F S1x1024x128 .bf16) (x11 : Vec F S1x1024x128 .f32) (x12 : Vec F S1x1024x128 .bf16) (x13 : Vec F S2x128 .f32)
    (h1 : ¬ isFast (arg3.view.readAt (Elt F) (Rect.unit (s := S1) ![0] S1.size inb_S1_S1_0).toLoadRect (harg3.unread x0) (Shape.Idx.first (numel1_S1.symm ▸ Nat.one_pos))))
    (h2 : isSlow (arg3.view.readAt (Elt F) (Rect.unit (s := S1) ![0] S1.size inb_S1_S1_0).toLoadRect (harg3.unread x0) (Shape.Idx.first (numel1_S1.symm ▸ Nat.one_pos)))) (f : BufTy.Contents (Elt F) arg17.view.ty) :
    arg17.view.read (Elt F) (arg17.view.writes (Elt F) f (runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2).1) = outOf (accO i x0 x2 x3 x4 x5) x1 x6 := by
  have ea : accO i x0 x2 x3 x4 x5 = runS0.sl.v30 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 := by
    have h := h1
    rw [first_read] at h
    rw [runS0_v30, accO, if_neg fun e => h ((isFast_iff _).mpr e)]
  unfold runS0; dsimp only
  rw [View.read_writes_full, ea]
  unfold runS0.sl.r_1 runS0.sl.r_2 runS0.sl.r_3 outOf
  generalize runS0.sl.v30 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 = a
  exact congrArg₂ (fun z w => k0_pay1 a (k0_pay211 a) (k0_pay212 a) z w) (first_read harg4 x1 _) (whole_read harg9 x6 ![0, 0] inb_S1x128_S1x128_0_0)

theorem runS1_out (c : Dev nD) (i : grid0.Coords)
    (arg3 : Memref sig .tc .smem S1 .i32) (harg3 : arg3.IsWhole)
    (arg4 : Memref sig .tc .smem S1 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x256 .bf16) (harg7 : arg7.IsWhole)
    (arg8 : Memref sig .tc .vmem S1x6x1024x512 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S1x1024x128 .f32) (harg11 : arg11.IsWhole)
    (arg12 : Memref sig .tc .vmem S1x1024x128 .bf16) (harg12 : arg12.IsWhole)
    (arg13 : Memref sig .tc .vmem S1x1024x128 .bf16) (harg13 : arg13.IsWhole)
    (arg14 : Memref sig .tc .vmem S1x1024x128 .f32) (harg14 : arg14.IsWhole)
    (arg15 : Memref sig .tc .vmem S1x1024x128 .bf16) (harg15 : arg15.IsWhole)
    (arg16 : Memref sig .tc .vmem S2x128 .f32) (harg16 : arg16.IsWhole)
    (arg17 : Memref sig .tc .vmem S1x1024x128 .bf16) (harg17 : arg17.IsWhole)
    (arg18 : Memref sig .tc .vmem S1x1024x128 .f32) (harg18 : arg18.IsWhole)
    (arg19 : Memref sig .tc .vmem S1x1024x128 .f32) (harg19 : arg19.IsWhole)
    (arg20 : Memref sig .tc .vmem S2048x1 .f32) (harg20 : arg20.IsWhole)
    (arg21 : Memref sig .tc .vmem S2048x256 .f32) (harg21 : arg21.IsWhole)
    (arg22 : Memref sig .tc .vmem S128x128 .f32) (harg22 : arg22.IsWhole)
    (arg23 : Memref sig .tc .vmem S128x128 .f32) (harg23 : arg23.IsWhole)
    (h0 : ¬ atFirst i) (x0 : Vec F S1 .i32) (x1 : Vec F S1 .f32) (x2 : Vec F S1x1024x128 .bf16) (x3 : Vec F S1x16384x128 .bf16) (x4 : Vec F S1x16384x256 .bf16) (x5 : Vec F S1x6x1024x512 .f32) (x6 : Vec F S1x128 .f32) (x7 : Vec F S1x1024x128 .bf16) (x8 : Vec F S1x1024x128 .f32) (x9 : Vec F S1x1024x128 .bf16) (x10 : Vec F S1x1024x128 .bf16) (x11 : Vec F S1x1024x128 .f32) (x12 : Vec F S1x1024x128 .bf16) (x13 : Vec F S2x128 .f32)
    (h1 : ¬ isFast (arg3.view.readAt (Elt F) (Rect.unit (s := S1) ![0] S1.size inb_S1_S1_0).toLoadRect (harg3.unread x0) (Shape.Idx.first (numel1_S1.symm ▸ Nat.one_pos))))
    (h2 : isSlow (arg3.view.readAt (Elt F) (Rect.unit (s := S1) ![0] S1.size inb_S1_S1_0).toLoadRect (harg3.unread x0) (Shape.Idx.first (numel1_S1.symm ▸ Nat.one_pos)))) (f : BufTy.Contents (Elt F) arg17.view.ty) :
    arg17.view.read (Elt F) (arg17.view.writes (Elt F) f (runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2).1) = outOf (accO i x0 x2 x3 x4 x5) x1 x6 := by
  have ea : accO i x0 x2 x3 x4 x5 = runS1.sl.v30 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 := by
    have h := h1
    rw [first_read] at h
    rw [runS1_v30, accO, if_neg fun e => h ((isFast_iff _).mpr e)]
  unfold runS1; dsimp only
  rw [View.read_writes_full, ea]
  unfold runS1.sl.r_1 runS1.sl.r_2 runS1.sl.r_3 outOf
  generalize runS1.sl.v30 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 x5 = a
  exact congrArg₂ (fun z w => k0_pay1 a (k0_pay211 a) (k0_pay212 a) z w) (first_read harg4 x1 _) (whole_read harg9 x6 ![0, 0] inb_S1x128_S1x128_0_0)

set_option maxHeartbeats 4000000 in
/-- The body at any point: it runs to the continuation, the argument blocks as they were, every other buffer at some
contents. -/
theorem body_run (c : Dev nD) (i : grid0.Coords)
    (arg3 : Memref sig .tc .smem S1 .i32) (harg3 : arg3.IsWhole)
    (arg4 : Memref sig .tc .smem S1 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x256 .bf16) (harg7 : arg7.IsWhole)
    (arg8 : Memref sig .tc .vmem S1x6x1024x512 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S1x1024x128 .f32) (harg11 : arg11.IsWhole)
    (arg12 : Memref sig .tc .vmem S1x1024x128 .bf16) (harg12 : arg12.IsWhole)
    (arg13 : Memref sig .tc .vmem S1x1024x128 .bf16) (harg13 : arg13.IsWhole)
    (arg14 : Memref sig .tc .vmem S1x1024x128 .f32) (harg14 : arg14.IsWhole)
    (arg15 : Memref sig .tc .vmem S1x1024x128 .bf16) (harg15 : arg15.IsWhole)
    (arg16 : Memref sig .tc .vmem S2x128 .f32) (harg16 : arg16.IsWhole)
    (arg17 : Memref sig .tc .vmem S1x1024x128 .bf16) (harg17 : arg17.IsWhole)
    (arg18 : Memref sig .tc .vmem S1x1024x128 .f32) (harg18 : arg18.IsWhole)
    (arg19 : Memref sig .tc .vmem S1x1024x128 .f32) (harg19 : arg19.IsWhole)
    (arg20 : Memref sig .tc .vmem S2048x1 .f32) (harg20 : arg20.IsWhole)
    (arg21 : Memref sig .tc .vmem S2048x256 .f32) (harg21 : arg21.IsWhole)
    (arg22 : Memref sig .tc .vmem S128x128 .f32) (harg22 : arg22.IsWhole)
    (arg23 : Memref sig .tc .vmem S128x128 .f32) (harg23 : arg23.IsWhole)
    (x0 : Vec F S1 .i32) (x1 : Vec F S1 .f32) (x2 : Vec F S1x1024x128 .bf16) (x3 : Vec F S1x16384x128 .bf16) (x4 : Vec F S1x16384x256 .bf16) (x5 : Vec F S1x6x1024x512 .f32) (x6 : Vec F S1x128 .f32) (x7 : Vec F S1x1024x128 .bf16) (x8 : Vec F S1x1024x128 .f32) (x9 : Vec F S1x1024x128 .bf16) (x10 : Vec F S1x1024x128 .bf16) (x11 : Vec F S1x1024x128 .f32) (x12 : Vec F S1x1024x128 .bf16) (x13 : Vec F S2x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare (outOf (accO i x0 x2 x3 x4 x5) x1 x6) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K PUnit.unit))
      ⊢ wp frame (wpE (defs₀ (F := F)) Variants.none c none) E (cc0_mixer i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  by_cases h1 : isFast (arg3.view.readAt (Elt F) (Rect.unit (s := S1) ![0] S1.size inb_S1_S1_0).toLoadRect (harg3.unread x0) (Shape.Idx.first (numel1_S1.symm ▸ Nat.one_pos)))
  · have h2 : ¬ isSlow (arg3.view.readAt (Elt F) (Rect.unit (s := S1) ![0] S1.size inb_S1_S1_0).toLoadRect (harg3.unread x0) (Shape.Idx.first (numel1_S1.symm ▸ Nat.one_pos))) :=
      fun h => (isSlow_iff _).mp h ((isFast_iff _).mp h1)
    by_cases h0 : atFirst i
    · iintro ⟨H0, H1, H2, H3, H4, H5, H6, H7, H8, H9, H10, H11, H12, H13, H14, H15, H16, H17, H18, H19, H20, Hk⟩
      iapply ((runF0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2).2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iintro ⟨H0, H1, H2, H3, H4, H5, H6, H7, H8, H9, H10, H11, H12, H13, ⟨%f14, H14⟩, H15, H16, H17, H18, H19, H20⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr; swap; · iexact H14
        ipureintro; exact runF0_out c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2 _
      isplitl [H15]; · iexact H15
      isplitl [H16]; · iexact H16
      isplitl [H17]; · iexact H17
      isplitl [H18]; · iexact H18
      isplitl [H19]; · iexact H19
      iexact H20
    · iintro ⟨H0, H1, H2, H3, H4, H5, H6, H7, H8, H9, H10, H11, H12, H13, H14, H15, H16, H17, H18, H19, H20, Hk⟩
      iapply ((runF1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2).2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iintro ⟨H0, H1, H2, H3, H4, H5, H6, H7, H8, H9, H10, H11, H12, H13, ⟨%f14, H14⟩, H15, H16, H17, H18, H19, H20⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr; swap; · iexact H14
        ipureintro; exact runF1_out c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2 _
      isplitl [H15]; · iexact H15
      isplitl [H16]; · iexact H16
      isplitl [H17]; · iexact H17
      isplitl [H18]; · iexact H18
      isplitl [H19]; · iexact H19
      iexact H20
  · have h2 : isSlow (arg3.view.readAt (Elt F) (Rect.unit (s := S1) ![0] S1.size inb_S1_S1_0).toLoadRect (harg3.unread x0) (Shape.Idx.first (numel1_S1.symm ▸ Nat.one_pos))) :=
      (isSlow_iff _).mpr fun h => h1 ((isFast_iff _).mpr h)
    by_cases h0 : atFirst i
    · iintro ⟨H0, H1, H2, H3, H4, H5, H6, H7, H8, H9, H10, H11, H12, H13, H14, H15, H16, H17, H18, H19, H20, Hk⟩
      iapply ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2).2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iintro ⟨H0, H1, H2, H3, H4, H5, H6, H7, H8, H9, H10, H11, H12, H13, ⟨%f14, H14⟩, H15, H16, H17, H18, H19, H20⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr; swap; · iexact H14
        ipureintro; exact runS0_out c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2 _
      isplitl [H15]; · iexact H15
      isplitl [H16]; · iexact H16
      isplitl [H17]; · iexact H17
      isplitl [H18]; · iexact H18
      isplitl [H19]; · iexact H19
      iexact H20
    · iintro ⟨H0, H1, H2, H3, H4, H5, H6, H7, H8, H9, H10, H11, H12, H13, H14, H15, H16, H17, H18, H19, H20, Hk⟩
      iapply ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2).2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iintro ⟨H0, H1, H2, H3, H4, H5, H6, H7, H8, H9, H10, H11, H12, H13, ⟨%f14, H14⟩, H15, H16, H17, H18, H19, H20⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr; swap; · iexact H14
        ipureintro; exact runS1_out c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x0 x1 x2 x3 x4 x5 x6 x7 x8 x9 x10 x11 x12 x13 h1 h2 _
      isplitl [H15]; · iexact H15
      isplitl [H16]; · iexact H16
      isplitl [H17]; · iexact H17
      isplitl [H18]; · iexact H18
      isplitl [H19]; · iexact H19
      iexact H20

end Cert.KernelIdeal.Att

end
-- ==== Proof.Frame.lean ====
module

public import proofs.«01_k».proof.Proof.Gen.KernelIdeal.Points
public import proofs.«01_k».proof.Proof.Body

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The resource algebra of the launch. -/
local notation "𝕄" => MT nD τ sig Unit (Elt F) ℕ (UR sig nD τ) ℕ

variable (m : (ℓ : Loc nD τ sig) → Buf (Elt F) ℓ) (ρ : Dev nD → PrngReg)

/-- The recurrence's output windows: what the body leaves in them is not stated. -/
def outW (w : Fin cfg0.W) : Bool := 15 ≤ w.val

/-- The attention's output block at point `t`. -/
def outB (c : Dev nD) (t : Fin cfg0.N) : Vec F S1x1024x128 .bf16 :=
  outOf (accO (grid0.coords t) (iblk m c 0 t) (iblk m c 2 t) (iblk m c 3 t) (iblk m c 4 t) (iblk m c 5 t)) (iblk m c 1 t) (iblk m c 6 t)

/-- The proof data: every window's array as the region finds it, an input's block left as it is, the attention's block, and the four scratch
buffers at some contents between points. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outB m c t
    | ⟨15, _⟩ => iblk m c 15 t
    | ⟨16, _⟩ => iblk m c 16 t
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by
  dsimp only [dats]

theorem after_1 (c : Dev nD) (t : Fin cfg0.N) : (dats m 0 c).after 1 t = iblk m c 1 t := by
  dsimp only [dats]

theorem after_2 (c : Dev nD) (t : Fin cfg0.N) : (dats m 0 c).after 2 t = iblk m c 2 t := by
  dsimp only [dats]

theorem after_3 (c : Dev nD) (t : Fin cfg0.N) : (dats m 0 c).after 3 t = iblk m c 3 t := by
  dsimp only [dats]

theorem after_4 (c : Dev nD) (t : Fin cfg0.N) : (dats m 0 c).after 4 t = iblk m c 4 t := by
  dsimp only [dats]

theorem after_5 (c : Dev nD) (t : Fin cfg0.N) : (dats m 0 c).after 5 t = iblk m c 5 t := by
  dsimp only [dats]

theorem after_6 (c : Dev nD) (t : Fin cfg0.N) : (dats m 0 c).after 6 t = iblk m c 6 t := by
  dsimp only [dats]

theorem after_7 (c : Dev nD) (t : Fin cfg0.N) : (dats m 0 c).after 7 t = iblk m c 7 t := by
  dsimp only [dats]

theorem after_8 (c : Dev nD) (t : Fin cfg0.N) : (dats m 0 c).after 8 t = iblk m c 8 t := by
  dsimp only [dats]

theorem after_9 (c : Dev nD) (t : Fin cfg0.N) : (dats m 0 c).after 9 t = iblk m c 9 t := by
  dsimp only [dats]

theorem after_10 (c : Dev nD) (t : Fin cfg0.N) : (dats m 0 c).after 10 t = iblk m c 10 t := by
  dsimp only [dats]

theorem after_11 (c : Dev nD) (t : Fin cfg0.N) : (dats m 0 c).after 11 t = iblk m c 11 t := by
  dsimp only [dats]

theorem after_12 (c : Dev nD) (t : Fin cfg0.N) : (dats m 0 c).after 12 t = iblk m c 12 t := by
  dsimp only [dats]

theorem after_13 (c : Dev nD) (t : Fin cfg0.N) : (dats m 0 c).after 13 t = iblk m c 13 t := by
  dsimp only [dats]

theorem after_14 (c : Dev nD) (t : Fin cfg0.N) : (dats m 0 c).after 14 t = outB m c t := by
  dsimp only [dats]

theorem before_0 (c : Dev nD) (t : Fin cfg0.N) (d) : (dats m 0 c).before 0 t d = iblk m c 0 t :=
  before0_0_of m (dats m 0 c) (A_eq m c 0) (after_0 m c) t d

theorem before_1 (c : Dev nD) (t : Fin cfg0.N) (d) : (dats m 0 c).before 1 t d = iblk m c 1 t :=
  before0_1_of m (dats m 0 c) (A_eq m c 1) (after_1 m c) t d

theorem before_2 (c : Dev nD) (t : Fin cfg0.N) (d) : (dats m 0 c).before 2 t d = iblk m c 2 t :=
  before0_2_of m (dats m 0 c) (A_eq m c 2) (after_2 m c) t d

theorem before_3 (c : Dev nD) (t : Fin cfg0.N) (d) : (dats m 0 c).before 3 t d = iblk m c 3 t :=
  before0_3_of m (dats m 0 c) (A_eq m c 3) (after_3 m c) t d

theorem before_4 (c : Dev nD) (t : Fin cfg0.N) (d) : (dats m 0 c).before 4 t d = iblk m c 4 t :=
  before0_4_of m (dats m 0 c) (A_eq m c 4) (after_4 m c) t d

theorem before_5 (c : Dev nD) (t : Fin cfg0.N) (d) : (dats m 0 c).before 5 t d = iblk m c 5 t :=
  before0_5_of m (dats m 0 c) (A_eq m c 5) (after_5 m c) t d

theorem before_6 (c : Dev nD) (t : Fin cfg0.N) (d) : (dats m 0 c).before 6 t d = iblk m c 6 t :=
  before0_6_of m (dats m 0 c) (A_eq m c 6) (after_6 m c) t d

theorem before_7 (c : Dev nD) (t : Fin cfg0.N) (d) : (dats m 0 c).before 7 t d = iblk m c 7 t :=
  before0_7_of m (dats m 0 c) (A_eq m c 7) (after_7 m c) t d

theorem before_8 (c : Dev nD) (t : Fin cfg0.N) (d) : (dats m 0 c).before 8 t d = iblk m c 8 t :=
  before0_8_of m (dats m 0 c) (A_eq m c 8) (after_8 m c) t d

theorem before_9 (c : Dev nD) (t : Fin cfg0.N) (d) : (dats m 0 c).before 9 t d = iblk m c 9 t :=
  before0_9_of m (dats m 0 c) (A_eq m c 9) (after_9 m c) t d

theorem before_10 (c : Dev nD) (t : Fin cfg0.N) (d) : (dats m 0 c).before 10 t d = iblk m c 10 t :=
  before0_10_of m (dats m 0 c) (A_eq m c 10) (after_10 m c) t d

theorem before_11 (c : Dev nD) (t : Fin cfg0.N) (d) : (dats m 0 c).before 11 t d = iblk m c 11 t :=
  before0_11_of m (dats m 0 c) (A_eq m c 11) (after_11 m c) t d

theorem before_12 (c : Dev nD) (t : Fin cfg0.N) (d) : (dats m 0 c).before 12 t d = iblk m c 12 t :=
  before0_12_of m (dats m 0 c) (A_eq m c 12) (after_12 m c) t d

theorem before_13 (c : Dev nD) (t : Fin cfg0.N) (d) : (dats m 0 c).before 13 t d = iblk m c 13 t :=
  before0_13_of m (dats m 0 c) (A_eq m c 13) (after_13 m c) t d

/-- Between points: the four scratch buffers at some contents, and the generator's register at some state. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ X, owns (c : Thread nD τ) (win0_15.stage (cfg0.slots t 15)) fullShare X)
    ∗ (∃ X, owns (c : Thread nD τ) (win0_16.stage (cfg0.slots t 16)) fullShare X))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ (∃ X, owns (c : Thread nD τ) (win0_15.stage (cfg0.slots t 15)) fullShare X)
    ∗ (∃ X, owns (c : Thread nD τ) (win0_16.stage (cfg0.slots t 16)) fullShare X))

set_option maxHeartbeats 4000000 in
/-- The body at any point: the inputs' buffers hold their blocks and keep them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, after_0, after_1, after_2, after_3, after_4, after_5, after_6, after_7, after_8, after_9, after_10, after_11, after_12, after_13, after_14, outB]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, phi_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · first | iexact H14 | (icases H14 with ⟨%d14, H14⟩; iexists _; iexact H14)
  isplitl [H15]; · iexact H15
  isplitl [H16]; · iexact H16
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · first | iexact H14 | (icases H14 with ⟨%d14, H14⟩; iexists _; iexact H14)
  isplitl [H15]; · iexact H15
  iexact H16

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body obligation at every point, the output windows forgotten. -/
theorem body_obligation (c : Dev nD) :
    Pipeline.BodyObligation (dats (F := F) m 0 c) (defs₀ (F := F)) Variants.none () Set.univ outW := fun t => by
  rw [bigSep_W0, bigSep_W0, defs₀_row]
  exact triple_restated (sound_body m c t) rfl .rfl fun _ => .rfl

set_option backward.isDefEq.respectTransparency.types false in
/-- The run: every array of the launch at some contents it may hold, every other unscoped buffer as the launch found it,
and every counter at zero. -/
theorem run_main : θ_run defs (onTc (τ := τ) (main (F := F))) (s₀ m ρ) (fun r =>
    Pipeline.RDat.FramePost cfg0 (fun c => (dats m 0 c).toRForget outW) (V m) r ∧ r.2.sem = fun _ => 0) :=
  Pipeline.θ_run_frame_forget_shared (Q' := _) cfgs (dats m) (0 : Fin 1) launch₀0 defs₀ Variants.none outW m ρ main
    (hbody := fun c => (body_obligation m c).loose) (hq := fun _ _ _ => rfl)
    (howed := fun _ _ => rfl) (V := V m) (hmain := hmain m Variants.none) (hA := A_eq m) (hΦ := fun _ _ => rfl)

/-- Argument 9, which window 8 reads, is kept. -/
theorem kept_9 (r : PUnit × MemSt nD τ sig (Elt F))
    (h : Pipeline.RDat.FramePost cfg0 (fun c => (dats m 0 c).toRForget outW) (V m) r) (c : Dev nD) :
    r.2.mem ((c.tc : Thread nD τ).loc main_arg9) = m ((c.tc : Thread nD τ).loc main_arg9) :=
  (Pipeline.RDat.FramePost.arr_in h c 8 rfl).trans ((A_eq m c 8).trans (V_main_arg9 m c))

/-- Argument 10, which window 11 reads, is kept. -/
theorem kept_10 (r : PUnit × MemSt nD τ sig (Elt F))
    (h : Pipeline.RDat.FramePost cfg0 (fun c => (dats m 0 c).toRForget outW) (V m) r) (c : Dev nD) :
    r.2.mem ((c.tc : Thread nD τ).loc main_arg10) = m ((c.tc : Thread nD τ).loc main_arg10) :=
  (Pipeline.RDat.FramePost.arr_in h c 11 rfl).trans ((A_eq m c 11).trans (V_main_arg10 m c))

set_option maxHeartbeats 2000000 in
/-- The frame: every argument array ends as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    kept_9 m _ h.1 c,
    kept_10 m _ h.1 c,
    ((h.1 c).2 main_arg11 (Pipeline.mem_restRefs_of main_arg11 (by decide) (by decide))).trans (V_main_arg11 m c)⟩, h.2⟩) (run_main m ρ)

end Cert.KernelIdeal.Att

end
-- ==== Proof.KernelFrame.lean ====
/-
  The mixer's frames. The printed program is the ideal program with each named constant read as its bit pattern, so the one
  run serves both.
-/
module

public import proofs.«01_k».proof.Defs
public import proofs.«01_k».proof.Proof.Frame
public import proofs.«01_k».proof.Proof.Gen.Kernel

@[expose] public section

noncomputable section

namespace Cert.Proof

open Cert Idealize.ShloMosaic Idealize.SL Idealize.SL.Sem

/-- The machine's floats read a named constant as its bit pattern. -/
abbrev namedBits : Named Bits where
  named _ _ {φ} bits := FloatOps.ofBits φ bits

/-- The ideal program's frame. -/
theorem frame_kernel_ideal : Cert.quiescent_KernelIdeal := fun m ρ _ => Cert.KernelIdeal.Att.frame (F := Ideal) m ρ

/-- The printed program's frame. -/
theorem frame_kernel : Cert.quiescent_Kernel := fun m ρ _ =>
  letI := namedBits
  Eq.mp (by chain_rfl) (Cert.KernelIdeal.Att.frame (F := Bits) m ρ)

end Cert.Proof

end
-- ==== Proof.AttnMath.lean ====
module

public import Idealize.ShloMosaic.PureOps.Ideal
public import Mathlib.Analysis.SpecialFunctions.Pow.Real
public import Mathlib.Analysis.SpecialFunctions.Exp

@[expose] public section

noncomputable section

namespace Cert.AttnMath

open Idealize.ShloMosaic

/-- A finite sum of reals, summed as extended reals, is the real sum. -/
theorem coe_sum {ι : Type} (S : Finset ι) (f : ι → ℝ) : (∑ t ∈ S, ((f t : ℝ) : EReal)) = ((∑ t ∈ S, f t : ℝ) : EReal) := by
  classical
  induction S using Finset.induction_on with
  | empty => simp
  | insert a S ha ih => rw [Finset.sum_insert ha, Finset.sum_insert ha, ih, EReal.coe_add]

/-- A sum of products of reals. -/
theorem sum_mul_coe {ι : Type} (S : Finset ι) (f g : ι → EReal) (f' g' : ι → ℝ) (hf : ∀ t, f t = f' t) (hg : ∀ t, g t = g' t) :
    (∑ t ∈ S, f t * g t) = ((∑ t ∈ S, f' t * g' t : ℝ) : EReal) := by
  rw [← coe_sum]
  exact Finset.sum_congr rfl fun t _ => by rw [hf, hg, EReal.coe_mul]

/-- Two to a difference of reals. -/
theorem exp2_sub (a b : ℝ) : Ideal.exp2 ((a : EReal) - (b : EReal)) = (((2 : ℝ) ^ (-b) * 2 ^ a : ℝ) : EReal) := by
  rw [← EReal.coe_sub, Ideal.exp2_coe, Real.rpow_eq_pow, ← Real.rpow_add (by norm_num : (0 : ℝ) < 2)]
  congr 2; ring

/-- One step with a running maximum: the accumulator stays the plain sum of the powers, times `2 ^ (-m)`. -/
theorem slow_step {ι : Type} (S : Finset ι) (μ μ' A : ℝ) (s v : ι → ℝ) :
    Ideal.exp2 ((μ : EReal) - (μ' : EReal)) * (((2 : ℝ) ^ (-μ) * A : ℝ) : EReal)
        + ∑ t ∈ S, Ideal.exp2 ((s t : EReal) - (μ' : EReal)) * ((v t : ℝ) : EReal)
      = (((2 : ℝ) ^ (-μ') * (A + ∑ t ∈ S, 2 ^ s t * v t) : ℝ) : EReal) := by
  rw [sum_mul_coe S _ _ (fun t => (2 : ℝ) ^ (-μ') * 2 ^ s t) v (fun t => exp2_sub _ _) (fun _ => rfl), exp2_sub, ← EReal.coe_mul,
    ← EReal.coe_add]
  congr 1
  have h : (2 : ℝ) ^ μ * 2 ^ (-μ) = 1 := by
    rw [← Real.rpow_add (by norm_num : (0 : ℝ) < 2)]; simp
  rw [mul_add, Finset.mul_sum]
  congr 1
  · calc (2 : ℝ) ^ (-μ') * 2 ^ μ * (2 ^ (-μ) * A) = 2 ^ (-μ') * (2 ^ μ * 2 ^ (-μ)) * A := by ring
      _ = _ := by rw [h]; ring
  · exact Finset.sum_congr rfl fun t _ => by ring

/-- One step with a fixed offset of zero. -/
theorem fast_step {ι : Type} (S : Finset ι) (A : ℝ) (s v : ι → ℝ) :
    ((A : ℝ) : EReal) + ∑ t ∈ S, Ideal.exp2 (s t : EReal) * ((v t : ℝ) : EReal)
      = ((A + ∑ t ∈ S, 2 ^ s t * v t : ℝ) : EReal) := by
  rw [sum_mul_coe S _ _ (fun t => (2 : ℝ) ^ s t) v (fun t => by rw [Ideal.exp2_coe, Real.rpow_eq_pow]) (fun _ => rfl), ← EReal.coe_add]

/-- The quotient of two accumulators of one row, whatever the row's offset. -/
theorem ratio (μ A D : ℝ) (hD : 0 < D) :
    Ideal.div ((((2 : ℝ) ^ (-μ) * A : ℝ)) : EReal) ((((2 : ℝ) ^ (-μ) * D : ℝ)) : EReal) = ((A / D : ℝ) : EReal) := by
  have h : (0 : ℝ) < 2 ^ (-μ) := Real.rpow_pos_of_pos (by norm_num) _
  rw [Ideal.div_coe (mul_pos h hD).ne', ← EReal.coe_mul]
  congr 1
  field_simp

/-- Powers of two of scores in units of `log 2`, up to a common factor, give the softmax of the natural scores. -/
theorem softmax_ratio {ι : Type} (S : Finset ι) (hS : S.Nonempty) (s l v : ι → ℝ) (κ M : ℝ) (hs : ∀ k, (2 : ℝ) ^ s k = Real.exp (l k) * Real.exp κ) :
    (∑ k ∈ S, 2 ^ s k * v k) / (∑ k ∈ S, (2 : ℝ) ^ s k * 1) = ∑ k ∈ S, Real.exp (l k - M) / (∑ k ∈ S, Real.exp (l k - M)) * v k := by
  have e1 : ∀ k, (2 : ℝ) ^ s k = Real.exp (l k - M) * Real.exp (κ + M) := fun k => by
    rw [hs, ← Real.exp_add, ← Real.exp_add]; congr 1; ring
  have hp : (0 : ℝ) < ∑ k ∈ S, Real.exp (l k - M) := Finset.sum_pos (fun _ _ => Real.exp_pos _) hS
  have hq := Real.exp_pos (κ + M)
  simp only [e1, mul_one]
  rw [← Finset.sum_mul]
  have : ∀ k, Real.exp (l k - M) * Real.exp (κ + M) * v k = (Real.exp (l k - M) * v k) * Real.exp (κ + M) := fun k => by ring
  simp only [this]
  rw [← Finset.sum_mul, mul_div_mul_right _ _ hq.ne', Finset.sum_div]
  exact Finset.sum_congr rfl fun k _ => by ring

/-- A score in units of `log 2`. -/
theorem two_pow_log2e (x y z : ℝ) :
    (2 : ℝ) ^ (x * (1 / 8 * (Real.log 2)⁻¹) + (y - z) * (Real.log 2)⁻¹) = Real.exp (x * (1 / 8) + y) * Real.exp (-z) := by
  have h2 : Real.log 2 ≠ 0 := (Real.log_pos (by norm_num)).ne'
  rw [Real.rpow_def_of_pos (by norm_num), ← Real.exp_add]
  congr 1
  field_simp
  ring

end Cert.AttnMath

end
-- ==== Proof.AttnBlock.lean ====
/-
  The mixer's attention payloads at an entry, over the extended reals: the masked and scaled queries, a tile's scores, one
  step of the accumulator with and without a running maximum.
-/
module

public import proofs.«01_k».proof.Proof.Gen.KernelIdeal.Skeleton
public import proofs.«01_k».proof.Proof.AttnMath
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Pipeline.Value

@[expose] public section

noncomputable section

namespace Cert.KernelIdeal.Blk

open Cert.KernelIdeal Cert.KernelIdeal.Gen Cert.AttnMath Idealize.ShloMosaic Idealize.ShloMosaic.ValueIdx
open scoped BigOperators

/-- The row of half `h` and query `p`. -/
def hrow (h : Fin 2) (p : Fin 1024) : Fin 2048 := ⟨h.val * 1024 + p.val, by omega⟩

theorem cast_self {s : Shape} {α : Type} (x : s.Idx → α) (h : s.ShapeCasts s) (i : s.Idx) : shapeCast s x h i = x i :=
  shapeCast_apply x h i i rfl

theorem scale_eq : (Named.named (F := Ideal) (φ := .f32) κ "scale" 0x3E38AA3B#32) = ((1 / 8 * (Real.log 2)⁻¹ : ℝ) : EReal) := rfl

theorem log2e_eq : (Named.named (F := Ideal) (φ := .f32) κ "log2e" 0x3FB8AA3B#32) = (((Real.log 2)⁻¹ : ℝ) : EReal) := rfl

/-- A row's maximum. -/
theorem rowmax {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (i : Fin a) :
    multiReduction .maximumf [1] ⟨1, ![a]⟩ v 0xFF800000#32 h hφ hacc (ix1 i)
      = (Finset.univ : Finset (Fin b)).fold max (Ideal.ofBits .f32 0xFF800000#32) (v ∘ fun k => ix2 i k) := by
  rw [Ideal.multiReduction_maximumf_single]
  refine congrArg (fun f => Finset.fold max (Ideal.ofBits .f32 0xFF800000#32) (v ∘ f) Finset.univ) (funext fun k => ?_)
  funext c
  apply Fin.ext
  match c with
  | ⟨0, _⟩ => rfl
  | ⟨1, _⟩ => rfl

/-- A tile's score: the queries' row against a key, and the bias in units of `log 2`. -/
theorem pay190_apply (Q : FVec Ideal S2048x128 .bf16) (K : Vec Ideal S1x512x128 .bf16) (B : Vec Ideal S1x1x1024x512 .f32)
    (h : Fin 2) (p : Fin 1024) (t : Fin 512) :
    k0_pay190 Q K B (ix2 (hrow h p) t)
      = (∑ d : Fin 128, Q (ix2 (hrow h p) d) * K (ix3 0 t d)) + B (ix4 0 0 p t) * (((Real.log 2)⁻¹ : ℝ) : EReal) := by
  unfold k0_pay190
  refine (shapeCast_apply (addf (F := Ideal) (φ := .f32) _ _) shapeCasts_S2x1024x512_S2048x512 (ix2 (hrow h p) t) (ix3 h p t) ?_).trans ?_
  · rw [Shape.rowMajor_val_three, Shape.rowMajor_val_two]; simp [ix2, ix3, hrow]
  show shapeCast S2x1024x512 _ shapeCasts_S2048x512_S2x1024x512 (ix3 h p t) + broadcastTo S2x1024x512 _ broadcasts_S1x1024x512_S2x1024x512 (ix3 h p t) = _
  congr 1
  · refine (shapeCast_apply (FloatOps.matmul (F := Ideal) (φ₁ := .bf16) (φ₂ := .bf16) (DotDims.transposedRhs 2048 128 512) none _ _ _) _ (ix3 h p t) (ix2 (hrow h p) t) ?_).trans ?_
    · rw [Shape.rowMajor_val_three, Shape.rowMajor_val_two]; simp [ix2, ix3, hrow]
    rw [Ideal.matmul_transposedRhs_apply]
    refine Eq.trans (congrArg₂ (· + ·) (Ideal.ofBits_zero_f32) (Finset.sum_congr rfl fun d _ => congrArg _ (shapeCast_1ab_ab_apply _ _ _ _))) (zero_add _)
  · refine (broadcastTo_apply _ broadcasts_S1x1024x512_S2x1024x512 (ix3 h p t) (ix3 (0 : Fin 1) p t) fun ax => ?_).trans ?_
    · match ax with
      | ⟨0, _⟩ => rfl
      | ⟨1, _⟩ => rfl
      | ⟨2, _⟩ => rfl
    refine (shapeCast_apply (mulf (F := Ideal) (φ := .f32) _ _) shapeCasts_S1024x512_S1x1024x512 (ix3 (0 : Fin 1) p t) (ix2 p t) ?_).trans ?_
    · rw [Shape.rowMajor_val_three, Shape.rowMajor_val_two]; simp [ix2, ix3]
    show shapeCast S1024x512 B _ (ix2 p t) * _ = _
    refine congrArg₂ (· * ·) (shapeCast_apply B shapeCasts_S1x1x1024x512_S1024x512 (ix2 p t) (ix4 0 0 p t) ?_) log2e_eq
    rw [Shape.rowMajor_val_four, Shape.rowMajor_val_two]; simp [ix2, ix4]

/-- The weighted sum a tile adds. -/
theorem wsum_apply (P : FVec Ideal S2048x512 .bf16) (V : Vec Ideal S1x512x256 .bf16) (r : Fin 2048) (c : Fin 256) :
    matmul (F := Ideal) (φ₁ := .bf16) (φ₂ := .bf16) dot_S2048x512_S512x256_S2048x256_1_0_0_1_n_n none P (k0_pay194 V) (constant S2048x256 .f32 0x00000000#32) (ix2 r c)
      = ∑ t : Fin 512, P (ix2 r t) * V (ix3 0 t c) := by
  show FloatOps.matmul (F := Ideal) (φ₁ := .bf16) (φ₂ := .bf16) (DotDims.plain 2048 512 256) none P (k0_pay194 V) (constant S2048x256 .f32 0x00000000#32) (ix2 r c) = _
  rw [Ideal.matmul_plain_apply]
  exact Eq.trans (congrArg₂ (· + ·) (Ideal.ofBits_zero_f32) (Finset.sum_congr rfl fun d _ => congrArg _ (shapeCast_1ab_ab_apply _ _ _ _))) (zero_add _)

theorem pay2_apply (Q : FVec Ideal S2048x128 .bf16) (K : Vec Ideal S1x512x128 .bf16) (B : Vec Ideal S1x1x1024x512 .f32)
    (V : Vec Ideal S1x512x256 .bf16) (a : Vec Ideal S2048x256 .f32) (r : Fin 2048) (c : Fin 256) :
    k0_pay2 Q K B V a (ix2 r c) = a (ix2 r c) + ∑ t : Fin 512, Ideal.exp2 (k0_pay190 Q K B (ix2 r t)) * V (ix3 0 t c) := by
  unfold k0_pay2; rw [cast_self]
  refine congrArg (a (ix2 r c) + ·) ?_
  exact wsum_apply (fun i => Ideal.exp2 (k0_pay190 Q K B i)) V r c

theorem pay209_apply (Q : FVec Ideal S2048x128 .bf16) (K : Vec Ideal S1x512x128 .bf16) (B : Vec Ideal S1x1x1024x512 .f32)
    (V : Vec Ideal S1x512x256 .bf16) (m : Vec Ideal S2048x1 .f32) (a : Vec Ideal S2048x256 .f32) (r : Fin 2048) (c : Fin 256) :
    k0_pay209 (k0_pay192 Q K B m) (k0_pay193 Q K B m a) (k0_pay194 V) (ix2 r c)
      = Ideal.exp2 (m (ix2 r 0) - k0_pay191 Q K B m (ix2 r 0)) * a (ix2 r c)
        + ∑ t : Fin 512, Ideal.exp2 (k0_pay190 Q K B (ix2 r t) - k0_pay191 Q K B m (ix2 r 0)) * V (ix3 0 t c) := by
  have col {b : ℕ} (v : S2048x1.Idx → EReal) (h : S2048x1.Broadcasts ⟨2, ![2048, b]⟩) (k : Fin b) :
      broadcastTo ⟨2, ![2048, b]⟩ v h (ix2 r k) = v (ix2 r (0 : Fin 1)) :=
    broadcastTo_apply v h (ix2 r k) (ix2 r (0 : Fin 1)) fun ax => match ax with | ⟨0, _⟩ => rfl | ⟨1, _⟩ => rfl
  unfold k0_pay209; rw [cast_self]
  refine congrArg₂ (· + ·) ?_ ?_
  · exact congrArg (· * a (ix2 r c)) (col _ _ c)
  · refine Eq.trans (wsum_apply (k0_pay192 Q K B m) V r c) (Finset.sum_congr rfl fun t _ => congrArg (· * _) ?_)
    exact congrArg (fun z => Ideal.exp2 (k0_pay190 Q K B (ix2 r t) - z)) (col _ _ t)

/-- The running maximum of real scores and a real maximum is real. -/
theorem pay191_real (Q : FVec Ideal S2048x128 .bf16) (K : Vec Ideal S1x512x128 .bf16) (B : Vec Ideal S1x1x1024x512 .f32)
    (m : Vec Ideal S2048x1 .f32) (r : Fin 2048) (hm : ∃ μ : ℝ, m (ix2 r 0) = μ) (hs : ∀ t, ∃ s : ℝ, k0_pay190 Q K B (ix2 r t) = s) :
    ∃ μ : ℝ, k0_pay191 Q K B m (ix2 r 0) = μ := by
  have e : k0_pay191 Q K B m (ix2 r 0) = max (m (ix2 r 0)) ((Finset.univ : Finset (Fin 512)).fold max (Ideal.ofBits .f32 0xFF800000#32) (k0_pay190 Q K B ∘ fun t => ix2 r t)) := by
    refine Eq.trans (b := max (m (ix2 r 0)) (shapeCast S2048x1 (multiReduction (F := Ideal) .maximumf [1] S2048 (k0_pay190 Q K B) 0xFF800000#32 reduces_S2048x512_S2048 (.inl rfl) rfl) shapeCasts_S2048_S2048x1 (ix2 r 0))) (by unfold k0_pay191; rfl) ?_
    refine congrArg (max (m (ix2 r 0))) ?_
    rw [shapeCast_a_a1_apply]
    exact rowmax _ _ _ _ r
  obtain ⟨μ, hμ⟩ := hm
  rw [e, hμ]
  have hb : (Ideal.ofBits .f32 0xFF800000#32 : EReal) < ⊤ := by simp [Ideal.ofBits, Ideal.ieee]
  have hf : (Finset.univ : Finset (Fin 512)).fold max (Ideal.ofBits .f32 0xFF800000#32) (k0_pay190 Q K B ∘ fun t => ix2 r t) < ⊤ := by
    refine (Finset.fold_max_lt ⊤).2 ⟨hb, fun t _ => ?_⟩
    obtain ⟨s, hs⟩ := hs t
    rw [Function.comp_apply]; exact hs.trans_lt (EReal.coe_lt_top s)
  refine ⟨_, (EReal.coe_toReal ?_ ?_).symm⟩
  · exact (max_lt (EReal.coe_lt_top μ) hf).ne
  · exact (lt_of_lt_of_le (EReal.bot_lt_coe μ) (le_max_left _ _)).ne'

/-- The masked queries: half `h` keeps its own 64 lanes, scaled. -/
theorem pay199_apply (x : Vec Ideal S1x1024x128 .bf16) (h : Fin 2) (p : Fin 1024) (d : Fin 128) :
    k0_pay199 x (ix2 (hrow h p) d) = if d.val / 64 = h.val then x (ix3 0 p d) * ((1 / 8 * (Real.log 2)⁻¹ : ℝ) : EReal) else 0 := by
  have key : ∀ d : Fin 128, (BitVec.ofBool (BitVec.slt (BitVec.ofNat 32 (0 * 128 + d.val)) 64#32) = if d.val / 64 = 0 then 1#1 else 0#1)
      ∧ (BitVec.ofBool (BitVec.sle 64#32 (BitVec.ofNat 32 (0 * 128 + d.val))) = if d.val / 64 = 1 then 1#1 else 0#1) := by decide
  have hx : shapeCast S1024x128 x shapeCasts_S1x1024x128_S1024x128 (ix2 p d) = x (ix3 0 p d) := shapeCast_1ab_ab_apply _ _ _ _
  have hz : (FloatOps.ofBits (F := Ideal) .bf16 0x0000#16) = 0 := Ideal.ofBits_zero_bf16
  unfold k0_pay199
  match h with
  | ⟨0, _⟩ =>
    refine (concatenate_pair_apply_left (s₁ := S1024x128) (s₂ := S1024x128) _ _ _ _ (ix2 (hrow 0 p) d) rfl (ix2 p d) (fun b => match b with | ⟨0, _⟩ => by simp [hrow, ix2] | ⟨1, _⟩ => rfl)).trans ?_
    refine Eq.trans (b := Scalar.select (BitVec.ofBool (BitVec.slt (BitVec.ofNat 32 (0 * 128 + d.val)) 64#32)) (shapeCast S1024x128 x shapeCasts_S1x1024x128_S1024x128 (ix2 p d) * _) (FloatOps.ofBits (F := Ideal) .bf16 0x0000#16)) rfl ?_
    rw [(key d).1, hz, hx, scale_eq]
    split <;> rfl
  | ⟨1, _⟩ =>
    refine (concatenate_pair_apply_right (s₁ := S1024x128) (s₂ := S1024x128) _ _ _ _ (ix2 (hrow 1 p) d) rfl rfl (ix2 p d) (fun b => match b with | ⟨0, _⟩ => fun hb => absurd rfl hb | ⟨1, _⟩ => fun _ => rfl) ?_).trans ?_
    · show p.val + 1024 = 1 * 1024 + p.val; omega
    refine Eq.trans (b := Scalar.select (BitVec.ofBool (BitVec.sle 64#32 (BitVec.ofNat 32 (0 * 128 + d.val)))) (shapeCast S1024x128 x shapeCasts_S1x1024x128_S1024x128 (ix2 p d) * _) (FloatOps.ofBits (F := Ideal) .bf16 0x0000#16)) rfl ?_
    rw [(key d).2, hz, hx, scale_eq]
    split <;> rfl

end Cert.KernelIdeal.Blk

end
-- ==== Proof.MlpRow.lean ====
/-
  One row of the layer's second half over the extended reals: the normed and gated heads of the recurrence, the output
  projection with the residual, the norm, and the squared-ReLU MLP with the residual. Both programs are read as this.
-/
module

public import Idealize.ShloMosaic.PureOps.Ideal.Laws
public import Idealize.ShloMosaic.Lib.IdealHost
public import Mathlib.Analysis.SpecialFunctions.Trigonometric.DerivHyp

@[expose] public section

noncomputable section

namespace Cert.MlpRow

open Idealize.ShloMosaic Idealize.ShloMosaic.ValueIdx

/-- The norms' epsilon, an f32 literal. -/
def eps : EReal := Ideal.ofBits .f32 0x358637BD#32

/-- The reciprocal root mean square of a row of `d` entries. -/
def nrm {n : ℕ} (d : EReal) (o : Fin n → EReal) : EReal := Ideal.rsqrt (Ideal.div (∑ k, o k * o k) d + eps)

/-- SiLU by the logistic function. -/
def silu (g : EReal) : EReal := g * Ideal.div 1 (1 + Ideal.exp (-g))

theorem half_eq : Ideal.ofBits .f32 0x3F000000#32 = ((1 / 2 : ℝ) : EReal) := by
  simp [Ideal.ofBits, Ideal.ieee, -EReal.coe_mul]; norm_num

/-- The real identity behind the two ways to write SiLU. -/
theorem silu_real (g : ℝ) : 1 / 2 * g * (1 + Real.tanh (1 / 2 * g)) = g * (1 + Real.exp (-g))⁻¹ := by
  have hs : Real.exp (-g) = Real.exp (-(1 / 2 * g)) * Real.exp (-(1 / 2 * g)) := by rw [← Real.exp_add]; congr 1; ring
  have hp := Real.exp_pos (1 / 2 * g)
  have hq := Real.exp_pos (-(1 / 2 * g))
  have hm : Real.exp (1 / 2 * g) * Real.exp (-(1 / 2 * g)) = 1 := by rw [← Real.exp_add]; simp
  rw [Real.tanh_eq_sinh_div_cosh, Real.sinh_eq, Real.cosh_eq, hs]
  generalize Real.exp (-(1 / 2 * g)) = q at *
  rw [show Real.exp (1 / 2 * g) = q⁻¹ from eq_inv_of_mul_eq_one_left hm]
  have h2 : 1 + q * q ≠ 0 := by positivity
  have h3 : (q⁻¹ + q) / 2 ≠ 0 := by positivity
  field_simp
  ring

/-- SiLU by the hyperbolic tangent is SiLU by the logistic function, at the infinities too. -/
theorem silu_tanh (g : EReal) :
    Ideal.ofBits .f32 0x3F000000#32 * g * (Ideal.ofBits .f32 0x3F800000#32 + Ideal.tanh (Ideal.ofBits .f32 0x3F000000#32 * g)) = silu g := by
  rw [half_eq, Ideal.ofBits_one_f32]
  unfold silu
  induction g with
  | bot =>
    rw [EReal.coe_mul_bot_of_pos (by norm_num)]
    have e : (1 : EReal) + -1 = 0 := by
      rw [← EReal.coe_one, ← EReal.coe_neg, ← EReal.coe_add, add_neg_cancel, EReal.coe_zero]
    have t : (1 : EReal) + ⊤ = ⊤ := rfl
    simp [Ideal.div, e, t]
  | top =>
    rw [EReal.coe_mul_top_of_pos (by norm_num)]
    have e : (1 : EReal) + 1 = ((2 : ℝ) : EReal) := by
      rw [← EReal.coe_one, ← EReal.coe_add]; norm_num
    simp [Ideal.div, e, EReal.top_mul_coe_of_pos]
  | coe r =>
    have hp := Real.exp_pos (-r)
    rw [← EReal.coe_mul, Ideal.tanh_coe, ← EReal.coe_neg, Ideal.exp_coe, ← EReal.coe_one, ← EReal.coe_add, ← EReal.coe_add, ← EReal.coe_mul, silu_real]
    unfold Ideal.div
    rw [if_neg (by rw [EReal.coe_eq_zero]; positivity), EReal.coe_mul, EReal.coe_inv, EReal.coe_one, one_mul]

/-- The heads' rows side by side after the attention's. -/
def cat (oa : Fin 512 → EReal) (h : Fin 4 → Fin 128 → EReal) (k : Fin 1024) : EReal :=
  if hk : k.val < 512 then oa ⟨k.val, hk⟩ else h ⟨(k.val - 512) / 128, by omega⟩ ⟨(k.val - 512) % 128, by omega⟩

/-- Entry `d` of head `n`: normed, weighted, and gated. -/
def head (o g : Fin 4 → Fin 128 → EReal) (hw : Fin 128 → EReal) (n : Fin 4) (d : Fin 128) : EReal :=
  o n d * nrm (Ideal.ofBits .f32 0x43000000#32) (o n) * hw d * silu (g n d)

/-- The row after the output projection. -/
def mid (x : Fin 1024 → EReal) (cc : Fin 1024 → EReal) (wo : Fin 1024 → Fin 1024 → EReal) (j : Fin 1024) : EReal :=
  x j + ∑ k, cc k * wo k j

/-- The normed row. -/
def normed (y mw : Fin 1024 → EReal) (j : Fin 1024) : EReal := y j * nrm (Ideal.ofBits .f32 0x44800000#32) y * mw j

/-- One hidden unit: the squared ReLU of its product. -/
def hid (h : Fin 1024 → EReal) (w1 : Fin 1024 → Fin 4096 → EReal) (f : Fin 4096) : EReal :=
  max (∑ k, h k * w1 k f) 0 * max (∑ k, h k * w1 k f) 0

/-- The row after the MLP. -/
def out (y : Fin 1024 → EReal) (u : Fin 4096 → EReal) (w2 : Fin 4096 → Fin 1024 → EReal) (j : Fin 1024) : EReal :=
  y j + ∑ f, u f * w2 f j

/-- A sum over the hidden units, a quarter at a time. -/
theorem sum_quarters (f : Fin 4096 → EReal) (y : EReal) :
    y + (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) = y + ∑ k, f k := by
  have e : (∑ k, f k) = ∑ k : Fin (1024 + 1024 + 1024 + 1024), f k := rfl
  rw [e, Fin.sum_univ_add, Fin.sum_univ_add, Fin.sum_univ_add]
  simp only [add_assoc]
  rfl

end Cert.MlpRow

end
-- ==== Proof.MlpBlock.lean ====
/-
  The MLP kernel's stored block, read at an entry: each payload is the row functions of `MlpRow` of the row's entries
  in the loaded blocks.
-/
module

public import proofs.«01_k».proof.Proof.Gen.MlpIdeal.Value
public import proofs.«01_k».proof.Proof.MlpRow
public import Idealize.ShloMosaic.Lib.MatmulPlain
public import Idealize.ShloMosaic.Lib.ValueLayout
public import Idealize.ShloMosaic.Lib.ValueLayoutCasts

@[expose] public section

noncomputable section

namespace Cert.MlpIdeal.Blk

open Cert.MlpIdeal Cert.MlpIdeal.Gen Cert.MlpRow Idealize.ShloMosaic Idealize.ShloMosaic.ValueIdx
open scoped BigOperators

/-- A matrix by its entries. -/
def ent {a b : ℕ} (X : (⟨2, ![a, b]⟩ : Shape).Idx → EReal) (i : Fin a) (j : Fin b) : EReal := X (ix2 i j)

/-- A row sum of a matrix. -/
theorem rowsum {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (i : Fin a) :
    multiReduction .add [1] ⟨1, ![a]⟩ v 0x00000000#32 h hφ hacc (ix1 i) = ∑ k : Fin b, v (ix2 i k) := by
  rw [Ideal.multiReduction_add_single]
  refine Finset.sum_congr rfl fun k _ => congrArg v ?_
  funext c
  apply Fin.ext
  match c with
  | ⟨0, _⟩ => rfl
  | ⟨1, _⟩ => rfl

/-- A column laid along every row's entries. -/
theorem column {a b : ℕ} (v : (⟨2, ![a, 1]⟩ : Shape).Idx → EReal) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A whole row normed: the reduction, the mean, the epsilon, the reciprocal root, laid along the row. -/
theorem normed_row {a b : ℕ} (lit : BitVec 32) (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (rsqrt (addf (divf (shapeCast ⟨2, ![a, 1]⟩ (multiReduction .add [1] ⟨1, ![a]⟩ (mulf v v) 0x00000000#32 h hφ hacc) hc)
      (broadcast ⟨2, ![a, 1]⟩ (Scalar.ofBits (F := Ideal) .f32 lit))) (broadcast ⟨2, ![a, 1]⟩ (Scalar.ofBits (F := Ideal) .f32 0x358637BD#32)))) hb (ix2 p c)
      = nrm (Ideal.ofBits .f32 lit) (ent v p) := by
  rw [column]
  show Ideal.rsqrt (Ideal.div (shapeCast ⟨2, ![a, 1]⟩ _ hc (ix2 p 0)) _ + _) = _
  rw [shapeCast_a_a1_apply, rowsum]
  rfl

/-- One head's normed and gated block, as the body writes it. -/
def headV (o g : FVec Ideal S512x128 .f32) (w : Vec Ideal S1x128 .f32) : FVec Ideal S512x128 .bf16 :=
  truncf .bf16 (mulf (mulf (mulf o (broadcastTo S512x128 (rsqrt (addf (divf (shapeCast S512x1
    (multiReduction .add [1] S512 (mulf o o) 0x00000000#32 reduces_S512x128_S512 (.inl rfl) rfl) shapeCasts_S512_S512x1)
    (broadcast S512x1 (Scalar.ofBits (F := Ideal) .f32 0x43000000#32))) (broadcast S512x1 (Scalar.ofBits (F := Ideal) .f32 0x358637BD#32)))) broadcasts_S512x1_S512x128))
    (broadcastTo S512x128 (shapeCast S1x128 w shapeCasts_S1x128_S1x128) broadcasts_S1x128_S512x128))
    (mulf (mulf (broadcast S512x128 (Scalar.ofBits (F := Ideal) .f32 0x3F000000#32)) g)
      (addf (broadcast S512x128 (Scalar.ofBits (F := Ideal) .f32 0x3F800000#32)) (tanh (mulf (broadcast S512x128 (Scalar.ofBits (F := Ideal) .f32 0x3F000000#32)) g))))) bitsLt_bf16_f32

/-- A cast of a shape to itself. -/
theorem cast_self {s : Shape} {α : Type} (x : s.Idx → α) (h : s.ShapeCasts s) (i : s.Idx) : shapeCast s x h i = x i :=
  shapeCast_apply x h i i rfl

theorem headV_apply (o g : FVec Ideal S512x128 .f32) (w : Vec Ideal S1x128 .f32) (r : Fin 512) (d : Fin 128) :
    headV o g w (ix2 r d) = ent o r d * nrm (Ideal.ofBits .f32 0x43000000#32) (ent o r) * ent w 0 d * silu (ent g r d) := by
  unfold headV
  show o (ix2 r d) * broadcastTo S512x128 _ _ (ix2 r d) * broadcastTo S512x128 _ _ (ix2 r d) * (Ideal.ofBits .f32 0x3F000000#32 * g (ix2 r d)
    * (Ideal.ofBits .f32 0x3F800000#32 + Ideal.tanh (Ideal.ofBits .f32 0x3F000000#32 * g (ix2 r d)))) = _
  rw [silu_tanh, broadcastTo_1b_ab_apply, cast_self]
  refine congrArg (fun z => o (ix2 r d) * z * w (ix2 0 d) * silu (g (ix2 r d))) ?_
  exact normed_row _ o _ _ _ _ _ r d

section Heads
variable (v0 v1 v3 : Vec Ideal S512x512 .f32) (w : Vec Ideal S1x128 .f32)

theorem pay3_eq : k0_pay3 v0 v1 v3 w
    = headV (extractStridedSlice S512x128 ![0, 0] (addf v0 v1) slices_S512x512_o0_0_S512x128) (extractStridedSlice S512x128 ![0, 0] v3 slices_S512x512_o0_0_S512x128) w := rfl

theorem pay7_eq : k0_pay7 (k0_pay4 v0 v1) (k0_pay5 v3) (k0_pay6 v0 v1) w
    = headV (extractStridedSlice S512x128 ![0, 128] (addf v0 v1) slices_S512x512_o0_128_S512x128) (extractStridedSlice S512x128 ![0, 128] v3 slices_S512x512_o0_128_S512x128) w := rfl

theorem pay8_eq : k0_pay8 (k0_pay2 v0 v1) v3 w
    = headV (extractStridedSlice S512x128 ![0, 256] (addf v0 v1) slices_S512x512_o0_256_S512x128) (extractStridedSlice S512x128 ![0, 256] v3 slices_S512x512_o0_256_S512x128) w := rfl

end Heads

/-- The four heads' rows: entry `d` of head `n` is column `128 n + d`. -/
def heads (X : Fin 512 → EReal) (n : Fin 4) (d : Fin 128) : EReal := X ⟨128 * n.val + d.val, by omega⟩

theorem slice_head (X : FVec Ideal S512x512 .f32) (n : Fin 4) (o : ℕ) (ho : o = 128 * n.val) (h : S512x512.Slices ![0, o] S512x128)
    (r : Fin 512) : ent (extractStridedSlice S512x128 ![0, o] X h) r = heads (ent X r) n :=
  funext fun d => slice2_axis1_apply o X h r d ⟨128 * n.val + d.val, by omega⟩ (by subst ho; rfl)

theorem headV_slice (X G : FVec Ideal S512x512 .f32) (w : Vec Ideal S1x128 .f32) (n : Fin 4) (o : ℕ) (ho : o = 128 * n.val)
    (h : S512x512.Slices ![0, o] S512x128) (r : Fin 512) (d : Fin 128) :
    headV (extractStridedSlice S512x128 ![0, o] X h) (extractStridedSlice S512x128 ![0, o] G h) w (ix2 r d)
      = head (heads (ent X r)) (heads (ent G r)) (ent w 0) n d := by
  rw [headV_apply, slice_head X n o ho, slice_head G n o ho]; rfl

/-- Two indices of one row agree off the lanes' axis. -/
theorem other {n b c : ℕ} (r : Fin n) (p : Fin b) (q : Fin c) (ax : Fin 2) (h : ax ≠ 1) :
    ((ix2 r p : (⟨2, ![n, b]⟩ : Shape).Idx) ax).val = ((ix2 r q : (⟨2, ![n, c]⟩ : Shape).Idx) ax).val :=
  match ax, h with
  | ⟨0, _⟩, _ => rfl
  | ⟨1, _⟩, h => absurd rfl h

/-- The attention's row and the four heads' beside it. -/
theorem cat_apply (A : FVec Ideal S512x512 .bf16) (X G : FVec Ideal S512x512 .f32) (w : Vec Ideal S1x128 .f32) (r : Fin 512) (k : Fin 1024) :
    concatenate S512x1024 1 [⟨S512x512, A⟩,
      ⟨S512x128, headV (extractStridedSlice S512x128 ![0, 0] X slices_S512x512_o0_0_S512x128) (extractStridedSlice S512x128 ![0, 0] G slices_S512x512_o0_0_S512x128) w⟩,
      ⟨S512x128, headV (extractStridedSlice S512x128 ![0, 128] X slices_S512x512_o0_128_S512x128) (extractStridedSlice S512x128 ![0, 128] G slices_S512x512_o0_128_S512x128) w⟩,
      ⟨S512x128, headV (extractStridedSlice S512x128 ![0, 256] X slices_S512x512_o0_256_S512x128) (extractStridedSlice S512x128 ![0, 256] G slices_S512x512_o0_256_S512x128) w⟩,
      ⟨S512x128, headV (extractStridedSlice S512x128 ![0, 384] X slices_S512x512_o0_384_S512x128) (extractStridedSlice S512x128 ![0, 384] G slices_S512x512_o0_384_S512x128) w⟩]
      concatenates_S512x512_S512x128_S512x128_S512x128_S512x128_S512x1024_d1 (ix2 r k)
      = cat (ent A r) (head (heads (ent X r)) (heads (ent G r)) (ent w 0)) k := by
  by_cases h0 : k.val < 512
  · refine Eq.trans (concatenate_apply_piece (1 : Fin 2) _ _ (ix2 r k) 0 ?_ S512x512 A ?_ rfl 0 ?_ (ix2 r ⟨k.val, h0⟩) ?_ ?_) ?_
    · show 0 < 5; decide
    · rfl
    · rfl
    · intro b hb; exact other r _ _ b hb
    · exact Nat.zero_add _
    unfold cat; rw [dif_pos h0]; rfl
  have e : cat (ent A r) (head (heads (ent X r)) (heads (ent G r)) (ent w 0)) k
      = head (heads (ent X r)) (heads (ent G r)) (ent w 0) ⟨(k.val - 512) / 128, by omega⟩ ⟨(k.val - 512) % 128, by omega⟩ := by
    unfold cat; rw [dif_neg h0]
  rw [e]
  by_cases h1 : k.val < 640
  · refine (concatenate_apply_piece (1 : Fin 2) _ _ (ix2 r k) 1 (by show 1 < 5; decide) S512x128 _ rfl rfl 512 rfl (ix2 r ⟨(k.val - 512) % 128, by omega⟩) (by intro b hb; exact other r _ _ b hb)
      (by show 512 + (k.val - 512) % 128 = k.val; omega)).trans ?_
    rw [headV_slice X G w 0 0 rfl]
    exact congrArg (fun n => head _ _ _ n _) (Fin.ext (by show 0 = (k.val - 512) / 128; omega))
  by_cases h2 : k.val < 768
  · refine (concatenate_apply_piece (1 : Fin 2) _ _ (ix2 r k) 2 (by show 2 < 5; decide) S512x128 _ rfl rfl 640 rfl (ix2 r ⟨(k.val - 512) % 128, by omega⟩) (by intro b hb; exact other r _ _ b hb)
      (by show 640 + (k.val - 512) % 128 = k.val; omega)).trans ?_
    rw [headV_slice X G w 1 128 rfl]
    exact congrArg (fun n => head _ _ _ n _) (Fin.ext (by show 1 = (k.val - 512) / 128; omega))
  by_cases h3 : k.val < 896
  · refine (concatenate_apply_piece (1 : Fin 2) _ _ (ix2 r k) 3 (by show 3 < 5; decide) S512x128 _ rfl rfl 768 rfl (ix2 r ⟨(k.val - 512) % 128, by omega⟩) (by intro b hb; exact other r _ _ b hb)
      (by show 768 + (k.val - 512) % 128 = k.val; omega)).trans ?_
    rw [headV_slice X G w 2 256 rfl]
    exact congrArg (fun n => head _ _ _ n _) (Fin.ext (by show 2 = (k.val - 512) / 128; omega))
  · refine (concatenate_apply_piece (1 : Fin 2) _ _ (ix2 r k) 4 (by show 4 < 5; decide) S512x128 _ rfl rfl 896 rfl (ix2 r ⟨(k.val - 512) % 128, by omega⟩) (by intro b hb; exact other r _ _ b hb)
      (by show 896 + (k.val - 512) % 128 = k.val; omega)).trans ?_
    rw [headV_slice X G w 3 384 rfl]
    exact congrArg (fun n => head _ _ _ n _) (Fin.ext (by show 3 = (k.val - 512) / 128; omega))

/-- A product into a zero accumulator, at an entry. -/
theorem mm {M K N : ℕ} {φ₁ φ₂ : FTy} (l : FVec Ideal ⟨2, ![M, K]⟩ φ₁) (w : FVec Ideal ⟨2, ![K, N]⟩ φ₂) (r : Fin M) (c : Fin N) :
    matmul (DotDims.plain M K N) none l w (constant ⟨2, ![M, N]⟩ .f32 0x00000000#32) (ix2 r c) = ∑ k : Fin K, l (ix2 r k) * w (ix2 k c) := by
  show FloatOps.matmul (DotDims.plain M K N) none l w (constant ⟨2, ![M, N]⟩ .f32 0x00000000#32) (ix2 r c) = _
  rw [Ideal.matmul_plain_apply]
  show Ideal.ofBits .f32 0x00000000#32 + _ = _
  rw [Ideal.ofBits_zero_f32, zero_add]

/-- A quarter of the hidden units through the second product, as the body writes it. -/
def chunkV (h : FVec Ideal S512x1024 .bf16) (a b : Vec Ideal S1024x1024 .bf16) : FVec Ideal S512x1024 .f32 :=
  matmul (F := Ideal) (φ₁ := .bf16) (φ₂ := .bf16) (DotDims.plain 512 1024 1024) none (truncf .bf16 (mulf
    (maximumf (matmul (F := Ideal) (φ₁ := .bf16) (φ₂ := .bf16) (DotDims.plain 512 1024 1024) none h (shapeCast S1024x1024 a shapeCasts_S1024x1024_S1024x1024) (constant S512x1024 .f32 0x00000000#32))
      (broadcast S512x1024 (Scalar.ofBits (F := Ideal) .f32 0x00000000#32)))
    (maximumf (matmul (F := Ideal) (φ₁ := .bf16) (φ₂ := .bf16) (DotDims.plain 512 1024 1024) none h (shapeCast S1024x1024 a shapeCasts_S1024x1024_S1024x1024) (constant S512x1024 .f32 0x00000000#32))
      (broadcast S512x1024 (Scalar.ofBits (F := Ideal) .f32 0x00000000#32)))) bitsLt_bf16_f32)
    (shapeCast S1024x1024 b shapeCasts_S1024x1024_S1024x1024) (constant S512x1024 .f32 0x00000000#32)

theorem chunkV_apply (h : FVec Ideal S512x1024 .bf16) (a b : Vec Ideal S1024x1024 .bf16) (r : Fin 512) (j : Fin 1024) :
    chunkV h a b (ix2 r j) = ∑ k, max (∑ q, ent h r q * ent a q k) 0 * max (∑ q, ent h r q * ent a q k) 0 * ent b k j := by
  unfold chunkV
  rw [mm]
  refine Finset.sum_congr rfl fun k _ => ?_
  have e : matmul (F := Ideal) (φ₁ := .bf16) (φ₂ := .bf16) (DotDims.plain 512 1024 1024) none h (shapeCast S1024x1024 a shapeCasts_S1024x1024_S1024x1024) (constant S512x1024 .f32 0x00000000#32) (ix2 r k)
      = ∑ q, ent h r q * ent a q k := by
    rw [mm]; exact Finset.sum_congr rfl fun q _ => by rw [cast_self]; rfl
  rw [cast_self, ← e]
  show max _ (Ideal.ofBits .f32 0x00000000#32) * max _ (Ideal.ofBits .f32 0x00000000#32) * _ = _
  rw [Ideal.ofBits_zero_f32]; rfl

section Body
variable (x : Vec Ideal S512x1024 .f32) (A : Vec Ideal S512x512 .bf16) (v0 v1 G : Vec Ideal S512x512 .f32) (w : Vec Ideal S1x128 .f32)
  (wo : Vec Ideal S1024x1024 .bf16) (mw : Vec Ideal S1x1024 .f32)

/-- The block after the output projection. -/
def midV : FVec Ideal S512x1024 .f32 :=
  k0_pay11 G A (k0_pay3 v0 v1 G w) (k0_pay7 (k0_pay4 v0 v1) (k0_pay5 G) (k0_pay6 v0 v1) w) (k0_pay8 (k0_pay2 v0 v1) G w)
    (k0_pay9 (k0_pay2 v0 v1)) (k0_pay10 (k0_pay2 v0 v1)) w x wo

theorem midV_eq : midV x A v0 v1 G w wo = addf x (matmul (F := Ideal) (φ₁ := .bf16) (φ₂ := .bf16) (DotDims.plain 512 1024 1024) none (concatenate S512x1024 1 [⟨S512x512, A⟩,
      ⟨S512x128, headV (extractStridedSlice S512x128 ![0, 0] (addf v0 v1) slices_S512x512_o0_0_S512x128) (extractStridedSlice S512x128 ![0, 0] G slices_S512x512_o0_0_S512x128) w⟩,
      ⟨S512x128, headV (extractStridedSlice S512x128 ![0, 128] (addf v0 v1) slices_S512x512_o0_128_S512x128) (extractStridedSlice S512x128 ![0, 128] G slices_S512x512_o0_128_S512x128) w⟩,
      ⟨S512x128, headV (extractStridedSlice S512x128 ![0, 256] (addf v0 v1) slices_S512x512_o0_256_S512x128) (extractStridedSlice S512x128 ![0, 256] G slices_S512x512_o0_256_S512x128) w⟩,
      ⟨S512x128, headV (extractStridedSlice S512x128 ![0, 384] (addf v0 v1) slices_S512x512_o0_384_S512x128) (extractStridedSlice S512x128 ![0, 384] G slices_S512x512_o0_384_S512x128) w⟩]
      concatenates_S512x512_S512x128_S512x128_S512x128_S512x128_S512x1024_d1)
      (shapeCast S1024x1024 wo shapeCasts_S1024x1024_S1024x1024) (constant S512x1024 .f32 0x00000000#32)) := rfl

/-- The attention's row beside the four gated heads'. -/
def catRow (r : Fin 512) : Fin 1024 → EReal :=
  cat (ent A r) (head (heads fun d => ent v0 r d + ent v1 r d) (heads (ent G r)) (ent w 0))

theorem midV_apply (r : Fin 512) : ent (midV x A v0 v1 G w wo) r = mid (ent x r) (catRow A v0 v1 G w r) (ent wo) := by
  funext j
  unfold ent mid
  rw [midV_eq]
  show x (ix2 r j) + matmul (F := Ideal) (φ₁ := .bf16) (φ₂ := .bf16) (DotDims.plain 512 1024 1024) none _ _ _ (ix2 r j) = _
  rw [mm]
  refine congrArg (x (ix2 r j) + ·) (Finset.sum_congr rfl fun k _ => ?_)
  rw [cat_apply, cast_self]; rfl

/-- The normed block. -/
def normV : FVec Ideal S512x1024 .f32 :=
  k0_pay12 G A (k0_pay3 v0 v1 G w) (k0_pay7 (k0_pay4 v0 v1) (k0_pay5 G) (k0_pay6 v0 v1) w) (k0_pay8 (k0_pay2 v0 v1) G w)
    (k0_pay9 (k0_pay2 v0 v1)) (k0_pay10 (k0_pay2 v0 v1)) w x wo mw

theorem normV_eq : normV x A v0 v1 G w wo mw = mulf (mulf (midV x A v0 v1 G w wo) (broadcastTo S512x1024 (rsqrt (addf (divf (shapeCast S512x1
    (multiReduction .add [1] S512 (mulf (midV x A v0 v1 G w wo) (midV x A v0 v1 G w wo)) 0x00000000#32 reduces_S512x1024_S512 (.inl rfl) rfl) shapeCasts_S512_S512x1)
    (broadcast S512x1 (Scalar.ofBits (F := Ideal) .f32 0x44800000#32))) (broadcast S512x1 (Scalar.ofBits (F := Ideal) .f32 0x358637BD#32)))) broadcasts_S512x1_S512x1024))
    (broadcastTo S512x1024 (shapeCast S1x1024 mw shapeCasts_S1x1024_S1x1024) broadcasts_S1x1024_S512x1024) := rfl

theorem normV_apply (r : Fin 512) : ent (normV x A v0 v1 G w wo mw) r = normed (ent (midV x A v0 v1 G w wo) r) (ent mw 0) := by
  funext j
  unfold ent
  rw [normV_eq]
  show midV x A v0 v1 G w wo (ix2 r j) * broadcastTo S512x1024 _ _ (ix2 r j) * broadcastTo S512x1024 _ _ (ix2 r j) = _
  rw [broadcastTo_1b_ab_apply, cast_self]
  refine congrArg (fun z => midV x A v0 v1 G w wo (ix2 r j) * z * mw (ix2 0 j)) ?_
  exact normed_row _ (midV x A v0 v1 G w wo) _ _ _ _ _ r j

end Body

/-- The stored payload: the residual and the four quarters in order. -/
theorem pay1_eq (y : FVec Ideal S512x1024 .f32) (h : FVec Ideal S512x1024 .f32) (a0 b0 a1 b1 a2 b2 a3 b3 : Vec Ideal S1024x1024 .bf16) :
    k0_pay1 (k0_pay13 h) (k0_pay14 y h a0 b0 a1 b1 a2 b2) (k0_pay15 a3) (constant S512x1024 .f32 0x00000000#32) b3
      = addf (addf (addf (addf y (chunkV (k0_pay13 h) a0 b0)) (chunkV (k0_pay13 h) a1 b1)) (chunkV (k0_pay13 h) a2 b2)) (chunkV (k0_pay13 h) a3 b3) := rfl

/-- A square loaded out of the first weight, from column `o`. -/
theorem ld_cols (X : Vec Ideal S1024x4096 .bf16) (o : ℕ) (inb) (q : Fin 1024) (k : Fin 1024) (h : o + k.val < 4096) :
    ent (View.ld X (Rect.unit (s := S1024x4096) ![0, o] S1024x1024.size inb)) q k = ent X q ⟨o + k.val, h⟩ :=
  congrArg X (funext fun a => Fin.ext (match a with
    | ⟨0, _⟩ => by show 0 + 1 * q.val = q.val; omega
    | ⟨1, _⟩ => by show o + 1 * k.val = o + k.val; omega))

/-- A square loaded out of the second weight, from row `o`. -/
theorem ld_rows (X : Vec Ideal S4096x1024 .bf16) (o : ℕ) (inb) (k : Fin 1024) (j : Fin 1024) (h : o + k.val < 4096) :
    ent (View.ld X (Rect.unit (s := S4096x1024) ![o, 0] S1024x1024.size inb)) k j = ent X ⟨o + k.val, h⟩ j :=
  congrArg X (funext fun a => Fin.ext (match a with
    | ⟨0, _⟩ => by show o + 1 * k.val = o + k.val; omega
    | ⟨1, _⟩ => by show 0 + 1 * j.val = j.val; omega))

/-- The part's result row as a function of its inputs' rows and of the weights. -/
def row (x : Fin 1024 → EReal) (oa of ob gh : Fin 512 → EReal) (hw : Fin 128 → EReal) (wo : Fin 1024 → Fin 1024 → EReal) (mw : Fin 1024 → EReal)
    (w1 : Fin 1024 → Fin 4096 → EReal) (w2 : Fin 4096 → Fin 1024 → EReal) (j : Fin 1024) : EReal :=
  out (mid x (cat oa (head (heads fun d => of d + ob d) (heads gh) hw)) wo)
    (hid (normed (mid x (cat oa (head (heads fun d => of d + ob d) (heads gh) hw)) wo) mw) w1) w2 j

/-- What the body leaves in the result's block, at an entry. -/
theorem out_apply (x0 : Vec Ideal S512x1024 .f32) (x1 : Vec Ideal S512x512 .bf16) (x2 x3 x4 : Vec Ideal S512x512 .f32) (x5 : Vec Ideal S1x128 .f32)
    (x6 : Vec Ideal S1024x1024 .bf16) (x7 : Vec Ideal S1x1024 .f32) (x8 : Vec Ideal S1024x4096 .bf16) (x9 : Vec Ideal S4096x1024 .bf16) (r : Fin 512) (j : Fin 1024) :
    out0_10 x0 x1 x2 x3 x4 x5 x6 x7 x8 x9 (ix2 r j)
      = row (ent x0 r) (ent x1 r) (ent x2 r) (ent x3 r) (ent x4 r) (ent x5 0) (ent x6) (ent x7 0) (ent x8) (ent x9) j := by
  have z : (![0, 0] : Fin 2 → ℕ) = fun _ => 0 := by funext a; match a with | ⟨0, _⟩ => rfl | ⟨1, _⟩ => rfl
  unfold out0_10 k0_pay22 k0_pay21 k0_pay20 k0_pay19 k0_pay18 k0_pay17 k0_pay16
  rw [View.canon_unit_zero z]
  simp only [View.ld_unit_zero (S := S512x512) z, View.ld_unit_zero (S := S512x1024) z, View.ld_unit_zero (S := S1024x1024) z, View.ld_unit_zero (S := S1x128) z,
    View.ld_unit_zero (S := S1x1024) z]
  rw [pay1_eq]
  show ent (midV x0 x1 x2 x3 x4 x5 x6) r j + chunkV (normV x0 x1 x2 x3 x4 x5 x6 x7) _ _ (ix2 r j) + chunkV (normV x0 x1 x2 x3 x4 x5 x6 x7) _ _ (ix2 r j)
    + chunkV (normV x0 x1 x2 x3 x4 x5 x6 x7) _ _ (ix2 r j) + chunkV (normV x0 x1 x2 x3 x4 x5 x6 x7) _ _ (ix2 r j) = _
  simp only [chunkV_apply, normV_apply, midV_apply]
  show _ = out (mid (ent x0 r) (catRow x1 x2 x3 x4 x5 r) (ent x6))
          (hid (normed (mid (ent x0 r) (catRow x1 x2 x3 x4 x5 r) (ent x6)) (ent x7 0)) (ent x8)) (ent x9) j
  unfold out
  rw [← sum_quarters]
  have q (o : ℕ) (ho : o + 1024 ≤ 4096) (i1) (i2) (g : Fin 1024 → EReal) :
      ∑ k, max (∑ q, g q * ent (View.ld x8 (Rect.unit (s := S1024x4096) ![0, o] S1024x1024.size i1)) q k) 0
          * max (∑ q, g q * ent (View.ld x8 (Rect.unit (s := S1024x4096) ![0, o] S1024x1024.size i1)) q k) 0
          * ent (View.ld x9 (Rect.unit (s := S4096x1024) ![o, 0] S1024x1024.size i2)) k j
        = ∑ k : Fin 1024, hid g (ent x8) ⟨o + k.val, by omega⟩ * ent x9 ⟨o + k.val, by omega⟩ j := by
    refine Finset.sum_congr rfl fun k _ => ?_
    rw [ld_rows x9 o i2 k j (by omega)]
    simp only [ld_cols x8 o i1 _ k (by omega)]
    rfl
  have q0 := q 0
  simp only [Nat.zero_add] at q0
  refine congrArg₂ (· + ·) (congrArg₂ (· + ·) (congrArg₂ (· + ·) (congrArg₂ (· + ·) rfl ?_) ?_) ?_) ?_
  · exact q0 (by decide) _ _ _
  · exact q 1024 (by decide) _ _ _
  · exact q 2048 (by decide) _ _ _
  · exact q 3072 (by decide) _ _ _

end Cert.MlpIdeal.Blk

end
-- ==== Proof.AttnVal.lean ====
/-
  The attention's block over the extended reals: whichever branch is taken, a row of the accumulator is the plain sum over
  the keys of two to the score times the value, up to a power of two common to the row, and the output is the normed
  difference of the quotients.
-/
module

public import proofs.«01_k».proof.Proof.AttnAcc
public import proofs.«01_k».proof.Proof.AttnBlock
public import proofs.«01_k».proof.Proof.MlpBlock

@[expose] public section

noncomputable section

namespace Cert.KernelIdeal.Blk

open Cert.KernelIdeal Cert.KernelIdeal.Gen Cert.KernelIdeal.Att Cert.AttnMath Cert.MlpRow Idealize.ShloMosaic Idealize.ShloMosaic.ValueIdx
open Cert.MlpIdeal.Blk (ent normed_row)
open scoped BigOperators

theorem pay66_apply (Q : FVec Ideal S2048x128 .bf16) (K : Vec Ideal S1x512x128 .bf16) (B : Vec Ideal S1x1x1024x512 .f32)
    (V : Vec Ideal S1x512x256 .bf16) (r : Fin 2048) (c : Fin 256) :
    k0_pay66 Q K B V (ix2 r c) = ∑ t : Fin 512, Ideal.exp2 (k0_pay190 Q K B (ix2 r t)) * V (ix3 0 t c) := by
  unfold k0_pay66; rw [cast_self]
  exact wsum_apply (fun i => Ideal.exp2 (k0_pay190 Q K B i)) V r c

theorem pay204_real (i : S2048x1.Idx) : ∃ μ : ℝ, (k0_pay204 (F := Ideal)) i = μ := by
  have e : (k0_pay204 (F := Ideal)) i = Ideal.ofBits .f32 0xF149F2CA#32 := by unfold k0_pay204; rw [cast_self]; rfl
  rw [e]
  simp [Ideal.ofBits, Ideal.ieee]
  exact ⟨_, rfl⟩

theorem pay205_zero (i : S2048x256.Idx) : (k0_pay205 (F := Ideal)) i = 0 := by
  unfold k0_pay205; rw [cast_self]; exact Ideal.ofBits_zero_f32

theorem pay210_self (x : FVec Ideal S2048x1 .f32) (i : S2048x1.Idx) : k0_pay210 x i = x i := by
  unfold k0_pay210; rw [cast_self]

section Rows
variable (i : grid0.Coords) (x2 : Vec Ideal S1x1024x128 .bf16) (x3 : Vec Ideal S1x16384x128 .bf16) (x4 : Vec Ideal S1x16384x256 .bf16)
  (x5 : Vec Ideal S1x6x1024x512 .f32)
  (q : Fin 1024 → Fin 128 → ℝ) (k : Fin 16384 → Fin 128 → ℝ) (v : Fin 16384 → Fin 256 → ℝ) (B : Fin 6 → Fin 1024 → Fin 512 → ℝ)

/-- The score of query `p` in half `h` against a key, in units of `log 2`. -/
def score (n : Fin 6) (h : Fin 2) (p : Fin 1024) (kk : Fin 16384) : ℝ :=
  (∑ d : Fin 128, (if d.val / 64 = h.val then q p d * (1 / 8 * (Real.log 2)⁻¹) else 0) * k kk d) + B n p ⟨kk.val % 512, by omega⟩ * (Real.log 2)⁻¹

/-- Key `t` of tile `j`. -/
def key (j : Fin 32) (t : Fin 512) : Fin 16384 := ⟨512 * j.val + t.val, by omega⟩

/-- Tile `j`'s share of a row's sum. -/
def part (h : Fin 2) (p : Fin 1024) (c : Fin 256) (j : Fin 32) : ℝ :=
  ∑ t : Fin 512, (2 : ℝ) ^ score q k B (bsel (i 2).val j.val) h p (key j t) * v (key j t) c

/-- The share of the first `n` tiles. -/
def upTo (h : Fin 2) (p : Fin 1024) (c : Fin 256) : ℕ → ℝ
  | 0 => 0
  | n + 1 => if hn : n < 32 then upTo h p c n + part i q k v B h p c ⟨n, hn⟩ else upTo h p c n

theorem upTo_succ (h : Fin 2) (p : Fin 1024) (c : Fin 256) (n : ℕ) (hn : n < 32) :
    upTo i q k v B h p c (n + 1) = upTo i q k v B h p c n + part i q k v B h p c ⟨n, hn⟩ := dif_pos hn

variable (h2 : ∀ p d, x2 (ix3 0 p d) = ((q p d : ℝ) : EReal)) (h3 : ∀ t d, x3 (ix3 0 t d) = ((k t d : ℝ) : EReal))
  (h4 : ∀ t c, x4 (ix3 0 t c) = ((v t c : ℝ) : EReal)) (h5 : ∀ n p t, x5 (ix4 0 n p t) = ((B n p t : ℝ) : EReal))
include h2 h3 h5

theorem pay190_score (n : Fin 6) (j : Fin 32) (h : Fin 2) (p : Fin 1024) (t : Fin 512) :
    k0_pay190 (k0_pay199 x2) (kblk x3 j) (bblk x5 n) (ix2 (hrow h p) t) = ((score q k B n h p (key j t) : ℝ) : EReal) := by
  rw [pay190_apply]
  have e1 : ∀ d : Fin 128, k0_pay199 x2 (ix2 (hrow h p) d) = (((if d.val / 64 = h.val then q p d * (1 / 8 * (Real.log 2)⁻¹) else 0 : ℝ)) : EReal) := fun d => by
    rw [pay199_apply, h2]; split
    · exact (EReal.coe_mul _ _).symm
    · rfl
  rw [sum_mul_coe _ _ (fun d => kblk x3 j (ix3 0 t d)) _ (fun d => k (key j t) d) e1 (fun d => h3 (key j t) d)]
  have e2 : bblk x5 n (ix4 0 0 p t) = ((B n p t : ℝ) : EReal) := h5 n p t
  rw [e2, ← EReal.coe_mul, ← EReal.coe_add]
  have e3 : (⟨(key j t).val % 512, by omega⟩ : Fin 512) = t := Fin.ext (by show (512 * j.val + t.val) % 512 = t.val; omega)
  rw [score, e3]

include h4

theorem accF_apply (h : Fin 2) (p : Fin 1024) (c : Fin 256) : ∀ n, n < 32 →
    accF i x2 x3 x4 x5 n (ix2 (hrow h p) c) = ((upTo i q k v B h p c (n + 1) : ℝ) : EReal)
  | 0, _ => by
    have e := pay66_apply (k0_pay199 x2) (kblk x3 0) (bblk x5 (bsel (i 2).val 0)) (vblk x4 0) (hrow h p) c
    refine (show accF i x2 x3 x4 x5 0 (ix2 (hrow h p) c) = _ from e).trans ?_
    rw [upTo, dif_pos (by norm_num), upTo, part, ← fast_step, EReal.coe_zero, zero_add]
    exact Finset.sum_congr rfl fun t _ => congrArg₂ (· * ·) (congrArg _ (pay190_score x2 x3 x5 q k B h2 h3 h5 _ 0 h p t)) (h4 (key 0 t) c)
  | n + 1, hn => by
    have ih := accF_apply h p c n (by omega)
    rw [accF, dif_pos hn, tileF, pay2_apply, ih, upTo_succ _ _ _ _ _ _ _ _ (n + 1) hn, part, ← fast_step]
    exact congrArg _ (Finset.sum_congr rfl fun t _ => congrArg₂ (· * ·) (congrArg _ (pay190_score x2 x3 x5 q k B h2 h3 h5 _ _ h p t)) (h4 (key ⟨n + 1, hn⟩ t) c))

theorem accS_apply (h : Fin 2) (p : Fin 1024) : ∀ n, ∃ μ : ℝ, (accS i x2 x3 x4 x5 n).1 (ix2 (hrow h p) 0) = (μ : EReal)
    ∧ ∀ c, (accS i x2 x3 x4 x5 n).2 (ix2 (hrow h p) c) = (((2 : ℝ) ^ (-μ) * upTo i q k v B h p c n : ℝ) : EReal)
  | 0 => by
    obtain ⟨μ, hμ⟩ := pay204_real (ix2 (hrow h p) 0)
    refine ⟨μ, hμ, fun c => ?_⟩
    rw [upTo, mul_zero]; exact (pay205_zero (ix2 (hrow h p) c)).trans EReal.coe_zero.symm
  | n + 1 => by
    obtain ⟨μ, hμ, ha⟩ := accS_apply h p n
    rw [accS]
    by_cases hn : n < 32
    · rw [dif_pos hn]
      obtain ⟨μ', hμ'⟩ := pay191_real (k0_pay199 x2) (kblk x3 ⟨n, hn⟩) (bblk x5 (bsel (i 2).val n)) (accS i x2 x3 x4 x5 n).1 (hrow h p) ⟨μ, hμ⟩
        (fun t => ⟨_, pay190_score x2 x3 x5 q k B h2 h3 h5 _ _ h p t⟩)
      refine ⟨μ', (pay210_self _ _).trans hμ', fun c => ?_⟩
      refine (pay209_apply _ _ _ _ _ _ _ _).trans ?_
      rw [hμ', hμ, ha c, upTo_succ _ _ _ _ _ _ _ _ n hn, part, ← slow_step]
      exact congrArg _ (Finset.sum_congr rfl fun t _ => congrArg₂ (· * ·) (congrArg (fun z => Ideal.exp2 (z - _)) (pay190_score x2 x3 x5 q k B h2 h3 h5 _ _ h p t)) (h4 (key ⟨n, hn⟩ t) c))
    · rw [dif_neg hn]
      exact ⟨μ, hμ, fun c => by rw [ha c, upTo, dif_neg hn]⟩

theorem accO_apply (x0 : Vec Ideal S1 .i32) (h : Fin 2) (p : Fin 1024) : ∃ μ : ℝ, ∀ c,
    accO i x0 x2 x3 x4 x5 (ix2 (hrow h p) c) = (((2 : ℝ) ^ (-μ) * upTo i q k v B h p c 32 : ℝ) : EReal) := by
  unfold accO
  split
  · refine ⟨0, fun c => ?_⟩
    rw [accF_apply i x2 x3 x4 x5 q k v B h2 h3 h4 h5 h p c 31 (by norm_num)]
    simp
  · obtain ⟨μ, _, ha⟩ := accS_apply i x2 x3 x4 x5 q k v B h2 h3 h4 h5 h p 32
    exact ⟨μ, ha⟩

omit h2 h3 h4 h5

/-- All tiles together are all keys. -/
theorem upTo_all (h : Fin 2) (p : Fin 1024) (c : Fin 256) :
    upTo i q k v B h p c 32 = ∑ kk : Fin 16384, (2 : ℝ) ^ score q k B (bsel (i 2).val (kk.val / 512)) h p kk * v kk c := by
  have e : ∀ n, upTo i q k v B h p c n = ∑ j ∈ Finset.range n, if hj : j < 32 then part i q k v B h p c ⟨j, hj⟩ else 0 := by
    intro n
    induction n with
    | zero => rfl
    | succ n ih =>
      rw [Finset.sum_range_succ, ← ih, upTo]
      split <;> simp
  rw [e, Finset.sum_range]
  have e2 : ∀ j : Fin 32, (if hj : j.val < 32 then part i q k v B h p c ⟨j.val, hj⟩ else 0) = part i q k v B h p c j := fun j => dif_pos j.isLt
  simp only [e2]
  simp only [part]
  rw [← Fintype.sum_prod_type' (f := fun (j : Fin 32) (t : Fin 512) => (2 : ℝ) ^ score q k B (bsel (i 2).val j.val) h p (key j t) * v (key j t) c)]
  refine Fintype.sum_equiv (finProdFinEquiv (m := 32) (n := 512)) _ _ fun jt => ?_
  obtain ⟨j, t⟩ := jt
  have ek : (finProdFinEquiv (m := 32) (n := 512) (j, t)) = key j t := Fin.ext (by show t.val + 512 * j.val = 512 * j.val + t.val; omega)
  rw [show (finProdFinEquiv (m := 32) (n := 512) (j, t) : Fin (32 * 512)) = key j t from ek]
  have ed : (key j t).val / 512 = j.val := by show (512 * j.val + t.val) / 512 = j.val; omega
  show _ = (2 : ℝ) ^ score q k B (bsel (i 2).val ((key j t).val / 512)) h p (key j t) * v (key j t) c
  rw [ed]

/-- The quotient of an accumulator's row: a value column over a column of ones. -/
theorem quotient (x0 : Vec Ideal S1 .i32)
    (h2 : ∀ p d, x2 (ix3 0 p d) = ((q p d : ℝ) : EReal)) (h3 : ∀ t d, x3 (ix3 0 t d) = ((k t d : ℝ) : EReal))
    (h4 : ∀ t c, x4 (ix3 0 t c) = ((v t c : ℝ) : EReal)) (h5 : ∀ n p t, x5 (ix4 0 n p t) = ((B n p t : ℝ) : EReal))
    (hone : ∀ t (c : Fin 256), 128 ≤ c.val → v t c = 1) (h : Fin 2) (p : Fin 1024) (c c' : Fin 256) (hc : 128 ≤ c'.val) :
    Ideal.div (accO i x0 x2 x3 x4 x5 (ix2 (hrow h p) c)) (accO i x0 x2 x3 x4 x5 (ix2 (hrow h p) c'))
      = (((∑ kk : Fin 16384, (2 : ℝ) ^ score q k B (bsel (i 2).val (kk.val / 512)) h p kk * v kk c)
          / ∑ kk : Fin 16384, (2 : ℝ) ^ score q k B (bsel (i 2).val (kk.val / 512)) h p kk * 1 : ℝ) : EReal) := by
  obtain ⟨μ, ha⟩ := accO_apply i x2 x3 x4 x5 q k v B h2 h3 h4 h5 x0 h p
  rw [ha, ha, upTo_all, upTo_all]
  have e1 : (∑ kk : Fin 16384, (2 : ℝ) ^ score q k B (bsel (i 2).val (kk.val / 512)) h p kk * v kk c')
      = ∑ kk : Fin 16384, (2 : ℝ) ^ score q k B (bsel (i 2).val (kk.val / 512)) h p kk * 1 :=
    Finset.sum_congr rfl fun kk _ => by rw [hone kk c' hc]
  rw [e1]
  refine ratio μ _ _ (Finset.sum_pos (fun kk _ => ?_) Finset.univ_nonempty)
  exact mul_pos (Real.rpow_pos_of_pos (by norm_num) _) one_pos

end Rows

/-! ## The output -/

/-- The quotient of half `h`. -/
def quo (a : S2048x256.Idx → EReal) (h : Fin 2) (p : Fin 1024) (d : Fin 128) : EReal :=
  Ideal.div (a (ix2 (hrow h p) ⟨d.val, by omega⟩)) (a (ix2 (hrow h p) ⟨128 + d.val, by omega⟩))

/-- The normed row: over its root mean square, times its weights, times 0.8. -/
def normedOut (o w : Fin 128 → EReal) (d : Fin 128) : EReal :=
  o d * nrm (Ideal.ofBits .f32 0x43000000#32) o * w d * Ideal.ofBits .f32 0x3F4CCCCD#32

theorem outOf_apply (a : Vec Ideal S2048x256 .f32) (x1 : Vec Ideal S1 .f32) (x6 : Vec Ideal S1x128 .f32) (p : Fin 1024) (d : Fin 128) :
    outOf a x1 x6 (ix3 0 p d) = normedOut (fun d => quo a 0 p d - x1 (ix1 0) * quo a 1 p d) (fun d => x6 (ix2 0 d)) d := by
  have s0 : ∀ d : Fin 128, extractStridedSlice S1024x128 ![0, 0] a slices_S2048x256_o0_0_S1024x128 (ix2 p d) = a (ix2 (hrow 0 p) ⟨d.val, by omega⟩) := fun d =>
    extractStridedSlice_apply _ _ _ _ _ fun x => match x with | ⟨0, _⟩ => by simp [hrow, ix2] | ⟨1, _⟩ => by simp [ix2]
  have s1 : ∀ d : Fin 128, extractStridedSlice S1024x128 ![0, 128] a slices_S2048x256_o0_128_S1024x128 (ix2 p d) = a (ix2 (hrow 0 p) ⟨128 + d.val, by omega⟩) := fun d =>
    extractStridedSlice_apply _ _ _ _ _ fun x => match x with | ⟨0, _⟩ => by simp [hrow, ix2] | ⟨1, _⟩ => by simp [ix2]
  have s2 : ∀ d : Fin 128, extractStridedSlice S1024x128 ![1024, 0] a slices_S2048x256_o1024_0_S1024x128 (ix2 p d) = a (ix2 (hrow 1 p) ⟨d.val, by omega⟩) := fun d =>
    extractStridedSlice_apply _ _ _ _ _ fun x => match x with | ⟨0, _⟩ => by simp [hrow, ix2] | ⟨1, _⟩ => by simp [ix2]
  have s3 : ∀ d : Fin 128, extractStridedSlice S1024x128 ![1024, 128] a slices_S2048x256_o1024_128_S1024x128 (ix2 p d) = a (ix2 (hrow 1 p) ⟨128 + d.val, by omega⟩) := fun d =>
    extractStridedSlice_apply _ _ _ _ _ fun x => match x with | ⟨0, _⟩ => by simp [hrow, ix2] | ⟨1, _⟩ => by simp [ix2]
  unfold outOf k0_pay1 k0_pay211 k0_pay212
  rw [shapeCast_ab_1ab_apply]
  have ho : ∀ d : Fin 128, (subf (F := Ideal) (φ := .f32) (divf (F := Ideal) (φ := .f32) (extractStridedSlice S1024x128 ![0, 0] a slices_S2048x256_o0_0_S1024x128) (extractStridedSlice S1024x128 ![0, 128] a slices_S2048x256_o0_128_S1024x128))
      (mulf (F := Ideal) (φ := .f32) (broadcast S1024x128 (x1 (ix1 0))) (divf (F := Ideal) (φ := .f32) (extractStridedSlice S1024x128 ![1024, 0] a slices_S2048x256_o1024_0_S1024x128) (extractStridedSlice S1024x128 ![1024, 128] a slices_S2048x256_o1024_128_S1024x128)))) (ix2 p d)
      = quo a 0 p d - x1 (ix1 0) * quo a 1 p d := fun d => by
    refine congrArg₂ (· - ·) (congrArg₂ Ideal.div (s0 d) (s1 d)) (congrArg (x1 (ix1 0) * ·) (congrArg₂ Ideal.div (s2 d) (s3 d)))
  refine congrArg (· * Ideal.ofBits .f32 0x3F4CCCCD#32) (congrArg₂ (· * ·) (congrArg₂ (· * ·) (ho d) ?_) ?_)
  · refine (normed_row 0x43000000#32 _ _ _ _ _ _ p d).trans (congrArg (nrm _) (funext ho))
  · refine (broadcastTo_1b_ab_apply _ _ p d).trans (cast_self _ _ _)

end Cert.KernelIdeal.Blk

end
-- ==== Proof.Bucket.lean ====
/-
  The relative position's bucket: one function of the difference of positions, and its value beyond the band.
-/
module

public import Idealize.ShloMosaic.PureOps.Ideal
public import Idealize.ShloMosaic.PureOps
public import Mathlib.Analysis.SpecialFunctions.Log.Basic

@[expose] public section

noncomputable section

namespace Cert.Bucket

open Idealize.ShloMosaic

/-- The bucket of a distance of at least 8, before its bound. -/
def far (n : BitVec 32) : BitVec 32 :=
  Ideal.fptosi 32 (Ideal.div (Ideal.log (Ideal.div ((n.toInt : ℝ) : EReal) (Ideal.ofBits .f32 0x41000000#32))) (Ideal.ofBits .f32 0x40317218#32)
    * Ideal.ofBits .f32 0x41000000#32)

/-- The bucket of a difference of positions. -/
def bucket (r : BitVec 32) : BitVec 32 :=
  IntOp.addi (Scalar.select (IntOp.cmpi .sgt r 0#32) 16#32 0#32)
    (Scalar.select (IntOp.cmpi .slt (IntOp.absi r) 8#32) (IntOp.absi r)
      (IntOp.minsi (IntOp.addi 8#32 (far (IntOp.maxsi (IntOp.absi r) 1#32))) 15#32))

/-- The row of the table a bucket's word reads. -/
def row (b : BitVec 32) : Fin 32 := ⟨min b.toInt.toNat 31, by omega⟩

/-- The difference's word. -/
def word (z : ℤ) : BitVec 32 := BitVec.ofInt 32 z

theorem word_toInt (z : ℤ) (h : -16384 < z) (h' : z < 16384) : (word z).toInt = z := by
  rw [word, BitVec.toInt_ofInt, Int.bmod_eq_of_le (by norm_num; omega) (by norm_num; omega)]

theorem slt_eq (x y : BitVec 32) : IntOp.cmpi .slt x y = BitVec.ofBool (decide (x.toInt < y.toInt)) := rfl
theorem sgt_eq (x y : BitVec 32) : IntOp.cmpi .sgt x y = BitVec.ofBool (decide (y.toInt < x.toInt)) := rfl

theorem abs_pos (n : ℕ) (h' : n < 16384) : IntOp.absi (word n) = word n := by
  have e := word_toInt n (by omega) (by omega)
  rw [IntOp.absi, BitVec.msb_eq_toInt, e, if_neg (by simp)]

theorem abs_neg (n : ℕ) (h : 513 ≤ n) (h' : n < 16384) : IntOp.absi (word (-(n : ℤ))) = word n := by
  have e := word_toInt (-(n : ℤ)) (by omega) (by omega)
  rw [IntOp.absi, BitVec.msb_eq_toInt, e, if_pos (by simp; omega), word, word, BitVec.ofInt_neg, BitVec.neg_neg]

theorem words (n : ℕ) (h : 513 ≤ n) (h' : n < 16384) :
    IntOp.cmpi .sgt (word n) 0#32 = 1#1 ∧ IntOp.absi (word n) = word n ∧ IntOp.cmpi .sgt (word (-(n : ℤ))) 0#32 = 0#1
    ∧ IntOp.absi (word (-(n : ℤ))) = word n ∧ IntOp.maxsi (word n) 1#32 = word n ∧ IntOp.cmpi .slt (word n) 8#32 = 0#1
    ∧ (word n).toInt = n := by
  have e := word_toInt n (by omega) (by omega)
  have e' := word_toInt (-(n : ℤ)) (by omega) (by omega)
  have z : (0#32).toInt = 0 := by decide
  have o : (1#32).toInt = 1 := by decide
  have t : (8#32).toInt = 8 := by decide
  refine ⟨?_, abs_pos n h', ?_, abs_neg n h h', ?_, ?_, e⟩
  · rw [sgt_eq, e, z, decide_eq_true (by omega)]; rfl
  · rw [sgt_eq, e', z, decide_eq_false (by omega)]; rfl
  · rw [IntOp.maxsi, BitVec.slt, e, o, decide_eq_true (by omega)]; rfl
  · rw [slt_eq, e, t, decide_eq_false (by omega)]; rfl

theorem bounded : ∀ z : Fin 100, 7 ≤ z.val → IntOp.minsi (IntOp.addi 8#32 (BitVec.ofInt 32 (z.val : ℤ))) 15#32 = 15#32 := by decide +kernel

theorem eight : Ideal.ofBits .f32 0x41000000#32 = ((8 : ℝ) : EReal) := by
  simp [Ideal.ofBits, Ideal.ieee]; rw [← EReal.coe_mul]; norm_num

theorem logs : ∃ c : ℝ, Ideal.ofBits .f32 0x40317218#32 = (c : EReal) ∧ 2.7 < c ∧ c < 2.8 := by
  refine ⟨_, by simp [Ideal.ofBits, Ideal.ieee]; rfl, ?_, ?_⟩ <;> norm_num

theorem far_eq (n : ℕ) (h : 513 ≤ n) (h' : n < 16384) : ∃ z : Fin 100, 7 ≤ z.val ∧ far (word n) = BitVec.ofInt 32 (z.val : ℤ) := by
  obtain ⟨-, -, -, -, -, -, e⟩ := words n h h'
  obtain ⟨c, hc, hl, hu⟩ := logs
  have hn : (513 : ℝ) ≤ n := by exact_mod_cast h
  have hn' : (n : ℝ) < 16384 := by exact_mod_cast h'
  have l1 : Real.log 64 ≤ Real.log ((n : ℝ) * (1 / 8)) := Real.log_le_log (by norm_num) (by linarith)
  have l2 : Real.log ((n : ℝ) * (1 / 8)) ≤ Real.log 2048 := Real.log_le_log (by linarith) (by linarith)
  have e64 : Real.log 64 = 6 * Real.log 2 := by rw [show (64 : ℝ) = 2 ^ 6 by norm_num, Real.log_pow]; norm_num
  have e2048 : Real.log 2048 = 11 * Real.log 2 := by rw [show (2048 : ℝ) = 2 ^ 11 by norm_num, Real.log_pow]; norm_num
  have g1 : (1 : ℝ) - 2⁻¹ ≤ Real.log 2 := Real.one_sub_inv_le_log_of_pos (by norm_num)
  have g2 : Real.log 2 ≤ 2 - 1 := Real.log_le_sub_one_of_pos (by norm_num)
  have hcp : 0 < c := by linarith
  set y : ℝ := Real.log ((n : ℝ) * (1 / 8)) * (1 / c) * 8 with hy
  have y1 : 7 ≤ y := by
    rw [hy, mul_one_div, div_mul_eq_mul_div, le_div_iff₀ hcp]; nlinarith
  have y2 : y < 99 := by
    rw [hy, mul_one_div, div_mul_eq_mul_div, div_lt_iff₀ hcp]; nlinarith
  have ef : far (word n) = Ideal.fptosi 32 (y : EReal) := by
    unfold far
    rw [show (word n).toInt = (n : ℤ) from e, eight, hc, Ideal.div_coe hcp.ne', Ideal.div_coe (by norm_num), Int.cast_natCast, ← EReal.coe_mul, Ideal.log_coe,
      if_neg (by linarith), ← EReal.coe_mul, ← EReal.coe_mul]
  have f1 : 7 ≤ ⌊y⌋ := Int.le_floor.2 (by exact_mod_cast y1)
  have f2 : ⌊y⌋ < 99 := Int.floor_lt.2 (by exact_mod_cast y2)
  refine ⟨⟨⌊y⌋.toNat, by omega⟩, by show 7 ≤ ⌊y⌋.toNat; omega, ?_⟩
  rw [ef, Ideal.fptosi, Ideal.toIntClamped_coe, if_pos (by linarith)]
  congr 1
  show max (-((2 ^ (32 - 1) : ℕ) : ℤ)) (min (((2 ^ (32 - 1) : ℕ) : ℤ) - 1) ⌊y⌋) = (⌊y⌋.toNat : ℤ)
  norm_num
  omega

/-- A key at least 513 after its query is in the last bucket of its side. -/
theorem bucket_after (n : ℕ) (h : 513 ≤ n) (h' : n < 16384) : bucket (word n) = 31#32 := by
  obtain ⟨a, b, -, -, d, e, -⟩ := words n h h'
  obtain ⟨z, hz, hf⟩ := far_eq n h h'
  rw [bucket, a, b, e, d, hf, show ∀ x y : BitVec 32, Scalar.select 0#1 x y = y from fun _ _ => rfl, bounded z hz]
  rfl

/-- A key at least 513 before its query is in the last bucket of its side. -/
theorem bucket_before (n : ℕ) (h : 513 ≤ n) (h' : n < 16384) : bucket (word (-(n : ℤ))) = 15#32 := by
  obtain ⟨-, -, a, b, d, e, -⟩ := words n h h'
  obtain ⟨z, hz, hf⟩ := far_eq n h h'
  rw [bucket, a, b, e, d, hf, show ∀ x y : BitVec 32, Scalar.select 0#1 x y = y from fun _ _ => rfl, bounded z hz]
  rfl

/-- The band's tile holds the bucket of the true difference: inside the band they are one difference, beyond it one bucket. -/
theorem band (q : Fin 16) (p : Fin 1024) (kk : Fin 16384) :
    bucket (word ((max (-2) (min 3 (((kk.val / 512 : ℕ) : ℤ) - (q.val : ℤ) * 2))) * 512 + (kk.val % 512 : ℕ) - p.val))
      = bucket (word ((kk.val : ℤ) - (q.val * 1024 + p.val : ℕ))) := by
  have hk := kk.isLt
  have hp := p.isLt
  have hq := q.isLt
  have hm : kk.val % 512 < 512 := Nat.mod_lt _ (by norm_num)
  have hd : kk.val = 512 * (kk.val / 512) + kk.val % 512 := (Nat.div_add_mod _ _).symm
  set j := kk.val / 512
  set t := kk.val % 512
  by_cases h1 : (j : ℤ) - q.val * 2 < -2
  · rw [show max (-2) (min 3 ((j : ℤ) - (q.val : ℤ) * 2)) = -2 by omega]
    have e1 : (-2 : ℤ) * 512 + (t : ℕ) - p.val = -((1024 + p.val - t : ℕ) : ℤ) := by omega
    have e2 : (kk.val : ℤ) - (q.val * 1024 + p.val : ℕ) = -((q.val * 1024 + p.val - kk.val : ℕ) : ℤ) := by push_cast; omega
    rw [e1, e2, bucket_before _ (by omega) (by omega), bucket_before _ (by omega) (by omega)]
  · by_cases h2 : 3 < (j : ℤ) - q.val * 2
    · rw [show max (-2) (min 3 ((j : ℤ) - (q.val : ℤ) * 2)) = 3 by omega]
      have e1 : (3 : ℤ) * 512 + (t : ℕ) - p.val = ((1536 + t - p.val : ℕ) : ℤ) := by omega
      have e2 : (kk.val : ℤ) - (q.val * 1024 + p.val : ℕ) = ((kk.val - (q.val * 1024 + p.val) : ℕ) : ℤ) := by push_cast; omega
      rw [e1, e2, bucket_after _ (by omega) (by omega), bucket_after _ (by omega) (by omega)]
    · congr 2
      rw [show max (-2) (min 3 ((j : ℤ) - (q.val : ℤ) * 2)) = (j : ℤ) - q.val * 2 by omega]
      push_cast
      omega

end Cert.Bucket

end
-- ==== Proof.AttnSpec.lean ====
/-
  What one entry of the attention is, over the reals: two softmax averages of the values, their difference, and its norm.
-/
module

public import proofs.«01_k».proof.Proof.AttnVal
public import proofs.«01_k».proof.Proof.Bucket

@[expose] public section

noncomputable section

namespace Cert.Spec

open Cert.KernelIdeal Cert.Bucket Cert.KernelIdeal.Blk Cert.AttnMath Idealize.ShloMosaic Idealize.ShloMosaic.ValueIdx
open scoped BigOperators

/-- The average of `v` with the softmax of `l` as weights. -/
def att (l v : Fin 16384 → ℝ) : ℝ := (∑ k, Real.exp (l k) * v k) / ∑ k, Real.exp (l k)

theorem att_shift (l v : Fin 16384 → ℝ) (M : ℝ) : ∑ k, Real.exp (l k - M) / (∑ j, Real.exp (l j - M)) * v k = att l v := by
  unfold att
  have hM : Real.exp M ≠ 0 := Real.exp_ne_zero M
  simp only [Real.exp_sub, ← Finset.sum_div, div_div_div_cancel_right₀ hM]
  rw [Finset.sum_div]
  exact Finset.sum_congr rfl fun k _ => div_mul_eq_mul_div _ _ _

theorem att_two (s l v : Fin 16384 → ℝ) (κ : ℝ) (hs : ∀ k, (2 : ℝ) ^ s k = Real.exp (l k) * Real.exp κ) :
    (∑ k, (2 : ℝ) ^ s k * v k) / (∑ k, (2 : ℝ) ^ s k * 1) = att l v := by
  rw [softmax_ratio Finset.univ ⟨0, Finset.mem_univ _⟩ s l v κ 0 hs, att_shift]

section
variable (Q K : S2x16384x4x2x64.Idx → ℝ) (W : S2x16384x4x128.Idx → ℝ) (T : S32x4.Idx → ℝ) (lam : EReal) (n : Fin 128 → EReal)

/-- A logit: half `h`'s scaled product of query and key, plus the bias of their distance. -/
def logit (b : Fin 2) (a : Fin 4) (h : Fin 2) (s k : Fin 16384) : ℝ :=
  (∑ e : Fin 64, Q (ix5 b s a h e) * K (ix5 b k a h e)) * (1 / 8) + T (ix2 (row (bucket (word ((k.val : ℤ) - (s.val : ℤ))))) a)

/-- A half's average of the values. -/
def half (b : Fin 2) (a : Fin 4) (h : Fin 2) (s : Fin 16384) (d : Fin 128) : ℝ := att (logit Q K T b a h s) (fun k => W (ix4 b k a d))

/-- An entry of the result. -/
def entry (b : Fin 2) (a : Fin 4) (s : Fin 16384) (d : Fin 128) : EReal :=
  normedOut (fun d => ((half Q K W T b a 0 s d : ℝ) : EReal) - lam * ((half Q K W T b a 1 s d : ℝ) : EReal)) n d

end

end Cert.Spec

end
-- ==== Proof.AttnHost.lean ====
/-
  What the host hands the attention: the difference's weight, the norm's weights, the queries, keys and values, and the
  bias's band.
-/
module

public import proofs.«01_k».proof.Proof.AttnVal
public import proofs.«01_k».proof.Proof.Frame
public import proofs.«01_k».proof.Proof.Bucket

@[expose] public section

noncomputable section

namespace Cert.KernelIdeal.Blk

open Cert.KernelIdeal Cert.KernelIdeal.Gen Cert.Bucket Idealize.ShloMosaic Idealize.ShloMosaic.TcCoe Idealize.ShloMosaic.ValueIdx
open Idealize.SL.Sem
open scoped BigOperators

/-- The weight of the difference, as the host computes it. -/
def lamT (x : FVec Ideal S1x4x64 .f32) : FVec Ideal S_ .f32 :=
  addf (subf
    (Host.exp (Host.reduceAdd (mulf (shapeCast S64 (extractStridedSlice S1x64 ![0, 0] (shapeCast S4x64 x shapeCasts_S1x4x64_S4x64) slices_S4x64_S1x64_0_0) shapeCasts_S1x64_S64)
      (shapeCast S64 (extractStridedSlice S1x64 ![1, 0] (shapeCast S4x64 x shapeCasts_S1x4x64_S4x64) slices_S4x64_S1x64_1_0) shapeCasts_S1x64_S64)) (constant S_ .f32 0x00000000#32) reducesTo_S64_S_d0 h_S_))
    (Host.exp (Host.reduceAdd (mulf (shapeCast S64 (extractStridedSlice S1x64 ![2, 0] (shapeCast S4x64 x shapeCasts_S1x4x64_S4x64) slices_S4x64_S1x64_2_0) shapeCasts_S1x64_S64)
      (shapeCast S64 (extractStridedSlice S1x64 ![3, 0] (shapeCast S4x64 x shapeCasts_S1x4x64_S4x64) slices_S4x64_S1x64_3_0) shapeCasts_S1x64_S64)) (constant S_ .f32 0x00000000#32) reducesTo_S64_S_d0 h_S_)))
    (constant S_ .f32 0x3E4CCCCD#32)

/-- The buckets of an array of differences, as the host computes them. -/
def buckets (s : Shape) (h : S_.BroadcastsInDim s (![] : Fin 0 → Fin s.rank)) (r : IVec s 32) : IVec s 32 :=
  addi (id (select (cmpi .sgt r (broadcastInDim s ![] h (constantI S_ 32 0#32))) (broadcastInDim s ![] h (constantI S_ 32 16#32)) (broadcastInDim s ![] h (constantI S_ 32 0#32))))
    (select (cmpi .slt (absi r) (broadcastInDim s ![] h (constantI S_ 32 8#32))) (absi r)
      (minsi (addi (broadcastInDim s ![] h (constantI S_ 32 8#32))
        (fptosi 32 (mulf (F := Ideal) (Host.divf (Host.log (Host.divf (sitofp .f32 (maxsi (absi r) (broadcastInDim s ![] h (constantI S_ 32 1#32)))) (broadcastInDim s ![] h (constant S_ .f32 0x41000000#32))))
          (broadcastInDim s ![] h (constant S_ .f32 0x40317218#32))) (broadcastInDim s ![] h (constant S_ .f32 0x41000000#32)))))
        (broadcastInDim s ![] h (constantI S_ 32 15#32))))

theorem buckets_apply (s : Shape) (h : S_.BroadcastsInDim s (![] : Fin 0 → Fin s.rank)) (r : IVec s 32) (i : s.Idx) : buckets s h r i = bucket (r i) := rfl

/-- The differences of the band's tiles. -/
def rels : IVec S6x1024x512 32 :=
  subi (addi (muli (addi (iotaInDim S6x1024x512 32 0) (broadcastInDim S6x1024x512 ![] bcast_S_S6x1024x512 (constantI S_ 32 4294967294#32)))
    (broadcastInDim S6x1024x512 ![] bcast_S_S6x1024x512 (constantI S_ 32 512#32))) (iotaInDim S6x1024x512 32 2)) (iotaInDim S6x1024x512 32 1)

/-- The table less its row beyond the band. -/
def tableT (rb : FVec Ideal S32x4 .f32) : FVec Ideal S32x4 .f32 :=
  subf rb (broadcastInDim S32x4 ![0, 1] bcast_S1x4_S32x4_0_1
    (Host.gather gather_S32x4_S1x1_S1x4_1_0_n_n_0_1_14 rb (broadcastInDim S1x1 ![0] bcast_S1_S1x1_0 (buckets S1 bcast_S_S1 (constantI S1 32 4294966272#32)))))

/-- The band's tiles. -/
def tilesT (rb : FVec Ideal S32x4 .f32) : FVec Ideal S4x6x1024x512 .f32 :=
  transpose S4x6x1024x512 [3, 0, 1, 2] (Host.gather gather_S32x4_S6x1024x512x1_S6x1024x512x4_3_0_n_n_0_3_14 (tableT rb)
    (broadcastInDim S6x1024x512x1 ![0, 1, 2] bcast_S6x1024x512_S6x1024x512x1_0_1_2 (buckets S6x1024x512 bcast_S_S6x1024x512 rels))) transposes_S6x1024x512x4_S4x6x1024x512_3_0_1_2

theorem gather1 (x : S32x4.Idx → EReal) (idx : IVec S1x1 32) (h : Fin 4) :
    Host.gather gather_S32x4_S1x1_S1x4_1_0_n_n_0_1_14 x idx (ix2 0 h) = x (ix2 (row (idx (ix2 0 0))) h) := by
  unfold Host.gather
  congr 1
  funext a
  refine Fin.ext ?_
  set D := gather_S32x4_S1x1_S1x4_1_0_n_n_0_1_14
  show D.start (ix2 0 h) idx a + D.batchCoord (ix2 0 h) a + D.offCoord (ix2 0 h) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin 2) ∈ D.startIndexMap from List.mem_singleton.mpr rfl)]
    have hsi : D.siIdx (ix2 0 h) ⟨List.idxOf (⟨0, h0⟩ : Fin 2) D.startIndexMap, List.idxOf_lt_length_iff.2 (List.mem_singleton.mpr rfl)⟩ = ix2 0 0 := by
      funext b; refine Fin.ext ?_
      match b with
      | ⟨0, _⟩ => rfl
      | ⟨1, _⟩ => rfl
    rw [hsi]
    rfl
  | ⟨1, h1⟩ =>
    unfold GatherDims.start
    rw [dif_neg (show ¬ (⟨1, h1⟩ : Fin 2) ∈ D.startIndexMap from fun h => absurd (congrArg Fin.val (List.mem_singleton.mp h)) Nat.one_ne_zero)]
    show 0 + 0 + _ = h.val
    rw [zero_add, zero_add]
    rfl

theorem gather4 (x : S32x4.Idx → EReal) (idx : IVec S6x1024x512x1 32) (n : Fin 6) (p : Fin 1024) (t : Fin 512) (h : Fin 4) :
    Host.gather gather_S32x4_S6x1024x512x1_S6x1024x512x4_3_0_n_n_0_3_14 x idx (ix4 n p t h) = x (ix2 (row (idx (ix4 n p t 0))) h) := by
  unfold Host.gather
  congr 1
  funext a
  refine Fin.ext ?_
  set D := gather_S32x4_S6x1024x512x1_S6x1024x512x4_3_0_n_n_0_3_14
  show D.start (ix4 n p t h) idx a + D.batchCoord (ix4 n p t h) a + D.offCoord (ix4 n p t h) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin 2) ∈ D.startIndexMap from List.mem_singleton.mpr rfl)]
    have hsi : D.siIdx (ix4 n p t h) ⟨List.idxOf (⟨0, h0⟩ : Fin 2) D.startIndexMap, List.idxOf_lt_length_iff.2 (List.mem_singleton.mpr rfl)⟩ = ix4 n p t 0 := by
      funext b; refine Fin.ext ?_
      match b with
      | ⟨0, _⟩ => rfl
      | ⟨1, _⟩ => rfl
      | ⟨2, _⟩ => rfl
      | ⟨3, _⟩ => rfl
    rw [hsi]
    rfl
  | ⟨1, h1⟩ =>
    unfold GatherDims.start
    rw [dif_neg (show ¬ (⟨1, h1⟩ : Fin 2) ∈ D.startIndexMap from fun h => absurd (congrArg Fin.val (List.mem_singleton.mp h)) Nat.one_ne_zero)]
    show 0 + 0 + _ = h.val
    rw [zero_add, zero_add]
    rfl

theorem rels_apply (n : Fin 6) (p : Fin 1024) (t : Fin 512) : rels (ix3 n p t) = word (((n.val : ℤ) - 2) * 512 + (t.val : ℕ) - p.val) := by
  show (BitVec.ofNat 32 n.val + 4294967294#32) * 512#32 + BitVec.ofNat 32 t.val - BitVec.ofNat 32 p.val = _
  rw [word, show (4294967294#32) = BitVec.ofInt 32 (-2) from rfl, show (512#32) = BitVec.ofInt 32 512 from rfl, ← BitVec.ofInt_natCast, ← BitVec.ofInt_natCast,
    ← BitVec.ofInt_natCast, ← BitVec.ofInt_add, ← BitVec.ofInt_mul, ← BitVec.ofInt_add, BitVec.sub_eq_add_neg, ← BitVec.ofInt_neg, ← BitVec.ofInt_add]
  congr 1

theorem tiles_apply (rb : FVec Ideal S32x4 .f32) (h : Fin 4) (n : Fin 6) (p : Fin 1024) (t : Fin 512) :
    tilesT rb (ix4 h n p t) = rb (ix2 (row (bucket (word (((n.val : ℤ) - 2) * 512 + (t.val : ℕ) - p.val)))) h) - rb (ix2 (row (bucket (word (-1024)))) h) := by
  unfold tilesT
  refine Eq.trans (b := Host.gather gather_S32x4_S6x1024x512x1_S6x1024x512x4_3_0_n_n_0_3_14 (tableT rb)
    (broadcastInDim S6x1024x512x1 ![0, 1, 2] bcast_S6x1024x512_S6x1024x512x1_0_1_2 (buckets S6x1024x512 bcast_S_S6x1024x512 rels)) (ix4 n p t h)) ?_ ?_
  · exact transpose_apply _ _ _ _ _ (fun a => match a with | ⟨0, _⟩ => rfl | ⟨1, _⟩ => rfl | ⟨2, _⟩ => rfl | ⟨3, _⟩ => rfl)
  rw [gather4, broadcastInDim_apply _ bcast_S6x1024x512_S6x1024x512x1_0_1_2 _ (ix4 n p t 0) (ix3 n p t) (fun a => match a with | ⟨0, _⟩ => rfl | ⟨1, _⟩ => rfl | ⟨2, _⟩ => rfl),
    buckets_apply, rels_apply, tableT]
  refine congrArg (rb _ - ·) ?_
  rw [broadcastInDim_apply _ bcast_S1x4_S32x4_0_1 _ (ix2 _ h) (ix2 0 h) (fun a => match a with | ⟨0, _⟩ => rfl | ⟨1, _⟩ => rfl), gather1,
    broadcastInDim_apply _ bcast_S1_S1x1_0 _ (ix2 0 0) (ix1 0) (fun a => match a with | ⟨0, _⟩ => rfl), buckets_apply]
  rfl

/-- The values with 128 lanes of ones behind each head's, as the host lays them out. -/
def augT (x : FVec Ideal S2x16384x4x128 .f32) : FVec Ideal S2x16384x1024 .bf16 :=
  shapeCast S2x16384x1024 (concatenate S2x16384x4x256 3 [⟨S2x16384x4x128, truncf .bf16 x bitsLt_bf16_f32⟩,
    ⟨S2x16384x4x128, broadcastInDim S2x16384x4x128 ![] bcast_S_S2x16384x4x128 (constant (F := Ideal) S_ .bf16 0x3F80#16)⟩]
    concatenates_S2x16384x4x128_S2x16384x4x128_S2x16384x4x256_d3) shapeCasts_S2x16384x4x256_S2x16384x1024

variable (m : (ℓ : Loc nD τ sig) → Buf (Elt Ideal) ℓ)

set_option maxHeartbeats 4000000 in
theorem V112 (c : Dev nD) : (V m c main_v112 : S1.Idx → EReal) = shapeCast S1 (lamT (m ((c : Thread nD τ).loc main_arg4))) shapeCasts_S_S1 := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl

set_option maxHeartbeats 4000000 in
theorem V92 (c : Dev nD) : (V m c main_v92 : S4x6x1024x512.Idx → EReal) = tilesT (m ((c : Thread nD τ).loc main_arg6)) := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl

set_option maxHeartbeats 4000000 in
theorem V114 (c : Dev nD) : (V m c main_v114 : S1x128.Idx → EReal) = broadcastInDim S1x128 ![1] bcast_S128_S1x128_1 (shapeCast S128 (m ((c : Thread nD τ).loc main_arg5)) shapeCasts_S1x128_S128) := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl

set_option maxHeartbeats 4000000 in
theorem V116 (c : Dev nD) : (V m c main_v116 : S2x16384x512.Idx → EReal) = shapeCast S2x16384x512 (m ((c : Thread nD τ).loc main_arg0)) shapeCasts_S2x16384x4x2x64_S2x16384x512 := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl

set_option maxHeartbeats 4000000 in
theorem V118 (c : Dev nD) : (V m c main_v118 : S2x16384x512.Idx → EReal) = shapeCast S2x16384x512 (m ((c : Thread nD τ).loc main_arg1)) shapeCasts_S2x16384x4x2x64_S2x16384x512 := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl

set_option maxHeartbeats 4000000 in
theorem V122 (c : Dev nD) : (V m c main_v122 : S2x16384x1024.Idx → EReal) = augT (m ((c : Thread nD τ).loc main_arg2)) := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl

end Cert.KernelIdeal.Blk

end
-- ==== Proof.AttnCols.lean ====
/-
  What the reshaped arrays hold, by head and column.
-/
module

public import proofs.«01_k».proof.Proof.AttnSpec
public import proofs.«01_k».proof.Proof.AttnHost
public import Idealize.ShloMosaic.Lib.IdealHost

@[expose] public section

noncomputable section

namespace Cert.KernelIdeal.Blk

open Cert.KernelIdeal.Att hiding word
open Cert.KernelIdeal Cert.KernelIdeal.Gen Cert.Bucket Cert.Spec Cert.AttnMath
open Idealize.ShloMosaic Idealize.ShloMosaic.TcCoe Idealize.ShloMosaic.ValueIdx
open Idealize.SL.Sem
open scoped BigOperators

/-! ## What the blocks hold -/

/-- Column `d` of a head's 128, as its half and its place in the half. -/
theorem heads_apply (x : S2x16384x4x2x64.Idx → EReal) (b : Fin 2) (s : Fin 16384) (a : Fin 4) (d : Fin 128) :
    shapeCast S2x16384x512 x shapeCasts_S2x16384x4x2x64_S2x16384x512 (ix3 b s ⟨a.val * 128 + d.val, by omega⟩)
      = x (ix5 b s a ⟨d.val / 64, by omega⟩ ⟨d.val % 64, by omega⟩) := by
  refine shapeCast_apply _ _ _ _ ?_
  rw [Shape.rowMajor_val_three, Shape.rowMajor_val_five]
  show (((b.val * 16384 + s.val) * 4 + a.val) * 2 + d.val / 64) * 64 + d.val % 64 = (b.val * 16384 + s.val) * 512 + (a.val * 128 + d.val)
  omega

theorem aug_value (x : FVec Ideal S2x16384x4x128 .f32) (b : Fin 2) (s : Fin 16384) (a : Fin 4) (c : Fin 256) (hc : c.val < 128) :
    augT x (ix3 b s ⟨a.val * 256 + c.val, by omega⟩) = x (ix4 b s a ⟨c.val, hc⟩) := by
  unfold augT
  rw [shapeCast_apply _ _ _ (ix4 b s a c : S2x16384x4x256.Idx) (by
    rw [Shape.rowMajor_val_three, Shape.rowMajor_val_four]
    show ((b.val * 16384 + s.val) * 4 + a.val) * 256 + c.val = (b.val * 16384 + s.val) * 1024 + (a.val * 256 + c.val)
    omega)]
  exact concatenate_pair_apply_left (s₁ := S2x16384x4x128) (s₂ := S2x16384x4x128) _ _ _ _ (ix4 b s a c) rfl (ix4 b s a ⟨c.val, hc⟩) (fun a => match a with
    | ⟨0, _⟩ => rfl | ⟨1, _⟩ => rfl | ⟨2, _⟩ => rfl | ⟨3, _⟩ => rfl)

theorem aug_one (x : FVec Ideal S2x16384x4x128 .f32) (b : Fin 2) (s : Fin 16384) (a : Fin 4) (c : Fin 256) (hc : 128 ≤ c.val) :
    augT x (ix3 b s ⟨a.val * 256 + c.val, by omega⟩) = ((1 : ℝ) : EReal) := by
  unfold augT
  rw [shapeCast_apply _ _ _ (ix4 b s a c : S2x16384x4x256.Idx) (by
    rw [Shape.rowMajor_val_three, Shape.rowMajor_val_four]
    show ((b.val * 16384 + s.val) * 4 + a.val) * 256 + c.val = (b.val * 16384 + s.val) * 1024 + (a.val * 256 + c.val)
    omega)]
  refine (concatenate_pair_apply_right (s₁ := S2x16384x4x128) (s₂ := S2x16384x4x128) _ _ _ _ (ix4 b s a c) rfl rfl (ix4 b s a ⟨c.val - 128, by omega⟩) (fun a => match a with
    | ⟨0, _⟩ => fun _ => rfl | ⟨1, _⟩ => fun _ => rfl | ⟨2, _⟩ => fun _ => rfl | ⟨3, _⟩ => fun h => absurd rfl h) ?_).trans ?_
  · show c.val - 128 + 128 = c.val; omega
  · rw [broadcastInDim_scalar_apply]
    exact Ideal.ofBits_one_bf16

end Cert.KernelIdeal.Blk

end
-- ==== Proof.AttnPos.lean ====
/-
  Where a grid point's blocks lie in the arrays.
-/
module

public import proofs.«01_k».proof.Proof.AttnSpec
public import proofs.«01_k».proof.Proof.AttnHost
public import Idealize.ShloMosaic.Lib.IdealHost

@[expose] public section

noncomputable section

namespace Cert.KernelIdeal.Blk

open Cert.KernelIdeal.Att hiding word
open Cert.KernelIdeal Cert.KernelIdeal.Gen Cert.Bucket Cert.Spec Cert.AttnMath
open Idealize.ShloMosaic Idealize.ShloMosaic.TcCoe Idealize.ShloMosaic.ValueIdx
open Idealize.SL.Sem
open scoped BigOperators

/-! ## Where a grid point's blocks lie -/

/-- A point's head, batch and query block. -/
def hd (t : Fin cfg0.N) : Fin 4 := ⟨t.val / 32, by have h : t.val < 128 := t.isLt; omega⟩
def bt (t : Fin cfg0.N) : Fin 2 := ⟨t.val / 16 % 2, by omega⟩
def qb (t : Fin cfg0.N) : Fin 16 := ⟨t.val % 16, by omega⟩

/-- Position `p` of query block `q`. -/
def pos (q : Fin 16) (p : Fin 1024) : Fin 16384 := ⟨q.val * 1024 + p.val, by omega⟩

theorem coord2 : ∀ t : Fin cfg0.N, (grid0.coords t (2 : Fin 3)).val = t.val % 16 := (by decide +kernel : ∀ t : Fin grid0.N, _)

theorem idx1 : ∀ t : Fin cfg0.N, win0_1.index t (0 : Fin 1) = 0 := (by decide +kernel : ∀ t : Fin grid0.N, _)
theorem idx2 : ∀ t : Fin cfg0.N, win0_2.index t (0 : Fin 3) = t.val / 16 % 2 ∧ win0_2.index t (1 : Fin 3) = t.val % 16 ∧ win0_2.index t (2 : Fin 3) = t.val / 32 :=
  (by decide +kernel : ∀ t : Fin grid0.N, _)
theorem idx3 : ∀ t : Fin cfg0.N, win0_3.index t (0 : Fin 3) = t.val / 16 % 2 ∧ win0_3.index t (1 : Fin 3) = 0 ∧ win0_3.index t (2 : Fin 3) = t.val / 32 :=
  (by decide +kernel : ∀ t : Fin grid0.N, _)
theorem idx4 : ∀ t : Fin cfg0.N, win0_4.index t (0 : Fin 3) = t.val / 16 % 2 ∧ win0_4.index t (1 : Fin 3) = 0 ∧ win0_4.index t (2 : Fin 3) = t.val / 32 :=
  (by decide +kernel : ∀ t : Fin grid0.N, _)
theorem idx5 : ∀ t : Fin cfg0.N, win0_5.index t (0 : Fin 4) = t.val / 32 ∧ win0_5.index t (1 : Fin 4) = 0 ∧ win0_5.index t (2 : Fin 4) = 0 ∧ win0_5.index t (3 : Fin 4) = 0 :=
  (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx14 : ∀ t : Fin cfg0.N, win0_14.index t (0 : Fin 3) = t.val / 16 % 2 ∧ win0_14.index t (1 : Fin 3) = t.val % 16 ∧ win0_14.index t (2 : Fin 3) = t.val / 32 :=
  (by decide +kernel : ∀ t : Fin grid0.N, _)

theorem emb1 (t : Fin cfg0.N) : ((cfg0.win 1).blk t).view.emb (ix1 0 : S1.Idx) = (ix1 0 : S1.Idx) := by
  have e0 := idx1 t; funext a; apply Fin.ext
  match a with
  | ⟨0, _⟩ => show win0_1.index t (0 : Fin 1) * 1 + 1 * 0 = 0; omega

theorem emb2 (t : Fin cfg0.N) (p : Fin 1024) (d : Fin 128) : ((cfg0.win 2).blk t).view.emb (ix3 0 p d : S1x1024x128.Idx)
    = (ix3 (bt t) (pos (qb t) p) ⟨(hd t).val * 128 + d.val, by omega⟩ : S2x16384x512.Idx) := by
  obtain ⟨e0, e1, e2⟩ := idx2 t; funext a; apply Fin.ext
  match a with
  | ⟨0, _⟩ => show win0_2.index t (0 : Fin 3) * 1 + 1 * 0 = t.val / 16 % 2; omega
  | ⟨1, _⟩ => show win0_2.index t (1 : Fin 3) * 1024 + 1 * p.val = t.val % 16 * 1024 + p.val; omega
  | ⟨2, _⟩ => show win0_2.index t (2 : Fin 3) * 128 + 1 * d.val = t.val / 32 * 128 + d.val; omega

theorem emb3 (t : Fin cfg0.N) (k : Fin 16384) (d : Fin 128) : ((cfg0.win 3).blk t).view.emb (ix3 0 k d : S1x16384x128.Idx)
    = (ix3 (bt t) k ⟨(hd t).val * 128 + d.val, by omega⟩ : S2x16384x512.Idx) := by
  obtain ⟨e0, e1, e2⟩ := idx3 t; funext a; apply Fin.ext
  match a with
  | ⟨0, _⟩ => show win0_3.index t (0 : Fin 3) * 1 + 1 * 0 = t.val / 16 % 2; omega
  | ⟨1, _⟩ => show win0_3.index t (1 : Fin 3) * 16384 + 1 * k.val = k.val; omega
  | ⟨2, _⟩ => show win0_3.index t (2 : Fin 3) * 128 + 1 * d.val = t.val / 32 * 128 + d.val; omega

theorem emb4 (t : Fin cfg0.N) (k : Fin 16384) (d : Fin 256) : ((cfg0.win 4).blk t).view.emb (ix3 0 k d : S1x16384x256.Idx)
    = (ix3 (bt t) k ⟨(hd t).val * 256 + d.val, by omega⟩ : S2x16384x1024.Idx) := by
  obtain ⟨e0, e1, e2⟩ := idx4 t; funext a; apply Fin.ext
  match a with
  | ⟨0, _⟩ => show win0_4.index t (0 : Fin 3) * 1 + 1 * 0 = t.val / 16 % 2; omega
  | ⟨1, _⟩ => show win0_4.index t (1 : Fin 3) * 16384 + 1 * k.val = k.val; omega
  | ⟨2, _⟩ => show win0_4.index t (2 : Fin 3) * 256 + 1 * d.val = t.val / 32 * 256 + d.val; omega

theorem emb5 (t : Fin cfg0.N) (n : Fin 6) (p : Fin 1024) (k : Fin 512) : ((cfg0.win 5).blk t).view.emb (ix4 0 n p k : S1x6x1024x512.Idx)
    = (ix4 (hd t) n p k : S4x6x1024x512.Idx) := by
  obtain ⟨e0, e1, e2, e3⟩ := idx5 t; funext a; apply Fin.ext
  match a with
  | ⟨0, _⟩ => show win0_5.index t (0 : Fin 4) * 1 + 1 * 0 = t.val / 32; omega
  | ⟨1, _⟩ => show win0_5.index t (1 : Fin 4) * 6 + 1 * n.val = n.val; omega
  | ⟨2, _⟩ => show win0_5.index t (2 : Fin 4) * 1024 + 1 * p.val = p.val; omega
  | ⟨3, _⟩ => show win0_5.index t (3 : Fin 4) * 512 + 1 * k.val = k.val; omega

theorem emb6 (t : Fin cfg0.N) (d : Fin 128) : ((cfg0.win 6).blk t).view.emb (ix2 0 d : S1x128.Idx) = (ix2 0 d : S1x128.Idx) := by
  obtain ⟨e0, e1⟩ := idx6 t; funext a; apply Fin.ext
  match a with
  | ⟨0, _⟩ => show win0_6.index t (0 : Fin 2) * 1 + 1 * 0 = 0; omega
  | ⟨1, _⟩ => show win0_6.index t (1 : Fin 2) * 128 + 1 * d.val = d.val; omega

theorem emb14 (t : Fin cfg0.N) (p : Fin 1024) (d : Fin 128) : ((cfg0.win 14).blk t).view.emb (ix3 0 p d : S1x1024x128.Idx)
    = (ix3 (bt t) (pos (qb t) p) ⟨(hd t).val * 128 + d.val, by omega⟩ : S2x16384x512.Idx) := by
  obtain ⟨e0, e1, e2⟩ := idx14 t; funext a; apply Fin.ext
  match a with
  | ⟨0, _⟩ => show win0_14.index t (0 : Fin 3) * 1 + 1 * 0 = t.val / 16 % 2; omega
  | ⟨1, _⟩ => show win0_14.index t (1 : Fin 3) * 1024 + 1 * p.val = t.val % 16 * 1024 + p.val; omega
  | ⟨2, _⟩ => show win0_14.index t (2 : Fin 3) * 128 + 1 * d.val = t.val / 32 * 128 + d.val; omega

end Cert.KernelIdeal.Blk

end
-- ==== Proof.AttnReal.lean ====
/-
  A point's blocks as reals, and a half's weights as the exponentials of its logits.
-/
module

public import proofs.«01_k».proof.Proof.AttnSpec
public import proofs.«01_k».proof.Proof.AttnHost
public import proofs.«01_k».proof.Proof.AttnPos
public import Idealize.ShloMosaic.Lib.IdealHost

@[expose] public section

noncomputable section

namespace Cert.KernelIdeal.Blk

open Cert.KernelIdeal.Att hiding word
open Cert.KernelIdeal Cert.KernelIdeal.Gen Cert.Bucket Cert.Spec Cert.AttnMath
open Idealize.ShloMosaic Idealize.ShloMosaic.TcCoe Idealize.ShloMosaic.ValueIdx
open Idealize.SL.Sem
open scoped BigOperators

variable (c : Dev nD) (Q K : S2x16384x4x2x64.Idx → ℝ) (W : S2x16384x4x128.Idx → ℝ) (T : S32x4.Idx → ℝ)

/-- A point's queries, keys, values with a block of ones, and tiles of biases over the far left one. -/
def qR (t : Fin cfg0.N) (p : Fin 1024) (d : Fin 128) : ℝ := Q (ix5 (bt t) (pos (qb t) p) (hd t) ⟨d.val / 64, by omega⟩ ⟨d.val % 64, by omega⟩)
def kR (t : Fin cfg0.N) (k : Fin 16384) (d : Fin 128) : ℝ := K (ix5 (bt t) k (hd t) ⟨d.val / 64, by omega⟩ ⟨d.val % 64, by omega⟩)
def vR (t : Fin cfg0.N) (k : Fin 16384) (c : Fin 256) : ℝ := if h : c.val < 128 then W (ix4 (bt t) k (hd t) ⟨c.val, h⟩) else 1
def bR (t : Fin cfg0.N) (n : Fin 6) (p : Fin 1024) (k : Fin 512) : ℝ :=
  T (ix2 (row (bucket (word (((n.val : ℤ) - 2) * 512 + (k.val : ℕ) - p.val)))) (hd t)) - T (ix2 (row (bucket (word (-1024)))) (hd t))

/-! ## A half's quotient is the softmax's average -/

theorem masked (f g : Fin 2 → Fin 64 → ℝ) (κ : ℝ) (h : Fin 2) :
    ∑ d : Fin 128, (if d.val / 64 = h.val then f ⟨d.val / 64, by omega⟩ ⟨d.val % 64, by omega⟩ * κ else 0) * g ⟨d.val / 64, by omega⟩ ⟨d.val % 64, by omega⟩
      = (∑ e, f h e * g h e) * κ := by
  have e : ∑ x : Fin 2 × Fin 64, (if x.1 = h then f x.1 x.2 * κ else 0) * g x.1 x.2
      = ∑ d : Fin 128, (if d.val / 64 = h.val then f ⟨d.val / 64, by omega⟩ ⟨d.val % 64, by omega⟩ * κ else 0) * g ⟨d.val / 64, by omega⟩ ⟨d.val % 64, by omega⟩ := by
    refine Fintype.sum_equiv (finProdFinEquiv (m := 2) (n := 64)) _ _ fun x => ?_
    obtain ⟨a, b⟩ := x
    have e1 : (⟨(finProdFinEquiv (m := 2) (n := 64) (a, b)).val / 64, by have := (finProdFinEquiv (m := 2) (n := 64) (a, b)).isLt; omega⟩ : Fin 2) = a :=
      Fin.ext (by show (b.val + 64 * a.val) / 64 = a.val; omega)
    have e2 : (⟨(finProdFinEquiv (m := 2) (n := 64) (a, b)).val % 64, by omega⟩ : Fin 64) = b :=
      Fin.ext (by show (b.val + 64 * a.val) % 64 = b.val; omega)
    show _ = (if (finProdFinEquiv (m := 2) (n := 64) (a, b)).val / 64 = h.val then _ else _) * _
    rw [e1, e2, show (finProdFinEquiv (m := 2) (n := 64) (a, b)).val / 64 = a.val from congrArg Fin.val e1]
    simp only [Fin.ext_iff]
  rw [← e, Fintype.sum_prod_type, Finset.sum_eq_single h]
  · simp only [if_true, Finset.sum_mul]
    exact Finset.sum_congr rfl fun x _ => by ring
  · intro a _ ha; simp [ha]
  · intro ha; exact absurd (Finset.mem_univ _) ha

theorem bsel_val (q j : ℕ) : (((bsel q j).val : ℕ) : ℤ) - 2 = max (-2) (min 3 ((j : ℤ) - (q : ℤ) * 2)) := by
  show (((max (-2) (min 3 ((j : ℤ) - (q : ℤ) * 2)) + 2).toNat : ℕ) : ℤ) - 2 = _
  rw [Int.toNat_of_nonneg (by omega)]; omega

theorem score_exp (t : Fin cfg0.N) (h : Fin 2) (p : Fin 1024) (k : Fin 16384) :
    (2 : ℝ) ^ score (qR Q t) (kR K t) (bR T t) (bsel (grid0.coords t (2 : Fin 3)).val (k.val / 512)) h p k
      = Real.exp (logit Q K T (bt t) (hd t) h (pos (qb t) p) k) * Real.exp (-T (ix2 (row (bucket (word (-1024)))) (hd t))) := by
  rw [logit, ← two_pow_log2e, score]
  have eb : bR T t (bsel (grid0.coords t (2 : Fin 3)).val (k.val / 512)) p ⟨k.val % 512, by omega⟩
      = T (ix2 (row (bucket (word ((k.val : ℤ) - ((pos (qb t) p).val : ℤ))))) (hd t)) - T (ix2 (row (bucket (word (-1024)))) (hd t)) := by
    rw [bR, coord2, bsel_val]
    exact congrArg (fun z => T (ix2 (row z) (hd t)) - T (ix2 (row (bucket (word (-1024)))) (hd t))) (band (qb t) p k)
  rw [eb]
  refine congrArg (fun z => (2 : ℝ) ^ (z + _)) ?_
  exact masked (fun a e => Q (ix5 (bt t) (pos (qb t) p) (hd t) a e)) (fun a e => K (ix5 (bt t) k (hd t) a e)) _ h

end Cert.KernelIdeal.Blk

end
-- ==== Proof.AttnArgs.lean ====
/-
  A point's blocks are the reals of the argument arrays.
-/
module

public import proofs.«01_k».proof.Proof.AttnSpec
public import proofs.«01_k».proof.Proof.AttnHost
public import proofs.«01_k».proof.Proof.AttnCols
public import proofs.«01_k».proof.Proof.AttnReal
public import Idealize.ShloMosaic.Lib.IdealHost

@[expose] public section

noncomputable section

namespace Cert.KernelIdeal.Blk

open Cert.KernelIdeal.Att hiding word
open Cert.KernelIdeal Cert.KernelIdeal.Gen Cert.Bucket Cert.Spec Cert.AttnMath
open Idealize.ShloMosaic Idealize.ShloMosaic.TcCoe Idealize.ShloMosaic.ValueIdx
open Idealize.SL.Sem
open scoped BigOperators

variable (m : (ℓ : Loc nD τ sig) → Buf (Elt Ideal) ℓ)

variable (c : Dev nD) (Q K : S2x16384x4x2x64.Idx → ℝ) (W : S2x16384x4x128.Idx → ℝ) (T : S32x4.Idx → ℝ)

theorem blk2 (hq : ∀ i, (m ((c : Thread nD τ).loc main_arg0) : S2x16384x4x2x64.Idx → EReal) i = ((Q i : ℝ) : EReal)) (t : Fin cfg0.N) (p : Fin 1024) (d : Fin 128) :
    (iblk m c 2 t : S1x1024x128.Idx → EReal) (ix3 0 p d) = ((qR Q t p d : ℝ) : EReal) := by
  show (V m c main_v116 : S2x16384x512.Idx → EReal) (((cfg0.win 2).blk t).view.emb (ix3 0 p d : S1x1024x128.Idx)) = _
  rw [emb2, V116, heads_apply, hq]; rfl

theorem blk3 (hk : ∀ i, (m ((c : Thread nD τ).loc main_arg1) : S2x16384x4x2x64.Idx → EReal) i = ((K i : ℝ) : EReal)) (t : Fin cfg0.N) (k : Fin 16384) (d : Fin 128) :
    (iblk m c 3 t : S1x16384x128.Idx → EReal) (ix3 0 k d) = ((kR K t k d : ℝ) : EReal) := by
  show (V m c main_v118 : S2x16384x512.Idx → EReal) (((cfg0.win 3).blk t).view.emb (ix3 0 k d : S1x16384x128.Idx)) = _
  rw [emb3, V118, heads_apply, hk]; rfl

theorem read4 (f : S2x16384x1024.Idx → EReal) (t : Fin cfg0.N) (j : S1x16384x256.Idx) :
    ((cfg0.win 4).blk t).view.read (Elt Ideal) f j = f (((cfg0.win 4).blk t).view.emb j) := rfl

theorem vR_val (t : Fin cfg0.N) (k : Fin 16384) (d : Fin 256) (h : d.val < 128) : vR W t k d = W (ix4 (bt t) k (hd t) ⟨d.val, h⟩) := dif_pos h

theorem vR_one (t : Fin cfg0.N) (k : Fin 16384) (d : Fin 256) (h : ¬ d.val < 128) : vR W t k d = 1 := dif_neg h

theorem blk4 (hv : ∀ i, (m ((c : Thread nD τ).loc main_arg2) : S2x16384x4x128.Idx → EReal) i = ((W i : ℝ) : EReal)) (t : Fin cfg0.N) (k : Fin 16384) (d : Fin 256) :
    (iblk m c 4 t : S1x16384x256.Idx → EReal) (ix3 0 k d) = ((vR W t k d : ℝ) : EReal) := by
  unfold iblk
  refine (read4 (V m c main_v122) t (ix3 0 k d)).trans ?_
  rw [emb4, V122]
  by_cases h : d.val < 128
  · exact (aug_value (m ((c : Thread nD τ).loc main_arg2)) (bt t) k (hd t) d h).trans ((hv _).trans (congrArg _ (vR_val W t k d h).symm))
  · exact (aug_one (m ((c : Thread nD τ).loc main_arg2)) (bt t) k (hd t) d (by omega)).trans (congrArg _ (vR_one W t k d h).symm)

theorem blk5 (ht : ∀ i, (m ((c : Thread nD τ).loc main_arg6) : S32x4.Idx → EReal) i = ((T i : ℝ) : EReal)) (t : Fin cfg0.N) (n : Fin 6) (p : Fin 1024) (k : Fin 512) :
    (iblk m c 5 t : S1x6x1024x512.Idx → EReal) (ix4 0 n p k) = ((bR T t n p k : ℝ) : EReal) := by
  show (V m c main_v92 : S4x6x1024x512.Idx → EReal) (((cfg0.win 5).blk t).view.emb (ix4 0 n p k : S1x6x1024x512.Idx)) = _
  rw [emb5, V92, tiles_apply, ht, ht, bR]
  exact (EReal.coe_sub _ _).symm

theorem blk1 (t : Fin cfg0.N) : (iblk m c 1 t : S1.Idx → EReal) (ix1 0) = lamT (m ((c : Thread nD τ).loc main_arg4)) ix0 := by
  show (V m c main_v112 : S1.Idx → EReal) (((cfg0.win 1).blk t).view.emb (ix1 0 : S1.Idx)) = _
  rw [emb1, V112]
  exact shapeCast_apply _ _ _ ix0 rfl

theorem blk6 (t : Fin cfg0.N) (d : Fin 128) : (iblk m c 6 t : S1x128.Idx → EReal) (ix2 0 d) = (m ((c : Thread nD τ).loc main_arg5) : S1x128.Idx → EReal) (ix2 0 d) := by
  show (V m c main_v114 : S1x128.Idx → EReal) (((cfg0.win 6).blk t).view.emb (ix2 0 d : S1x128.Idx)) = _
  rw [emb6, V114]
  refine Eq.trans (broadcastInDim_apply _ _ _ (ix2 0 d : S1x128.Idx) (ix1 d) fun a => ?_) ?_
  · match a with | ⟨0, _⟩ => rfl
  · exact shapeCast_1a_a_apply _ _ d

end Cert.KernelIdeal.Blk

end
-- ==== Proof.AttnFinal.lean ====
/-
  The attention's result array: each of its entries is the attention of the argument arrays' rows.
-/
module

public import proofs.«01_k».proof.Proof.AttnSpec
public import proofs.«01_k».proof.Proof.AttnHost
public import proofs.«01_k».proof.Proof.AttnArgs
public import Idealize.ShloMosaic.Lib.IdealHost

@[expose] public section

noncomputable section

namespace Cert.KernelIdeal.Blk

open Cert.KernelIdeal.Att hiding word
open Cert.KernelIdeal Cert.KernelIdeal.Gen Cert.Bucket Cert.Spec Cert.AttnMath
open Idealize.ShloMosaic Idealize.ShloMosaic.TcCoe Idealize.ShloMosaic.ValueIdx
open Idealize.SL.Sem
open scoped BigOperators

variable (m : (ℓ : Loc nD τ sig) → Buf (Elt Ideal) ℓ)

variable (c : Dev nD) (Q K : S2x16384x4x2x64.Idx → ℝ) (W : S2x16384x4x128.Idx → ℝ) (T : S32x4.Idx → ℝ)

theorem quo_half (hq : ∀ i, (m ((c : Thread nD τ).loc main_arg0) : S2x16384x4x2x64.Idx → EReal) i = ((Q i : ℝ) : EReal))
    (hk : ∀ i, (m ((c : Thread nD τ).loc main_arg1) : S2x16384x4x2x64.Idx → EReal) i = ((K i : ℝ) : EReal))
    (hv : ∀ i, (m ((c : Thread nD τ).loc main_arg2) : S2x16384x4x128.Idx → EReal) i = ((W i : ℝ) : EReal))
    (ht : ∀ i, (m ((c : Thread nD τ).loc main_arg6) : S32x4.Idx → EReal) i = ((T i : ℝ) : EReal))
    (t : Fin cfg0.N) (h : Fin 2) (p : Fin 1024) (d : Fin 128) :
    quo (accO (grid0.coords t) (iblk m c 0 t) (iblk m c 2 t) (iblk m c 3 t) (iblk m c 4 t) (iblk m c 5 t)) h p d
      = ((half Q K W T (bt t) (hd t) h (pos (qb t) p) d : ℝ) : EReal) := by
  unfold quo
  rw [quotient (grid0.coords t) (iblk m c 2 t) (iblk m c 3 t) (iblk m c 4 t) (iblk m c 5 t) (qR Q t) (kR K t) (vR W t) (bR T t) (iblk m c 0 t)
    (blk2 m c Q hq t) (blk3 m c K hk t) (blk4 m c W hv t) (blk5 m c T ht t) (fun k e he => dif_neg (by omega)) h p ⟨d.val, by omega⟩ ⟨128 + d.val, by omega⟩ (by show 128 ≤ 128 + d.val; omega)]
  have e : ∀ k, vR W t k ⟨d.val, by omega⟩ = W (ix4 (bt t) k (hd t) d) := fun k => dif_pos d.isLt
  simp only [e]
  exact congrArg _ (att_two _ _ _ _ (score_exp Q K T t h p))

/-- The result array is any that holds the attention's entries. -/
theorem final14 (hq : ∀ i, (m ((c : Thread nD τ).loc main_arg0) : S2x16384x4x2x64.Idx → EReal) i = ((Q i : ℝ) : EReal))
    (hk : ∀ i, (m ((c : Thread nD τ).loc main_arg1) : S2x16384x4x2x64.Idx → EReal) i = ((K i : ℝ) : EReal))
    (hv : ∀ i, (m ((c : Thread nD τ).loc main_arg2) : S2x16384x4x128.Idx → EReal) i = ((W i : ℝ) : EReal))
    (ht : ∀ i, (m ((c : Thread nD τ).loc main_arg6) : S32x4.Idx → EReal) i = ((T i : ℝ) : EReal))
    (R : S2x16384x512.Idx → EReal) (hR : ∀ b s a (d : Fin 128), R (ix3 b s ⟨a.val * 128 + d.val, by omega⟩)
      = entry Q K W T (lamT (m ((c : Thread nD τ).loc main_arg4)) ix0) (fun d => (m ((c : Thread nD τ).loc main_arg5) : S1x128.Idx → EReal) (ix2 0 d)) b a s d) :
    (dats m 0 c).arrAt 14 cfg0.N = R := by
  refine (dats m 0 c).arrAt_eq_of_cover 14 R (fun t _ => ?_) (fun i => ?_)
  · show (cfg0.win 14).cut (grid0.coords t) ((dats m 0 c).after 14 t) = _
    rw [after_14]
    funext i
    obtain ⟨o, p, d, rfl⟩ : ∃ (o : Fin 1) (p : Fin 1024) (d : Fin 128), i = (ix3 o p d : S1x1024x128.Idx) := ⟨i 0, i 1, i 2, eq_ix3 i⟩
    obtain rfl : o = 0 := Subsingleton.elim _ _
    show outB m c t (ix3 0 p d) = R (((cfg0.win 14).blk t).view.emb (ix3 0 p d : S1x1024x128.Idx))
    rw [emb14, hR, outB, outOf_apply, entry]
    simp only [quo_half m c Q K W T hq hk hv ht, blk1, blk6]
  · obtain ⟨b, s, j, rfl⟩ : ∃ (b : Fin 2) (s : Fin 16384) (j : Fin 512), i = ix3 b s j := ⟨i 0, i 1, i 2, eq_ix3 i⟩
    have ht : j.val / 128 * 32 + b.val * 16 + s.val / 1024 < cfg0.N := by show _ < 128; omega
    refine ⟨⟨_, ht⟩, flush0_14 _, ?_⟩
    have h := ((cfg0.win 14).blk (⟨_, ht⟩ : Fin cfg0.N)).view.emb_mem_set (ix3 0 ⟨s.val % 1024, by omega⟩ ⟨j.val % 128, by omega⟩ : S1x1024x128.Idx)
    rw [emb14] at h
    have e0 : bt (⟨_, ht⟩ : Fin cfg0.N) = b := Fin.ext (by show (j.val / 128 * 32 + b.val * 16 + s.val / 1024) / 16 % 2 = b.val; omega)
    have e1 : pos (qb (⟨_, ht⟩ : Fin cfg0.N)) ⟨s.val % 1024, by omega⟩ = s :=
      Fin.ext (by show (j.val / 128 * 32 + b.val * 16 + s.val / 1024) % 16 * 1024 + s.val % 1024 = s.val; omega)
    have e2 : (⟨(hd (⟨_, ht⟩ : Fin cfg0.N)).val * 128 + j.val % 128, by omega⟩ : Fin 512) = j :=
      Fin.ext (by show (j.val / 128 * 32 + b.val * 16 + s.val / 1024) / 32 * 128 + j.val % 128 = j.val; omega)
    rw [e0, e1] at h
    exact (congrArg (fun z => (ix3 b s z : S2x16384x512.Idx) ∈ _) e2).mp h

end Cert.KernelIdeal.Blk

end
-- ==== Proof.AttnFinite.lean ====
/-
  Finite arguments are reals, and so is the weight of the difference made of them.
-/
module

public import proofs.«01_k».proof.Pre_finite_arguments
public import proofs.«01_k».proof.Proof.AttnHost
public import proofs.«01_k».proof.Proof.AttnMath
public import Idealize.ShloMosaic.Lib.IdealHost

@[expose] public section

noncomputable section

namespace Cert.KernelIdeal.Blk

open Cert.KernelIdeal Cert.KernelIdeal.Gen Cert.AttnMath Idealize.ShloMosaic Idealize.ShloMosaic.ValueIdx
open scoped BigOperators

/-- The predicate's shape relations hold. -/
theorem finite_facts : Cert.Pre_finite_arguments.Facts where
  bcast_S_S2x16384x4x2x64 := by decide
  bcast_S_S2x16384x4x128 := by decide
  bcast_S_S1x4x64 := by decide
  bcast_S_S32x4 := by decide

theorem top_f32 : Ideal.ofBits .f32 0x7F800000#32 = ⊤ := by simp [Ideal.ofBits, Ideal.ieee]

/-- A value whose absolute value is below infinity is a real. -/
theorem real_of_lt (x : EReal) (h : max x (-x) < ⊤) : x = ((x.toReal : ℝ) : EReal) := by
  refine (EReal.coe_toReal ?_ ?_).symm
  · rintro rfl; simp at h
  · rintro rfl; simp at h

theorem real_of_cmp (x y : EReal) (hy : y = ⊤) (h : Ideal.cmp .olt (max x (-x)) y = 1#1) : x = ((x.toReal : ℝ) : EReal) := by
  subst hy
  refine real_of_lt x ?_
  by_contra hn
  rw [Ideal.cmp, decide_eq_false hn] at h
  exact absurd h (by decide)

/-- An array all of whose absolute values are below infinity is one of reals. -/
theorem real_of_all {s : Shape} (hb : Cert.Pre_finite_arguments.S_.BroadcastsInDim s (![] : Fin 0 → Fin s.rank)) (x : FVec Ideal s .f32)
    (h : cmpf .olt (Host.absf x) (broadcastInDim s ![] hb (constant (F := Ideal) Cert.Pre_finite_arguments.S_ .f32 0x7F800000#32)) = fun _ => 1#1) (i : s.Idx) :
    x i = (((x i).toReal : ℝ) : EReal) :=
  real_of_cmp (x i) _ ((broadcastInDim_scalar_apply _ _ _).trans top_f32) (congrFun h i)

/-- An array of reals. -/
def Reals {s : Shape} (x : s.Idx → EReal) : Prop := ∀ i, ∃ r : ℝ, x i = (r : EReal)

theorem reals_sum (l : FVec Ideal S64 .f32) (hl : Reals l) (r : S64.ReducesTo [0] S_) (hu : 0 < S_.numel) :
    Reals (Host.reduceAdd l (constant S_ .f32 0x00000000#32) r hu) := by
  intro i
  choose f hf using hl
  rw [hostReduceAdd_apply, Ideal.hostReduceAdd_total _ (fun b => b.elim0), Finset.sum_congr rfl fun j _ => hf j, coe_sum]
  refine ⟨∑ j, f j, ?_⟩
  show Ideal.ofBits .f32 0x00000000#32 + _ = _
  rw [Ideal.ofBits_zero_f32, zero_add]

theorem fifth_real : ∃ r : ℝ, Ideal.ofBits .f32 0x3E4CCCCD#32 = (r : EReal) := by
  simp [Ideal.ofBits, Ideal.ieee]
  exact ⟨_, rfl⟩

theorem reals_mul {s : Shape} {x y : FVec Ideal s .f32} (hx : Reals x) (hy : Reals y) : Reals (mulf x y) := fun i => by
  obtain ⟨a, ha⟩ := hx i; obtain ⟨b, hb⟩ := hy i
  exact ⟨a * b, (congrArg₂ (· * ·) ha hb).trans (EReal.coe_mul a b).symm⟩

theorem reals_sub {s : Shape} {x y : FVec Ideal s .f32} (hx : Reals x) (hy : Reals y) : Reals (subf x y) := fun i => by
  obtain ⟨a, ha⟩ := hx i; obtain ⟨b, hb⟩ := hy i
  exact ⟨a - b, (congrArg₂ (· - ·) ha hb).trans (EReal.coe_sub a b).symm⟩

theorem reals_add {s : Shape} {x y : FVec Ideal s .f32} (hx : Reals x) (hy : Reals y) : Reals (addf x y) := fun i => by
  obtain ⟨a, ha⟩ := hx i; obtain ⟨b, hb⟩ := hy i
  exact ⟨a + b, (congrArg₂ (· + ·) ha hb).trans (EReal.coe_add a b).symm⟩

theorem reals_exp {s : Shape} {x : FVec Ideal s .f32} (hx : Reals x) : Reals (Host.exp x) := fun i => by
  obtain ⟨a, ha⟩ := hx i
  exact ⟨Real.exp a, congrArg Ideal.exp ha⟩

theorem reals_cast {s t : Shape} {x : FVec Ideal s .f32} (h : s.ShapeCasts t) (hx : Reals x) : Reals (shapeCast t x h) := fun _ => hx _

theorem reals_slice {s t : Shape} {x : FVec Ideal s .f32} (o : Fin s.rank → ℕ) (h : s.Slices o t) (hx : Reals x) : Reals (extractStridedSlice t o x h) := fun _ => hx _

/-- The weight of the difference is a real when its arguments are. -/
theorem lam_real (x : FVec Ideal S1x4x64 .f32) (hx : Reals x) : ∃ μ : ℝ, lamT x ix0 = (μ : EReal) := by
  have h4 := reals_cast shapeCasts_S1x4x64_S4x64 hx
  refine reals_add (reals_sub (reals_exp (reals_sum _ (reals_mul ?_ ?_) _ _)) (reals_exp (reals_sum _ (reals_mul ?_ ?_) _ _))) (fun _ => fifth_real) ix0
  all_goals exact reals_cast _ (reals_slice _ _ h4)

end Cert.KernelIdeal.Blk

end
-- ==== Proof.AttnRef.lean ====
/-
  The attention's reference over the ideal values, read at an entry.
-/
module

public import proofs.«01_k».proof.Proof.AttnSpec
public import proofs.«01_k».proof.Proof.AttnHost
public import proofs.«01_k».proof.Proof.Gen.ReferenceIdeal.Run
public import Idealize.ShloMosaic.Lib.KernelVsHost
public import Idealize.ShloMosaic.Lib.MatmulPlain

@[expose] public section

noncomputable section

namespace Cert.ReferenceIdeal.Blk

open Cert.ReferenceIdeal Cert.ReferenceIdeal.Gen Cert.ReferenceIdeal.Value Cert.Bucket Cert.Spec Cert.MlpRow
open Cert.KernelIdeal.Blk (buckets buckets_apply lamT normedOut)
open Idealize.ShloMosaic Idealize.ShloMosaic.TcCoe Idealize.ShloMosaic.ValueIdx Idealize.SL.Sem
open scoped BigOperators

/-- The differences of positions, key less query. -/
def relT : IVec S16384x16384 32 :=
  subi (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The bias of each head at each pair of positions. -/
def biasT (t : FVec Ideal S32x4 .f32) : FVec Ideal S4x16384x16384 .f32 :=
  transpose S4x16384x16384 [2, 0, 1] (Host.gather gather_S32x4_S16384x16384x1_S16384x16384x4_2_0_n_n_0_2_14 t
    (broadcastInDim S16384x16384x1 ![0, 1] bcast_S16384x16384_S16384x16384x1_0_1 (buckets S16384x16384 bcast_S_S16384x16384 relT))) transposes_S16384x16384x4_S4x16384x16384_2_0_1

/-- The logits. -/
def logitT (q k : FVec Ideal S2x16384x4x2x64 .f32) (t : FVec Ideal S32x4 .f32) : FVec Ideal S2x4x2x16384x16384 .f32 :=
  addf (mulf (Host.dotGeneral dot_S2x16384x4x2x64_S2x16384x4x2x64_S2x4x2x16384x16384_4_4_1_1_023_023 none q k)
      (broadcastInDim S2x4x2x16384x16384 ![] bcast_S_S2x4x2x16384x16384 (constant S_ .f32 0x3E000000#32)))
    (broadcastInDim S2x4x2x16384x16384 ![0, 1, 2, 3, 4] bcast_S1x4x1x16384x16384_S2x4x2x16384x16384_0_1_2_3_4
      (broadcastInDim S1x4x1x16384x16384 ![1, 3, 4] bcast_S4x16384x16384_S1x4x1x16384x16384_1_3_4 (biasT t)))

/-- The logits' greatest. -/
def maxT (l : FVec Ideal S2x4x2x16384x16384 .f32) : FVec Ideal S2x4x2x16384 .f32 :=
  maximumf (broadcastInDim S2x4x2x16384 ![] bcast_S_S2x4x2x16384 (constant S_ .f32 0xFF800000#32))
    (Host.reduce FloatOps.maximumf l (constant S_ .f32 0xFF800000#32) reducesTo_S2x4x2x16384x16384_S2x4x2x16384_d4 h_S_)

/-- One row's number at each of its entries. -/
def spread (x : FVec Ideal S2x4x2x16384 .f32) : FVec Ideal S2x4x2x16384x16384 .f32 :=
  broadcastInDim S2x4x2x16384x16384 ![0, 1, 2, 3, 4] bcast_S2x4x2x16384x1_S2x4x2x16384x16384_0_1_2_3_4
    (broadcastInDim S2x4x2x16384x1 ![0, 1, 2, 3] bcast_S2x4x2x16384_S2x4x2x16384x1_0_1_2_3 x)

/-- The exponentials. -/
def expT (l : FVec Ideal S2x4x2x16384x16384 .f32) : FVec Ideal S2x4x2x16384x16384 .f32 := Host.exp (subf l (spread (maxT l)))

/-- The weights. -/
def softT (l : FVec Ideal S2x4x2x16384x16384 .f32) : FVec Ideal S2x4x2x16384x16384 .f32 :=
  Host.divf (expT l) (spread (Host.reduceAdd (expT l) (constant S_ .f32 0x00000000#32) reducesTo_S2x4x2x16384x16384_S2x4x2x16384_d4 h_S_))

/-- The difference of the halves' weights. -/
def diffT (p : FVec Ideal S2x4x2x16384x16384 .f32) (lam : FVec Ideal S_ .f32) : FVec Ideal S2x4x16384x16384 .f32 :=
  subf (shapeCast S2x4x16384x16384 (extractStridedSlice S2x4x1x16384x16384 ![0, 0, 0, 0, 0] p slices_S2x4x2x16384x16384_S2x4x1x16384x16384_0_0_0_0_0) shapeCasts_S2x4x1x16384x16384_S2x4x16384x16384)
    (mulf (broadcastInDim S2x4x16384x16384 ![] bcast_S_S2x4x16384x16384 lam)
      (shapeCast S2x4x16384x16384 (extractStridedSlice S2x4x1x16384x16384 ![0, 0, 1, 0, 0] p slices_S2x4x2x16384x16384_S2x4x1x16384x16384_0_0_1_0_0) shapeCasts_S2x4x1x16384x16384_S2x4x16384x16384))

/-- The weighted values. -/
def sumT (v : FVec Ideal S2x16384x4x128 .f32) (w : FVec Ideal S2x4x16384x16384 .f32) : FVec Ideal S2x16384x4x128 .f32 :=
  transpose S2x16384x4x128 [0, 3, 1, 2] (Host.dotGeneral dot_S2x16384x4x128_S2x4x16384x16384_S2x4x128x16384_1_3_3_2_02_01 none v w) transposes_S2x4x128x16384_S2x16384x4x128_0_3_1_2

/-- Each head's normalizer. -/
def nrmT (o : FVec Ideal S2x16384x4x128 .f32) : FVec Ideal S2x16384x4x1 .f32 := Host.rsqrt (addf (Host.divf (broadcastInDim S2x16384x4x1 ![0, 1, 2] bcast_S2x16384x4_S2x16384x4x1_0_1_2
    (Host.reduceAdd (mulf o o) (constant S_ .f32 0x00000000#32) reducesTo_S2x16384x4x128_S2x16384x4_d3 h_S_))
  (broadcastInDim S2x16384x4x1 ![] bcast_S_S2x16384x4x1 (constant S_ .f32 0x43000000#32))) (broadcastInDim S2x16384x4x1 ![] bcast_S_S2x16384x4x1 (constant S_ .f32 0x358637BD#32)))

/-- The norm. -/
def normT (o : FVec Ideal S2x16384x4x128 .f32) (w : FVec Ideal S1x128 .f32) : FVec Ideal S2x16384x4x128 .bf16 :=
  truncf .bf16 (mulf (mulf (mulf o (broadcastInDim S2x16384x4x128 ![0, 1, 2, 3] bcast_S2x16384x4x1_S2x16384x4x128_0_1_2_3 (nrmT o)))
      (broadcastInDim S2x16384x4x128 ![0, 1, 2, 3] bcast_S1x1x1x128_S2x16384x4x128_0_1_2_3 (broadcastInDim S1x1x1x128 ![3] bcast_S128_S1x1x1x128_3 (shapeCast S128 w shapeCasts_S1x128_S128))))
    (broadcastInDim S2x16384x4x128 ![] bcast_S_S2x16384x4x128 (constant S_ .f32 0x3F4CCCCD#32))) bitsLt_bf16_f32

set_option maxRecDepth 8192 in
theorem res_eq (m : (ℓ : Loc nD τ sig) → Buf (Elt Ideal) ℓ) (c : Dev nD) : res_main_v92 m c
    = shapeCast S2x16384x512 (normT (sumT (m ((c.tc : Thread nD τ).loc main_arg2)) (diffT (softT (logitT (m ((c.tc : Thread nD τ).loc main_arg0)) (m ((c.tc : Thread nD τ).loc main_arg1)) (m ((c.tc : Thread nD τ).loc main_arg6))))
        (lamT (m ((c.tc : Thread nD τ).loc main_arg4))))) (m ((c.tc : Thread nD τ).loc main_arg5))) shapeCasts_S2x16384x4x128_S2x16384x512 := rfl

end Cert.ReferenceIdeal.Blk

end
-- ==== Proof.AttnRefVal.lean ====
/-
  The attention's reference at an entry is the differential attention of the argument arrays' real numbers.
-/
module

public import proofs.«01_k».proof.Proof.AttnRef

@[expose] public section

noncomputable section

namespace Cert.ReferenceIdeal.Blk

open Cert.ReferenceIdeal Cert.ReferenceIdeal.Gen Cert.ReferenceIdeal.Value Cert.Bucket Cert.Spec Cert.MlpRow Cert.AttnMath
open Cert.KernelIdeal.Blk (buckets buckets_apply lamT normedOut)
open Idealize.ShloMosaic Idealize.ShloMosaic.TcCoe Idealize.ShloMosaic.ValueIdx Idealize.SL.Sem
open scoped BigOperators

theorem gatherR (x : S32x4.Idx → EReal) (idx : IVec S16384x16384x1 32) (s k : Fin 16384) (h : Fin 4) :
    Host.gather gather_S32x4_S16384x16384x1_S16384x16384x4_2_0_n_n_0_2_14 x idx (ix3 s k h) = x (ix2 (row (idx (ix3 s k 0))) h) := by
  unfold Host.gather
  congr 1
  funext a
  refine Fin.ext ?_
  set D := gather_S32x4_S16384x16384x1_S16384x16384x4_2_0_n_n_0_2_14
  show D.start (ix3 s k h) idx a + D.batchCoord (ix3 s k h) a + D.offCoord (ix3 s k h) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin 2) ∈ D.startIndexMap from List.mem_singleton.mpr rfl)]
    have hsi : D.siIdx (ix3 s k h) ⟨List.idxOf (⟨0, h0⟩ : Fin 2) D.startIndexMap, List.idxOf_lt_length_iff.2 (List.mem_singleton.mpr rfl)⟩ = ix3 s k 0 := by
      funext b; refine Fin.ext ?_
      match b with
      | ⟨0, _⟩ => rfl
      | ⟨1, _⟩ => rfl
      | ⟨2, _⟩ => rfl
    rw [hsi]
    rfl
  | ⟨1, h1⟩ =>
    unfold GatherDims.start
    rw [dif_neg (show ¬ (⟨1, h1⟩ : Fin 2) ∈ D.startIndexMap from fun h => absurd (congrArg Fin.val (List.mem_singleton.mp h)) Nat.one_ne_zero)]
    show 0 + 0 + _ = h.val
    rw [zero_add, zero_add]
    rfl

theorem relT_apply (s k : Fin 16384) : relT (ix2 s k) = word ((k.val : ℤ) - (s.val : ℤ)) := by
  show IntOp.subi (broadcastInDim S16384x16384 _ _ _ (ix2 s k)) (broadcastInDim S16384x16384 _ _ _ (ix2 s k)) = _
  rw [broadcastInDim_apply _ bcast_S1x16384_S16384x16384_0_1 _ (ix2 s k) (ix2 0 k) (fun a => match a with | ⟨0, _⟩ => rfl | ⟨1, _⟩ => rfl),
    broadcastInDim_apply _ bcast_S16384_S1x16384_1 _ (ix2 0 k) (ix1 k) (fun a => match a with | ⟨0, _⟩ => rfl),
    broadcastInDim_apply _ bcast_S16384x1_S16384x16384_0_1 _ (ix2 s k) (ix2 s 0) (fun a => match a with | ⟨0, _⟩ => rfl | ⟨1, _⟩ => rfl),
    broadcastInDim_apply _ bcast_S16384_S16384x1_0 _ (ix2 s 0) (ix1 s) (fun a => match a with | ⟨0, _⟩ => rfl)]
  show BitVec.ofNat 32 k.val - BitVec.ofNat 32 s.val = _
  rw [word, ← BitVec.ofInt_natCast, ← BitVec.ofInt_natCast, BitVec.sub_eq_add_neg, ← BitVec.ofInt_neg, ← BitVec.ofInt_add]
  congr 1

theorem biasT_apply (t : FVec Ideal S32x4 .f32) (a : Fin 4) (s k : Fin 16384) :
    biasT t (ix3 a s k) = t (ix2 (row (bucket (word ((k.val : ℤ) - (s.val : ℤ))))) a) := by
  unfold biasT
  refine Eq.trans (b := Host.gather gather_S32x4_S16384x16384x1_S16384x16384x4_2_0_n_n_0_2_14 t
    (broadcastInDim S16384x16384x1 ![0, 1] bcast_S16384x16384_S16384x16384x1_0_1 (buckets S16384x16384 bcast_S_S16384x16384 relT)) (ix3 s k a)) ?_ ?_
  · exact transpose_apply _ _ _ _ _ (fun a => match a with | ⟨0, _⟩ => rfl | ⟨1, _⟩ => rfl | ⟨2, _⟩ => rfl)
  rw [gatherR, broadcastInDim_apply _ bcast_S16384x16384_S16384x16384x1_0_1 _ (ix3 s k 0) (ix2 s k) (fun a => match a with | ⟨0, _⟩ => rfl | ⟨1, _⟩ => rfl),
    buckets_apply, relT_apply]

theorem dotQK (q k : FVec Ideal S2x16384x4x2x64 .f32) (b : Fin 2) (a : Fin 4) (h : Fin 2) (s t : Fin 16384) :
    Host.dotGeneral dot_S2x16384x4x2x64_S2x16384x4x2x64_S2x4x2x16384x16384_4_4_1_1_023_023 none q k (ix5 b a h s t) = ∑ e : Fin 64, q (ix5 b s a h e) * k (ix5 b t a h e) := by
  simp only [Host.dotGeneral]
  set D := dot_S2x16384x4x2x64_S2x16384x4x2x64_S2x4x2x16384x16384_4_4_1_1_023_023
  have hr : D.contr.rank = 1 := rfl
  have hs : D.contr.size ⟨0, by rw [hr]; exact Nat.one_pos⟩ = 64 := rfl
  rw [Ideal.dotGeneral_apply, ← Equiv.sum_comp (contrEquiv1 D 64 hr hs).symm]
  refine Finset.sum_congr rfl fun e _ => ?_
  have hk := contrEquiv1_symm_val D 64 hr hs e
  have el : D.lhsIdx (ix5 b a h s t) ((contrEquiv1 D 64 hr hs).symm e) = ix5 b s a h e := by
    funext i; apply Fin.ext
    match i with
    | ⟨0, _⟩ => rfl
    | ⟨1, _⟩ => rfl
    | ⟨2, _⟩ => rfl
    | ⟨3, _⟩ => rfl
    | ⟨4, _⟩ => exact hk
  have er : D.rhsIdx (ix5 b a h s t) ((contrEquiv1 D 64 hr hs).symm e) = ix5 b t a h e := by
    funext i; apply Fin.ext
    match i with
    | ⟨0, _⟩ => rfl
    | ⟨1, _⟩ => rfl
    | ⟨2, _⟩ => rfl
    | ⟨3, _⟩ => rfl
    | ⟨4, _⟩ => exact hk
  rw [el, er]

theorem sumT_apply (v : FVec Ideal S2x16384x4x128 .f32) (w : FVec Ideal S2x4x16384x16384 .f32) (b : Fin 2) (s : Fin 16384) (a : Fin 4) (d : Fin 128) :
    sumT v w (ix4 b s a d) = ∑ k : Fin 16384, v (ix4 b k a d) * w (ix4 b a s k) := by
  unfold sumT
  refine (transpose_apply _ _ _ _ (ix4 b a d s) (fun a => match a with | ⟨0, _⟩ => rfl | ⟨1, _⟩ => rfl | ⟨2, _⟩ => rfl | ⟨3, _⟩ => rfl)).trans ?_
  simp only [Host.dotGeneral]
  set D := dot_S2x16384x4x128_S2x4x16384x16384_S2x4x128x16384_1_3_3_2_02_01
  have hr : D.contr.rank = 1 := rfl
  have hs : D.contr.size ⟨0, by rw [hr]; exact Nat.one_pos⟩ = 16384 := rfl
  rw [Ideal.dotGeneral_apply, ← Equiv.sum_comp (contrEquiv1 D 16384 hr hs).symm]
  refine Finset.sum_congr rfl fun e _ => ?_
  have hk := contrEquiv1_symm_val D 16384 hr hs e
  have el : D.lhsIdx (ix4 b a d s) ((contrEquiv1 D 16384 hr hs).symm e) = ix4 b e a d := by
    funext i; apply Fin.ext
    match i with
    | ⟨0, _⟩ => rfl
    | ⟨1, _⟩ => exact hk
    | ⟨2, _⟩ => rfl
    | ⟨3, _⟩ => rfl
  have er : D.rhsIdx (ix4 b a d s) ((contrEquiv1 D 16384 hr hs).symm e) = ix4 b a s e := by
    funext i; apply Fin.ext
    match i with
    | ⟨0, _⟩ => rfl
    | ⟨1, _⟩ => rfl
    | ⟨2, _⟩ => rfl
    | ⟨3, _⟩ => exact hk
  rw [el, er]

theorem eighth : Ideal.ofBits .f32 0x3E000000#32 = ((1 / 8 : ℝ) : EReal) := by
  simp [Ideal.ofBits, Ideal.ieee, -EReal.coe_mul]; norm_num

section
variable {q k : FVec Ideal S2x16384x4x2x64 .f32} {v : FVec Ideal S2x16384x4x128 .f32} {t : FVec Ideal S32x4 .f32}
variable {Q K : S2x16384x4x2x64.Idx → ℝ} {W : S2x16384x4x128.Idx → ℝ} {T : S32x4.Idx → ℝ}

theorem logitT_apply (hq : ∀ i, q i = (Q i : EReal)) (hk : ∀ i, k i = (K i : EReal)) (ht : ∀ i, t i = (T i : EReal)) (b : Fin 2) (a : Fin 4) (h : Fin 2) (s j : Fin 16384) :
    logitT q k t (ix5 b a h s j) = ((logit Q K T b a h s j : ℝ) : EReal) := by
  show Host.dotGeneral _ none q k (ix5 b a h s j) * broadcastInDim S2x4x2x16384x16384 _ bcast_S_S2x4x2x16384x16384 _ (ix5 b a h s j)
    + broadcastInDim S2x4x2x16384x16384 _ _ _ (ix5 b a h s j) = _
  rw [dotQK, broadcastInDim_scalar_apply,
    broadcastInDim_apply _ bcast_S1x4x1x16384x16384_S2x4x2x16384x16384_0_1_2_3_4 _ (ix5 b a h s j) (ix5 0 a 0 s j) (fun a => match a with | ⟨0, _⟩ => rfl | ⟨1, _⟩ => rfl | ⟨2, _⟩ => rfl | ⟨3, _⟩ => rfl | ⟨4, _⟩ => rfl),
    broadcastInDim_apply _ bcast_S4x16384x16384_S1x4x1x16384x16384_1_3_4 _ (ix5 0 a 0 s j) (ix3 a s j) (fun a => match a with | ⟨0, _⟩ => rfl | ⟨1, _⟩ => rfl | ⟨2, _⟩ => rfl),
    biasT_apply, ht, sum_mul_coe Finset.univ _ _ (fun e => Q (ix5 b s a h e)) (fun e => K (ix5 b j a h e)) (fun e => hq _) (fun e => hk _)]
  show _ * Ideal.ofBits .f32 0x3E000000#32 + _ = _
  rw [eighth, ← EReal.coe_mul, ← EReal.coe_add]
  rfl

theorem lift5 {n0 n1 n2 n3 n4 : ℕ} (h' : Shape.Reduces ⟨5, ![n0, n1, n2, n3, n4]⟩ [4] ⟨4, ![n0, n1, n2, n3]⟩) (b : Fin n0) (a : Fin n1) (h : Fin n2) (s : Fin n3) (j : Fin n4) :
    h'.lift (ix4 b a h s) j = ix5 b a h s j := by
  funext i; apply Fin.ext
  match i with
  | ⟨0, _⟩ => rfl
  | ⟨1, _⟩ => rfl
  | ⟨2, _⟩ => rfl
  | ⟨3, _⟩ => rfl
  | ⟨4, _⟩ => rfl

/-- A row's maximum. -/
theorem rowmax5 {n0 n1 n2 n3 n4 : ℕ} (l : FVec Ideal ⟨5, ![n0, n1, n2, n3, n4]⟩ .f32) (r : Shape.ReducesTo ⟨5, ![n0, n1, n2, n3, n4]⟩ [4] ⟨4, ![n0, n1, n2, n3]⟩)
    (h' : Shape.Reduces ⟨5, ![n0, n1, n2, n3, n4]⟩ [4] ⟨4, ![n0, n1, n2, n3]⟩) (hu : 0 < S_.numel) (b : Fin n0) (a : Fin n1) (h : Fin n2) (s : Fin n3) :
    Host.reduce FloatOps.maximumf l (constant S_ .f32 0xFF800000#32) r hu (ix4 b a h s)
      = (Finset.univ : Finset (Fin n4)).fold max (Ideal.ofBits .f32 0xFF800000#32) (fun j => l (ix5 b a h s j)) := by
  refine (congrFun (hostReduce_maximumf_eq_multiReduction l 0xFF800000#32 r hu h' (.inl rfl) rfl) _).trans ((Ideal.multiReduction_maximumf_single _ _ _ _ _ _).trans ?_)
  exact congrArg (fun f => Finset.fold max (Ideal.ofBits .f32 0xFF800000#32) f Finset.univ) (funext fun j => congrArg l (lift5 h' b a h s j))

/-- A row's sum. -/
theorem rowsum5 {n0 n1 n2 n3 n4 : ℕ} (l : FVec Ideal ⟨5, ![n0, n1, n2, n3, n4]⟩ .f32) (r : Shape.ReducesTo ⟨5, ![n0, n1, n2, n3, n4]⟩ [4] ⟨4, ![n0, n1, n2, n3]⟩)
    (h' : Shape.Reduces ⟨5, ![n0, n1, n2, n3, n4]⟩ [4] ⟨4, ![n0, n1, n2, n3]⟩) (hu : 0 < S_.numel) (b : Fin n0) (a : Fin n1) (h : Fin n2) (s : Fin n3) :
    Host.reduceAdd l (constant S_ .f32 0x00000000#32) r hu (ix4 b a h s) = ∑ j : Fin n4, l (ix5 b a h s j) := by
  rw [hostReduceAdd_apply, Ideal.hostReduceAdd_single _ h']
  show Ideal.ofBits .f32 0x00000000#32 + _ = _
  rw [Ideal.ofBits_zero_f32, zero_add]
  exact Finset.sum_congr rfl fun j _ => congrArg l (lift5 h' b a h s j)

theorem red5 : S2x4x2x16384x16384.Reduces [4] S2x4x2x16384 := by decide

theorem max_apply {s : Shape} (x y : FVec Ideal s .f32) (i : s.Idx) : maximumf x y i = max (x i) (y i) := rfl
theorem divf_apply {s : Shape} (x y : FVec Ideal s .f32) (i : s.Idx) : Host.divf x y i = Ideal.div (x i) (y i) := rfl
theorem expsub_apply {s : Shape} (x y : FVec Ideal s .f32) (i : s.Idx) : Host.exp (subf x y) i = Ideal.exp (x i - y i) := rfl

theorem fold_real {n : ℕ} (L : Fin n → ℝ) (j₀ : Fin n) :
    ∃ M : ℝ, max (Ideal.ofBits .f32 0xFF800000#32) ((Finset.univ : Finset (Fin n)).fold max (Ideal.ofBits .f32 0xFF800000#32) (fun j => (L j : EReal))) = (M : EReal) := by
  have hb : (Ideal.ofBits .f32 0xFF800000#32 : EReal) < ⊤ := by simp [Ideal.ofBits, Ideal.ieee]
  refine ⟨_, (EReal.coe_toReal ?_ ?_).symm⟩
  · exact (max_lt hb ((Finset.fold_max_lt ⊤).2 ⟨hb, fun j _ => EReal.coe_lt_top _⟩)).ne
  · refine (lt_of_lt_of_le (EReal.bot_lt_coe (L j₀)) (le_trans ?_ (le_max_right _ _))).ne'
    exact (Finset.le_fold_max _).2 (Or.inr ⟨j₀, Finset.mem_univ _, le_rfl⟩)

theorem maxT_real (l : FVec Ideal S2x4x2x16384x16384 .f32) (b : Fin 2) (a : Fin 4) (h : Fin 2) (s : Fin 16384) (L : Fin 16384 → ℝ)
    (hl : ∀ j, l (ix5 b a h s j) = (L j : EReal)) : ∃ M : ℝ, maxT l (ix4 b a h s) = (M : EReal) := by
  obtain ⟨M, hM⟩ := fold_real L 0
  refine ⟨M, ?_⟩
  rw [← hM, maxT, max_apply, broadcastInDim_scalar_apply, rowmax5 l _ red5, show (fun j => (L j : EReal)) = fun j => l (ix5 b a h s j) from funext fun j => (hl j).symm]
  rfl

theorem spread_apply (x : FVec Ideal S2x4x2x16384 .f32) (b : Fin 2) (a : Fin 4) (h : Fin 2) (s j : Fin 16384) : spread x (ix5 b a h s j) = x (ix4 b a h s) := by
  unfold spread
  rw [broadcastInDim_apply _ bcast_S2x4x2x16384x1_S2x4x2x16384x16384_0_1_2_3_4 _ (ix5 b a h s j) (ix5 b a h s 0) (fun a => match a with | ⟨0, _⟩ => rfl | ⟨1, _⟩ => rfl | ⟨2, _⟩ => rfl | ⟨3, _⟩ => rfl | ⟨4, _⟩ => rfl),
    broadcastInDim_apply _ bcast_S2x4x2x16384_S2x4x2x16384x1_0_1_2_3 _ (ix5 b a h s 0) (ix4 b a h s) (fun a => match a with | ⟨0, _⟩ => rfl | ⟨1, _⟩ => rfl | ⟨2, _⟩ => rfl | ⟨3, _⟩ => rfl)]

theorem softT_apply (l : FVec Ideal S2x4x2x16384x16384 .f32) (b : Fin 2) (a : Fin 4) (h : Fin 2) (s : Fin 16384) (L : Fin 16384 → ℝ)
    (hl : ∀ j, l (ix5 b a h s j) = (L j : EReal)) :
    ∃ M : ℝ, ∀ j, softT l (ix5 b a h s j) = ((Real.exp (L j - M) / (∑ i, Real.exp (L i - M)) : ℝ) : EReal) := by
  obtain ⟨M, hM⟩ := maxT_real l b a h s L hl
  have he : ∀ j, expT l (ix5 b a h s j) = ((Real.exp (L j - M) : ℝ) : EReal) := fun j => by
    rw [expT, expsub_apply, spread_apply, hM, hl, ← EReal.coe_sub, Ideal.exp_coe]
  refine ⟨M, fun j => ?_⟩
  have hp : (∑ i, Real.exp (L i - M)) ≠ 0 := (Finset.sum_pos (fun i _ => Real.exp_pos _) ⟨0, Finset.mem_univ _⟩).ne'
  rw [softT, divf_apply, spread_apply, he, rowsum5 _ _ red5, Finset.sum_congr rfl fun i _ => he i, coe_sum]
  rw [Ideal.div_coe hp, ← EReal.coe_mul, mul_one_div]

theorem diffT_apply (p : FVec Ideal S2x4x2x16384x16384 .f32) (lam : FVec Ideal S_ .f32) (b : Fin 2) (a : Fin 4) (s j : Fin 16384) :
    diffT p lam (ix4 b a s j) = p (ix5 b a 0 s j) - lam ix0 * p (ix5 b a 1 s j) := by
  show shapeCast _ _ _ (ix4 b a s j) - broadcastInDim _ _ _ _ (ix4 b a s j) * shapeCast _ _ _ (ix4 b a s j) = _
  rw [broadcastInDim_scalar_apply,
    shapeCast_apply _ _ (ix4 b a s j) (ix5 b a 0 s j : S2x4x1x16384x16384.Idx) (by rw [Shape.rowMajor_val_four, Shape.rowMajor_val_five]; show ((((b.val * 4 + a.val) * 1 + 0) * 16384 + s.val) * 16384 + j.val) = ((b.val * 4 + a.val) * 16384 + s.val) * 16384 + j.val; omega),
    shapeCast_apply _ _ (ix4 b a s j) (ix5 b a 0 s j : S2x4x1x16384x16384.Idx) (by rw [Shape.rowMajor_val_four, Shape.rowMajor_val_five]; show ((((b.val * 4 + a.val) * 1 + 0) * 16384 + s.val) * 16384 + j.val) = ((b.val * 4 + a.val) * 16384 + s.val) * 16384 + j.val; omega)]
  refine congrArg₂ (· - lam ix0 * ·) ?_ ?_
  · exact extractStridedSlice_apply _ _ _ _ (ix5 b a 0 s j) (fun i => match i with
      | ⟨0, _⟩ => (Nat.zero_add _).symm | ⟨1, _⟩ => (Nat.zero_add _).symm | ⟨2, _⟩ => rfl | ⟨3, _⟩ => (Nat.zero_add _).symm | ⟨4, _⟩ => (Nat.zero_add _).symm)
  · exact extractStridedSlice_apply _ _ _ _ (ix5 b a 1 s j) (fun i => match i with
      | ⟨0, _⟩ => (Nat.zero_add _).symm | ⟨1, _⟩ => (Nat.zero_add _).symm | ⟨2, _⟩ => rfl | ⟨3, _⟩ => (Nat.zero_add _).symm | ⟨4, _⟩ => (Nat.zero_add _).symm)

theorem mixed_apply (hq : ∀ i, q i = (Q i : EReal)) (hk : ∀ i, k i = (K i : EReal)) (hv : ∀ i, v i = (W i : EReal)) (ht : ∀ i, t i = (T i : EReal))
    (lam : FVec Ideal S_ .f32) (μ : ℝ) (hlam : lam ix0 = (μ : EReal)) (b : Fin 2) (a : Fin 4) (s : Fin 16384) (d : Fin 128) :
    sumT v (diffT (softT (logitT q k t)) lam) (ix4 b s a d) = ((half Q K W T b a 0 s d : ℝ) : EReal) - (μ : EReal) * ((half Q K W T b a 1 s d : ℝ) : EReal) := by
  obtain ⟨M, hM⟩ := softT_apply (logitT q k t) b a 0 s _ (fun j => logitT_apply hq hk ht b a 0 s j)
  obtain ⟨N, hN⟩ := softT_apply (logitT q k t) b a 1 s _ (fun j => logitT_apply hq hk ht b a 1 s j)
  rw [sumT_apply, sum_mul_coe Finset.univ _ _ (fun j => W (ix4 b j a d)) (fun j => Real.exp (logit Q K T b a 0 s j - M) / (∑ i, Real.exp (logit Q K T b a 0 s i - M))
    - μ * (Real.exp (logit Q K T b a 1 s j - N) / (∑ i, Real.exp (logit Q K T b a 1 s i - N)))) (fun j => hv _)
    (fun j => by rw [diffT_apply, hM, hN, hlam, ← EReal.coe_mul, ← EReal.coe_sub]), half, half, ← att_shift _ _ M, ← att_shift _ _ N, ← EReal.coe_mul, ← EReal.coe_sub]
  refine congrArg _ ?_
  rw [Finset.mul_sum, ← Finset.sum_sub_distrib]
  exact Finset.sum_congr rfl fun j _ => by ring

end

theorem nrmT_apply (o : FVec Ideal S2x16384x4x128 .f32) (b : Fin 2) (s : Fin 16384) (a : Fin 4) :
    nrmT o (ix4 b s a 0) = nrm (Ideal.ofBits .f32 0x43000000#32) (fun d => o (ix4 b s a d)) := by
  show Ideal.rsqrt (Ideal.div (broadcastInDim S2x16384x4x1 _ bcast_S2x16384x4_S2x16384x4x1_0_1_2 _ (ix4 b s a 0)) (broadcastInDim S2x16384x4x1 _ bcast_S_S2x16384x4x1 _ (ix4 b s a 0))
    + broadcastInDim S2x16384x4x1 _ bcast_S_S2x16384x4x1 _ (ix4 b s a 0)) = _
  rw [broadcastInDim_scalar_apply, broadcastInDim_scalar_apply,
    broadcastInDim_apply _ _ _ (ix4 b s a 0 : S2x16384x4x1.Idx) (ix3 b s a) (fun i => match i with | ⟨0, _⟩ => rfl | ⟨1, _⟩ => rfl | ⟨2, _⟩ => rfl),
    hostReduceAdd_apply, Ideal.hostReduceAdd_single _ (by decide)]
  unfold nrm eps
  refine congrArg (fun z => Ideal.rsqrt (Ideal.div z _ + _)) ?_
  show Ideal.ofBits .f32 0x00000000#32 + _ = _
  rw [Ideal.ofBits_zero_f32, zero_add]
  refine Finset.sum_congr rfl fun k _ => ?_
  have l : (by decide : S2x16384x4x128.Reduces [3] S2x16384x4).lift (ix3 b s a) k = ix4 b s a k := by
    funext i; apply Fin.ext
    match i with
    | ⟨0, _⟩ => rfl
    | ⟨1, _⟩ => rfl
    | ⟨2, _⟩ => rfl
    | ⟨3, _⟩ => rfl
  show o _ * o _ = _
  exact congrArg (fun i => o i * o i) l

theorem normT_apply (o : FVec Ideal S2x16384x4x128 .f32) (w : FVec Ideal S1x128 .f32) (b : Fin 2) (s : Fin 16384) (a : Fin 4) (d : Fin 128) :
    normT o w (ix4 b s a d) = normedOut (fun d => o (ix4 b s a d)) (fun d => w (ix2 0 d)) d := by
  show o (ix4 b s a d) * broadcastInDim S2x16384x4x128 _ bcast_S2x16384x4x1_S2x16384x4x128_0_1_2_3 _ (ix4 b s a d)
    * broadcastInDim S2x16384x4x128 _ bcast_S1x1x1x128_S2x16384x4x128_0_1_2_3 _ (ix4 b s a d) * broadcastInDim S2x16384x4x128 _ bcast_S_S2x16384x4x128 _ (ix4 b s a d) = _
  rw [broadcastInDim_scalar_apply,
    broadcastInDim_apply _ bcast_S2x16384x4x1_S2x16384x4x128_0_1_2_3 _ (ix4 b s a d) (ix4 b s a 0) (fun i => match i with | ⟨0, _⟩ => rfl | ⟨1, _⟩ => rfl | ⟨2, _⟩ => rfl | ⟨3, _⟩ => rfl),
    nrmT_apply,
    broadcastInDim_apply _ bcast_S1x1x1x128_S2x16384x4x128_0_1_2_3 _ (ix4 b s a d) (ix4 0 0 0 d) (fun i => match i with | ⟨0, _⟩ => rfl | ⟨1, _⟩ => rfl | ⟨2, _⟩ => rfl | ⟨3, _⟩ => rfl),
    broadcastInDim_apply _ bcast_S128_S1x1x1x128_3 _ (ix4 0 0 0 d) (ix1 d) (fun i => match i with | ⟨0, _⟩ => rfl),
    shapeCast_1a_a_apply]
  rfl

/-- The reference's result at an entry. -/
theorem res_apply (m : (ℓ : Loc nD τ sig) → Buf (Elt Ideal) ℓ) (c : Dev nD) (Q K : S2x16384x4x2x64.Idx → ℝ) (W : S2x16384x4x128.Idx → ℝ) (T : S32x4.Idx → ℝ) (μ : ℝ)
    (hq : ∀ i, (m ((c.tc : Thread nD τ).loc main_arg0) : S2x16384x4x2x64.Idx → EReal) i = (Q i : EReal))
    (hk : ∀ i, (m ((c.tc : Thread nD τ).loc main_arg1) : S2x16384x4x2x64.Idx → EReal) i = (K i : EReal))
    (hv : ∀ i, (m ((c.tc : Thread nD τ).loc main_arg2) : S2x16384x4x128.Idx → EReal) i = (W i : EReal))
    (ht : ∀ i, (m ((c.tc : Thread nD τ).loc main_arg6) : S32x4.Idx → EReal) i = (T i : EReal))
    (hl : lamT (m ((c.tc : Thread nD τ).loc main_arg4)) ix0 = (μ : EReal)) (b : Fin 2) (s : Fin 16384) (a : Fin 4) (d : Fin 128) :
    (res_main_v92 m c : S2x16384x512.Idx → EReal) (ix3 b s ⟨a.val * 128 + d.val, by omega⟩)
      = entry Q K W T μ (fun d => (m ((c.tc : Thread nD τ).loc main_arg5) : S1x128.Idx → EReal) (ix2 0 d)) b a s d := by
  rw [res_eq]
  refine (shapeCast_apply _ _ _ (ix4 b s a d : S2x16384x4x128.Idx) ?_).trans ?_
  · rw [Shape.rowMajor_val_three, Shape.rowMajor_val_four]
    show ((b.val * 16384 + s.val) * 4 + a.val) * 128 + d.val = (b.val * 16384 + s.val) * 512 + (a.val * 128 + d.val)
    omega
  rw [normT_apply, entry]
  exact congrArg (fun o => normedOut o _ d) (funext fun d => mixed_apply hq hk hv ht _ μ hl b a s d)

end Cert.ReferenceIdeal.Blk

end
-- ==== Proof.AttnAlgebraic.lean ====
/-
  The attention's claims put together: the reference's frame, and kernel and reference ending at the same array.
-/
module

public import proofs.«01_k».proof.Defs
public import proofs.«01_k».proof.Proof.AttnFinal
public import proofs.«01_k».proof.Proof.AttnFinite
public import proofs.«01_k».proof.Proof.AttnRefVal
public import Idealize.ShloMosaic.Lib.Quiescent

@[expose] public section

noncomputable section

namespace Cert.KernelIdeal.Blk

open Cert.KernelIdeal Cert.KernelIdeal.Gen Cert.KernelIdeal.Att Idealize.ShloMosaic Idealize.ShloMosaic.TcCoe
open Idealize.SL Idealize.SL.Sem

variable (m : (ℓ : Loc nD τ sig) → Buf (Elt Ideal) ℓ) (ρ : Dev nD → PrngReg)

/-- The first result as the run leaves it. -/
theorem result14 (r : PUnit × MemSt nD τ sig (Elt Ideal))
    (h : Pipeline.RDat.FramePost cfg0 (fun c => (dats m 0 c).toRForget outW) (V m) r) (c : Dev nD) :
    r.2.mem ((c.tc : Thread nD τ).loc main_v128_0) = (dats m 0 c).arrAt 14 cfg0.N :=
  ((dats m 0 c).toRForget_arrAt_iff (fgt := outW) (w := 14) rfl cfg0.N _).mp ((h c).1 14)

set_option maxHeartbeats 2000000 in
/-- The run: the first result at the blocks written back, and the arguments as they were. -/
theorem run_result : θ_run defs (onTc (τ := τ) (main (F := Ideal))) ⟨m, fun _ => 0, ρ⟩ (fun r => ∀ c : Dev nD,
      r.2.mem ((c.tc : Thread nD τ).loc main_v128_0) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨result14 m _ h.1 c,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    kept_9 m _ h.1 c,
    kept_10 m _ h.1 c,
    ((h.1 c).2 main_arg11 (Pipeline.mem_restRefs_of main_arg11 (by decide) (by decide))).trans (V_main_arg11 m c)⟩) (run_main m ρ)

end Cert.KernelIdeal.Blk

namespace Cert.Proof

open Cert Idealize.ShloMosaic Idealize.ShloMosaic.TcCoe Idealize.ShloMosaic.ValueIdx Idealize.SL Idealize.SL.Sem
open Cert.KernelIdeal.Blk

/-- The reference runs, keeps its arguments and declares no counter. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- Kernel and reference end at the same array, of finite arguments. -/
theorem algebraic_kernel : Cert.algebraic_KernelIdeal_ReferenceIdeal_pre_finite_arguments (hPre_finite_arguments := finite_facts) := by
  intro m ρ m' ρ' hpre hag
  refine ⟨fun c => Cert.ReferenceIdeal.Value.res_main_v92 m' c, (θ_run Cert.KernelIdeal.defs _ _).mono (fun r h c => ?_) (run_result m ρ),
    (θ_run Cert.ReferenceIdeal.defs _ _).mono (fun r h c => h c) (Cert.ReferenceIdeal.Value.run m' ρ')⟩
  refine ⟨(h c).1.trans ?_, (h c).2⟩
  obtain ⟨p0, p1, p2, p4, p6⟩ := hpre c
  obtain ⟨a0, a1, a2, _, a4, a5, a6, _⟩ := hag c
  have hq := real_of_all _ (m ((c.tc : Thread Cert.KernelIdeal.nD Cert.KernelIdeal.τ).loc Cert.KernelIdeal.main_arg0)) p0
  have hk := real_of_all _ (m ((c.tc : Thread Cert.KernelIdeal.nD Cert.KernelIdeal.τ).loc Cert.KernelIdeal.main_arg1)) p1
  have hv := real_of_all _ (m ((c.tc : Thread Cert.KernelIdeal.nD Cert.KernelIdeal.τ).loc Cert.KernelIdeal.main_arg2)) p2
  have hd := real_of_all _ (m ((c.tc : Thread Cert.KernelIdeal.nD Cert.KernelIdeal.τ).loc Cert.KernelIdeal.main_arg4)) p4
  have ht := real_of_all _ (m ((c.tc : Thread Cert.KernelIdeal.nD Cert.KernelIdeal.τ).loc Cert.KernelIdeal.main_arg6)) p6
  obtain ⟨μ, hμ⟩ := lam_real (m ((c.tc : Thread Cert.KernelIdeal.nD Cert.KernelIdeal.τ).loc Cert.KernelIdeal.main_arg4)) (fun i => ⟨_, hd i⟩)
  refine final14 m c _ _ _ _ hq hk hv ht _ fun b s a d => ?_
  rw [hμ]
  have e := Cert.ReferenceIdeal.Blk.res_apply m' c _ _ _ _ μ (fun i => (congrFun a0 i).trans (hq i)) (fun i => (congrFun a1 i).trans (hk i))
    (fun i => (congrFun a2 i).trans (hv i)) (fun i => (congrFun a6 i).trans (ht i)) ((congrArg (fun x => lamT x ix0) a4).trans hμ) b s a d
  refine e.trans ?_
  exact congrArg (fun n => Cert.Spec.entry _ _ _ _ (μ : EReal) n b a s d) (funext fun d => congrFun a5 (ix2 0 d))

end Cert.Proof

end
-- ==== Proof.MlpFinal.lean ====
/-
  The MLP kernel's run over the ideal values: the result array is the row function of the argument arrays' rows.
-/
module

public import proofs.«01_k».proof.Proof.MlpBlock

@[expose] public section

noncomputable section

namespace Cert.MlpIdeal.Blk

open Cert.MlpIdeal Cert.MlpIdeal.Gen Cert.MlpIdeal.Value Cert.MlpRow Idealize.ShloMosaic Idealize.ShloMosaic.TcCoe Idealize.ShloMosaic.ValueIdx
open Idealize.SL.Sem
open scoped BigOperators

/-- The single matrix of a stack of one, by its entries. -/
def ent3 {a b : ℕ} (X : (⟨3, ![1, a, b]⟩ : Shape).Idx → EReal) (i : Fin a) (j : Fin b) : EReal := X (ix3 0 i j)

/-- The result as a function of the argument arrays. -/
def result (x : S32768x1024.Idx → EReal) (oa of ob gh : S32768x512.Idx → EReal) (hw : S1x128.Idx → EReal) (wo : S1x1024x1024.Idx → EReal)
    (mw : S1x1024.Idx → EReal) (w1 : S1x1024x4096.Idx → EReal) (w2 : S1x4096x1024.Idx → EReal) : S32768x1024.Idx → EReal :=
  fun i => row (ent x (i 0)) (ent oa (i 0)) (ent of (i 0)) (ent ob (i 0)) (ent gh (i 0)) (ent hw 0) (ent3 wo) (ent mw 0) (ent3 w1) (ent3 w2) (i 1)

variable (m : (ℓ : Loc nD τ sig) → Buf (Elt Ideal) ℓ) (ρ : Dev nD → PrngReg)

theorem V1 (c : Dev nD) : (V m c main_v1 : S1x128.Idx → EReal)
    = broadcastInDim S1x128 ![1] bcast_S128_S1x128_1 (shapeCast S128 (m ((c : Thread nD τ).loc main_arg5)) shapeCasts_S1x128_S128) := by
  unfold V; simp only [hostOps0]; after_results_simp <;> rfl
theorem V3 (c : Dev nD) : (V m c main_v3 : S1024x1024.Idx → EReal)
    = shapeCast S1024x1024 (m ((c : Thread nD τ).loc main_arg6)) shapeCasts_S1x1024x1024_S1024x1024 := by
  unfold V; simp only [hostOps0]; after_results_simp <;> rfl
theorem V5 (c : Dev nD) : (V m c main_v5 : S1x1024.Idx → EReal)
    = broadcastInDim S1x1024 ![1] bcast_S1024_S1x1024_1 (shapeCast S1024 (m ((c : Thread nD τ).loc main_arg7)) shapeCasts_S1x1024_S1024) := by
  unfold V; simp only [hostOps0]; after_results_simp <;> rfl
theorem V7 (c : Dev nD) : (V m c main_v7 : S1024x4096.Idx → EReal)
    = shapeCast S1024x4096 (m ((c : Thread nD τ).loc main_arg8)) shapeCasts_S1x1024x4096_S1024x4096 := by
  unfold V; simp only [hostOps0]; after_results_simp <;> rfl
theorem V9 (c : Dev nD) : (V m c main_v9 : S4096x1024.Idx → EReal)
    = shapeCast S4096x1024 (m ((c : Thread nD τ).loc main_arg9)) shapeCasts_S1x4096x1024_S4096x1024 := by
  unfold V; simp only [hostOps0]; after_results_simp <;> rfl

/-- Row `r` of row block `t`. -/
def rowOf (t : Fin cfg0.N) (r : Fin 512) : Fin 32768 := ⟨512 * t.val + r.val, by have : t.val < 64 := t.isLt; omega⟩

/-! A row block's index at a grid point is the point; a weight's block is its whole array. -/

theorem idx0 : ∀ t : Fin cfg0.N, win0_0.index t (0 : Fin 2) = t.val ∧ win0_0.index t (1 : Fin 2) = 0 :=
  (by decide +kernel : ∀ t : Fin grid0.N, _)

theorem emb0 (t : Fin cfg0.N) (r : Fin 512) (j : Fin 1024) :
    ((cfg0.win 0).blk t).view.emb (ix2 r j : (⟨2, ![512, 1024]⟩ : Shape).Idx) = (ix2 (rowOf t r) j : (⟨2, ![32768, 1024]⟩ : Shape).Idx) := by
  obtain ⟨e0, e1⟩ := idx0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * j.val = j.val; omega

theorem idx1 : ∀ t : Fin cfg0.N, win0_1.index t (0 : Fin 2) = t.val ∧ win0_1.index t (1 : Fin 2) = 0 :=
  (by decide +kernel : ∀ t : Fin grid0.N, _)

theorem emb1 (t : Fin cfg0.N) (r : Fin 512) (j : Fin 512) :
    ((cfg0.win 1).blk t).view.emb (ix2 r j : (⟨2, ![512, 512]⟩ : Shape).Idx) = (ix2 (rowOf t r) j : (⟨2, ![32768, 512]⟩ : Shape).Idx) := by
  obtain ⟨e0, e1⟩ := idx1 t
  funext a; apply Fin.ext
  match a with
  | ⟨0, _⟩ => show win0_1.index t (0 : Fin 2) * 512 + 1 * r.val = 512 * t.val + r.val; omega
  | ⟨1, _⟩ => show win0_1.index t (1 : Fin 2) * 512 + 1 * j.val = j.val; omega

theorem idx2 : ∀ t : Fin cfg0.N, win0_2.index t (0 : Fin 2) = t.val ∧ win0_2.index t (1 : Fin 2) = 0 :=
  (by decide +kernel : ∀ t : Fin grid0.N, _)

theorem emb2 (t : Fin cfg0.N) (r : Fin 512) (j : Fin 512) :
    ((cfg0.win 2).blk t).view.emb (ix2 r j : (⟨2, ![512, 512]⟩ : Shape).Idx) = (ix2 (rowOf t r) j : (⟨2, ![32768, 512]⟩ : Shape).Idx) := by
  obtain ⟨e0, e1⟩ := idx2 t
  funext a; apply Fin.ext
  match a with
  | ⟨0, _⟩ => show win0_2.index t (0 : Fin 2) * 512 + 1 * r.val = 512 * t.val + r.val; omega
  | ⟨1, _⟩ => show win0_2.index t (1 : Fin 2) * 512 + 1 * j.val = j.val; omega

theorem idx3 : ∀ t : Fin cfg0.N, win0_3.index t (0 : Fin 2) = t.val ∧ win0_3.index t (1 : Fin 2) = 0 :=
  (by decide +kernel : ∀ t : Fin grid0.N, _)

theorem emb3 (t : Fin cfg0.N) (r : Fin 512) (j : Fin 512) :
    ((cfg0.win 3).blk t).view.emb (ix2 r j : (⟨2, ![512, 512]⟩ : Shape).Idx) = (ix2 (rowOf t r) j : (⟨2, ![32768, 512]⟩ : Shape).Idx) := by
  obtain ⟨e0, e1⟩ := idx3 t
  funext a; apply Fin.ext
  match a with
  | ⟨0, _⟩ => show win0_3.index t (0 : Fin 2) * 512 + 1 * r.val = 512 * t.val + r.val; omega
  | ⟨1, _⟩ => show win0_3.index t (1 : Fin 2) * 512 + 1 * j.val = j.val; omega

theorem idx4 : ∀ t : Fin cfg0.N, win0_4.index t (0 : Fin 2) = t.val ∧ win0_4.index t (1 : Fin 2) = 0 :=
  (by decide +kernel : ∀ t : Fin grid0.N, _)

theorem emb4 (t : Fin cfg0.N) (r : Fin 512) (j : Fin 512) :
    ((cfg0.win 4).blk t).view.emb (ix2 r j : (⟨2, ![512, 512]⟩ : Shape).Idx) = (ix2 (rowOf t r) j : (⟨2, ![32768, 512]⟩ : Shape).Idx) := by
  obtain ⟨e0, e1⟩ := idx4 t
  funext a; apply Fin.ext
  match a with
  | ⟨0, _⟩ => show win0_4.index t (0 : Fin 2) * 512 + 1 * r.val = 512 * t.val + r.val; omega
  | ⟨1, _⟩ => show win0_4.index t (1 : Fin 2) * 512 + 1 * j.val = j.val; omega

theorem idx10 : ∀ t : Fin cfg0.N, win0_10.index t (0 : Fin 2) = t.val ∧ win0_10.index t (1 : Fin 2) = 0 :=
  (by decide +kernel : ∀ t : Fin grid0.N, _)

theorem emb10 (t : Fin cfg0.N) (r : Fin 512) (j : Fin 1024) :
    ((cfg0.win 10).blk t).view.emb (ix2 r j : (⟨2, ![512, 1024]⟩ : Shape).Idx) = (ix2 (rowOf t r) j : (⟨2, ![32768, 1024]⟩ : Shape).Idx) := by
  obtain ⟨e0, e1⟩ := idx10 t
  funext a; apply Fin.ext
  match a with
  | ⟨0, _⟩ => show win0_10.index t (0 : Fin 2) * 512 + 1 * r.val = 512 * t.val + r.val; omega
  | ⟨1, _⟩ => show win0_10.index t (1 : Fin 2) * 1024 + 1 * j.val = j.val; omega

theorem idx5 : ∀ t : Fin cfg0.N, win0_5.index t (0 : Fin 2) = 0 ∧ win0_5.index t (1 : Fin 2) = 0 :=
  (by decide +kernel : ∀ t : Fin grid0.N, _)

theorem emb5 (t : Fin cfg0.N) (j : S1x128.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

theorem idx6 : ∀ t : Fin cfg0.N, win0_6.index t (0 : Fin 2) = 0 ∧ win0_6.index t (1 : Fin 2) = 0 :=
  (by decide +kernel : ∀ t : Fin grid0.N, _)

theorem emb6 (t : Fin cfg0.N) (j : S1024x1024.Idx) : ((cfg0.win 6).blk t).view.emb j = j := by
  obtain ⟨e0, e1⟩ := idx6 t
  funext a; apply Fin.ext
  match a with
  | ⟨0, _⟩ => show win0_6.index t (0 : Fin 2) * 1024 + 1 * (j 0).val = (j 0).val; omega
  | ⟨1, _⟩ => show win0_6.index t (1 : Fin 2) * 1024 + 1 * (j 1).val = (j 1).val; omega

theorem idx7 : ∀ t : Fin cfg0.N, win0_7.index t (0 : Fin 2) = 0 ∧ win0_7.index t (1 : Fin 2) = 0 :=
  (by decide +kernel : ∀ t : Fin grid0.N, _)

theorem emb7 (t : Fin cfg0.N) (j : S1x1024.Idx) : ((cfg0.win 7).blk t).view.emb j = j := by
  obtain ⟨e0, e1⟩ := idx7 t
  funext a; apply Fin.ext
  match a with
  | ⟨0, _⟩ => show win0_7.index t (0 : Fin 2) * 1 + 1 * (j 0).val = (j 0).val; omega
  | ⟨1, _⟩ => show win0_7.index t (1 : Fin 2) * 1024 + 1 * (j 1).val = (j 1).val; omega

theorem idx8 : ∀ t : Fin cfg0.N, win0_8.index t (0 : Fin 2) = 0 ∧ win0_8.index t (1 : Fin 2) = 0 :=
  (by decide +kernel : ∀ t : Fin grid0.N, _)

theorem emb8 (t : Fin cfg0.N) (j : S1024x4096.Idx) : ((cfg0.win 8).blk t).view.emb j = j := by
  obtain ⟨e0, e1⟩ := idx8 t
  funext a; apply Fin.ext
  match a with
  | ⟨0, _⟩ => show win0_8.index t (0 : Fin 2) * 1024 + 1 * (j 0).val = (j 0).val; omega
  | ⟨1, _⟩ => show win0_8.index t (1 : Fin 2) * 4096 + 1 * (j 1).val = (j 1).val; omega

theorem idx9 : ∀ t : Fin cfg0.N, win0_9.index t (0 : Fin 2) = 0 ∧ win0_9.index t (1 : Fin 2) = 0 :=
  (by decide +kernel : ∀ t : Fin grid0.N, _)

theorem emb9 (t : Fin cfg0.N) (j : S4096x1024.Idx) : ((cfg0.win 9).blk t).view.emb j = j := by
  obtain ⟨e0, e1⟩ := idx9 t
  funext a; apply Fin.ext
  match a with
  | ⟨0, _⟩ => show win0_9.index t (0 : Fin 2) * 4096 + 1 * (j 0).val = (j 0).val; omega
  | ⟨1, _⟩ => show win0_9.index t (1 : Fin 2) * 1024 + 1 * (j 1).val = (j 1).val; omega

/-! A block's rows are the array's. -/

theorem blk0 (c : Dev nD) (t : Fin cfg0.N) (r : Fin 512) : ent (a := 512) (b := 1024) (iblk m c 0 t) r
    = ent (a := 32768) (b := 1024) (m ((c : Thread nD τ).loc main_arg0)) (rowOf t r) := by
  funext j
  show V m c main_arg0 (((cfg0.win 0).blk t).view.emb (ix2 r j : (⟨2, ![512, 1024]⟩ : Shape).Idx)) = _
  rw [V_main_arg0, emb0]; rfl

theorem blk1 (c : Dev nD) (t : Fin cfg0.N) (r : Fin 512) : ent (a := 512) (b := 512) (iblk m c 1 t) r
    = ent (a := 32768) (b := 512) (m ((c : Thread nD τ).loc main_arg1)) (rowOf t r) := by
  funext j
  show V m c main_arg1 (((cfg0.win 1).blk t).view.emb (ix2 r j : (⟨2, ![512, 512]⟩ : Shape).Idx)) = _
  rw [V_main_arg1, emb1]; rfl

theorem blk2 (c : Dev nD) (t : Fin cfg0.N) (r : Fin 512) : ent (a := 512) (b := 512) (iblk m c 2 t) r
    = ent (a := 32768) (b := 512) (m ((c : Thread nD τ).loc main_arg2)) (rowOf t r) := by
  funext j
  show V m c main_arg2 (((cfg0.win 2).blk t).view.emb (ix2 r j : (⟨2, ![512, 512]⟩ : Shape).Idx)) = _
  rw [V_main_arg2, emb2]; rfl

theorem blk3 (c : Dev nD) (t : Fin cfg0.N) (r : Fin 512) : ent (a := 512) (b := 512) (iblk m c 3 t) r
    = ent (a := 32768) (b := 512) (m ((c : Thread nD τ).loc main_arg3)) (rowOf t r) := by
  funext j
  show V m c main_arg3 (((cfg0.win 3).blk t).view.emb (ix2 r j : (⟨2, ![512, 512]⟩ : Shape).Idx)) = _
  rw [V_main_arg3, emb3]; rfl

theorem blk4 (c : Dev nD) (t : Fin cfg0.N) (r : Fin 512) : ent (a := 512) (b := 512) (iblk m c 4 t) r
    = ent (a := 32768) (b := 512) (m ((c : Thread nD τ).loc main_arg4)) (rowOf t r) := by
  funext j
  show V m c main_arg4 (((cfg0.win 4).blk t).view.emb (ix2 r j : (⟨2, ![512, 512]⟩ : Shape).Idx)) = _
  rw [V_main_arg4, emb4]; rfl

theorem blk5 (c : Dev nD) (t : Fin cfg0.N) : ent (a := 1) (b := 128) (iblk m c 5 t) 0
    = ent (a := 1) (b := 128) (m ((c : Thread nD τ).loc main_arg5)) 0 := by
  funext j
  show V m c main_v1 (((cfg0.win 5).blk t).view.emb (ix2 0 j : S1x128.Idx)) = _
  rw [emb5, V1]
  refine Eq.trans (broadcastInDim_apply _ _ _ (ix2 0 j : S1x128.Idx) (ix1 j) fun a => ?_) ?_
  · match a with | ⟨0, _⟩ => rfl
  · exact shapeCast_1a_a_apply _ _ j

theorem blk7 (c : Dev nD) (t : Fin cfg0.N) : ent (a := 1) (b := 1024) (iblk m c 7 t) 0
    = ent (a := 1) (b := 1024) (m ((c : Thread nD τ).loc main_arg7)) 0 := by
  funext j
  show V m c main_v5 (((cfg0.win 7).blk t).view.emb (ix2 0 j : S1x1024.Idx)) = _
  rw [emb7, V5]
  refine Eq.trans (broadcastInDim_apply _ _ _ (ix2 0 j : S1x1024.Idx) (ix1 j) fun a => ?_) ?_
  · match a with | ⟨0, _⟩ => rfl
  · exact shapeCast_1a_a_apply _ _ j

theorem blk6 (c : Dev nD) (t : Fin cfg0.N) : ent (a := 1024) (b := 1024) (iblk m c 6 t)
    = ent3 (a := 1024) (b := 1024) (m ((c : Thread nD τ).loc main_arg6)) := by
  funext i j
  show V m c main_v3 (((cfg0.win 6).blk t).view.emb (ix2 i j : S1024x1024.Idx)) = _
  rw [emb6, V3]
  exact shapeCast_1ab_ab_apply _ _ i j

theorem blk8 (c : Dev nD) (t : Fin cfg0.N) : ent (a := 1024) (b := 4096) (iblk m c 8 t)
    = ent3 (a := 1024) (b := 4096) (m ((c : Thread nD τ).loc main_arg8)) := by
  funext i j
  show V m c main_v7 (((cfg0.win 8).blk t).view.emb (ix2 i j : S1024x4096.Idx)) = _
  rw [emb8, V7]
  exact shapeCast_1ab_ab_apply _ _ i j

theorem blk9 (c : Dev nD) (t : Fin cfg0.N) : ent (a := 4096) (b := 1024) (iblk m c 9 t)
    = ent3 (a := 4096) (b := 1024) (m ((c : Thread nD τ).loc main_arg9)) := by
  funext i j
  show V m c main_v9 (((cfg0.win 9).blk t).view.emb (ix2 i j : S4096x1024.Idx)) = _
  rw [emb9, V9]
  exact shapeCast_1ab_ab_apply _ _ i j

/-- The result array of the argument arrays as launched. -/
def res (c : Dev nD) : S32768x1024.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem flushed_eq (c : Dev nD) (t : Fin cfg0.N) : (dats m 0 c).flushed 10 t = ((cfg0.win 10).blk t).view.read (Elt Ideal) (res m c) := by
  rw [flushed10]
  funext i
  obtain ⟨r, j, rfl⟩ : ∃ (r : Fin 512) (j : Fin 1024), i = (ix2 r j : S512x1024.Idx) := ⟨i 0, i 1, eq_ix2 i⟩
  show out0_10 (iblk m c 0 t) (iblk m c 1 t) (iblk m c 2 t) (iblk m c 3 t) (iblk m c 4 t) (iblk m c 5 t) (iblk m c 6 t) (iblk m c 7 t) (iblk m c 8 t) (iblk m c 9 t) (ix2 r j)
    = res m c (((cfg0.win 10).blk t).view.emb (ix2 r j : S512x1024.Idx))
  rw [out_apply, emb10]
  rw [blk0 m c t r, blk1 m c t r, blk2 m c t r, blk3 m c t r, blk4 m c t r, blk5 m c t, blk6 m c t, blk7 m c t, blk8 m c t, blk9 m c t]
  rfl

/-- Every index of the result array is in its row block's point. -/
theorem covered (i : S32768x1024.Idx) : ∃ t : Fin cfg0.N, (cfg0.win 10).flush t = true ∧ i ∈ ((cfg0.win 10).blk t).view.set := by
  obtain ⟨R, j, rfl⟩ : ∃ (R : Fin 32768) (j : Fin 1024), i = ix2 R j := ⟨i 0, i 1, eq_ix2 i⟩
  refine ⟨(⟨R.val / 512, by show R.val / 512 < 64; omega⟩ : Fin cfg0.N), flush0_10 _, ?_⟩
  have h := ((cfg0.win 10).blk (⟨R.val / 512, by show R.val / 512 < 64; omega⟩ : Fin cfg0.N)).view.emb_mem_set (ix2 ⟨R.val % 512, by omega⟩ j : S512x1024.Idx)
  rw [emb10] at h
  have e : rowOf (⟨R.val / 512, by show R.val / 512 < 64; omega⟩ : Fin cfg0.N) ⟨R.val % 512, by omega⟩ = R := Fin.ext (by show 512 * (R.val / 512) + R.val % 512 = R.val; omega)
  rwa [e] at h

theorem final (c : Dev nD) : (dats m 0 c).arrAt 10 cfg0.N = res m c :=
  (dats m 0 c).arrAt_eq_of_cover 10 (res m c) (fun t _ => flushed_eq m c t) covered

end Cert.MlpIdeal.Blk

end
-- ==== Proof.MlpRef.lean ====
/-
  The MLP part's reference over the ideal values: its composed term, read at an entry, is the row function of the
  argument arrays' rows.
-/
module

public import proofs.«01_k».proof.Proof.MlpFinal
public import proofs.«01_k».proof.Proof.Gen.MlpReferenceIdeal.Run
public import Idealize.ShloMosaic.Lib.StackMember
public import Idealize.ShloMosaic.Lib.IdealHost

@[expose] public section

noncomputable section

namespace Cert.MlpReferenceIdeal.Blk

open Cert.MlpReferenceIdeal Cert.MlpReferenceIdeal.Gen Cert.MlpReferenceIdeal.Value Cert.MlpRow Cert.MlpIdeal.Blk
open Idealize.ShloMosaic Idealize.ShloMosaic.TcCoe Idealize.ShloMosaic.ValueIdx Idealize.SL.Sem
open scoped BigOperators

section Head
variable (of ob gh : FVec Ideal S32768x512 .f32) (hw : FVec Ideal S1x128 .f32)

/-- The heads of the summed branches. -/
def oH : FVec Ideal S32768x4x128 .f32 := shapeCast S32768x4x128 (addf of ob) shapeCasts_S32768x512_S32768x4x128

/-- The heads' normalizers. -/
def rH : FVec Ideal S32768x4x1 .f32 := Host.rsqrt (addf (Host.divf (broadcastInDim S32768x4x1 ![0, 1] bcast_S32768x4_S32768x4x1_0_1
    (Host.reduceAdd (mulf (oH of ob) (oH of ob)) (constant S_ .f32 0x00000000#32) reducesTo_S32768x4x128_S32768x4_d2 h_S_))
  (broadcastInDim S32768x4x1 ![] bcast_S_S32768x4x1 (constant S_ .f32 0x43000000#32))) (broadcastInDim S32768x4x1 ![] bcast_S_S32768x4x1 (constant S_ .f32 0x358637BD#32)))

/-- The gates' heads. -/
def gH : FVec Ideal S32768x4x128 .f32 := shapeCast S32768x4x128 gh shapeCasts_S32768x512_S32768x4x128

/-- The gated heads. -/
def headR : FVec Ideal S32768x4x128 .f32 := mulf (mulf (mulf (oH of ob) (broadcastInDim S32768x4x128 ![0, 1, 2] bcast_S32768x4x1_S32768x4x128_0_1_2 (rH of ob)))
    (broadcastInDim S32768x4x128 ![0, 1, 2] bcast_S1x1x128_S32768x4x128_0_1_2 (broadcastInDim S1x1x128 ![2] bcast_S128_S1x1x128_2 (shapeCast S128 hw shapeCasts_S1x128_S128))))
  (mulf (gH gh) (Host.divf (broadcastInDim S32768x4x128 ![] bcast_S_S32768x4x128 (constant S_ .f32 0x3F800000#32))
    (addf (broadcastInDim S32768x4x128 ![] bcast_S_S32768x4x128 (constant S_ .f32 0x3F800000#32)) (Host.exp (Host.negf (gH gh))))))

/-- A row of four heads, by head and lane. -/
theorem split (X : S32768x512.Idx → EReal) (h : S32768x512.ShapeCasts S32768x4x128) (R : Fin 32768) (n : Fin 4) (d : Fin 128) :
    shapeCast S32768x4x128 X h (ix3 R n d) = heads (ent X R) n d := by
  refine shapeCast_apply X h _ (ix2 R ⟨128 * n.val + d.val, by omega⟩) ?_
  rw [Shape.rowMajor_val_three, Shape.rowMajor_val_two]
  show R.val * 512 + (128 * n.val + d.val) = (R.val * 4 + n.val) * 128 + d.val
  omega

theorem rH_apply (R : Fin 32768) (n : Fin 4) : rH of ob (ix3 R n 0) = nrm (Ideal.ofBits .f32 0x43000000#32) (heads (fun d => ent of R d + ent ob R d) n) := by
  show Ideal.rsqrt (Ideal.div (broadcastInDim S32768x4x1 _ bcast_S32768x4_S32768x4x1_0_1 _ (ix3 R n 0)) (broadcastInDim S32768x4x1 _ bcast_S_S32768x4x1 _ (ix3 R n 0))
    + broadcastInDim S32768x4x1 _ bcast_S_S32768x4x1 _ (ix3 R n 0)) = _
  rw [broadcastInDim_scalar_apply, broadcastInDim_scalar_apply,
    broadcastInDim_apply _ _ _ (ix3 R n 0 : S32768x4x1.Idx) (ix2 R n) (fun a => match a with | ⟨0, _⟩ => rfl | ⟨1, _⟩ => rfl),
    hostReduceAdd_apply, Ideal.hostReduceAdd_single _ (by decide)]
  unfold nrm eps
  refine congrArg (fun z => Ideal.rsqrt (Ideal.div z _ + _)) ?_
  show Ideal.ofBits .f32 0x00000000#32 + _ = _
  rw [Ideal.ofBits_zero_f32, zero_add]
  refine Finset.sum_congr rfl fun k _ => ?_
  have e : oH of ob (ix3 R n k) = heads (fun d => ent of R d + ent ob R d) n k := split _ _ R n k
  rw [← e]
  have l : (by decide : S32768x4x128.Reduces [2] S32768x4).lift (ix2 R n) k = ix3 R n k := by
    funext a; apply Fin.ext
    match a with
    | ⟨0, _⟩ => rfl
    | ⟨1, _⟩ => rfl
    | ⟨2, _⟩ => rfl
  show oH of ob _ * oH of ob _ = _
  exact congrArg (fun i => oH of ob i * oH of ob i) l

theorem headR_apply (R : Fin 32768) (n : Fin 4) (d : Fin 128) :
    headR of ob gh hw (ix3 R n d) = head (heads fun d => ent of R d + ent ob R d) (heads (ent gh R)) (ent hw 0) n d := by
  have e : oH of ob (ix3 R n d) = heads (fun d => ent of R d + ent ob R d) n d := split _ _ R n d
  have eg : gH gh (ix3 R n d) = heads (ent gh R) n d := split _ _ R n d
  show oH of ob (ix3 R n d) * broadcastInDim S32768x4x128 _ bcast_S32768x4x1_S32768x4x128_0_1_2 _ (ix3 R n d)
      * broadcastInDim S32768x4x128 _ bcast_S1x1x128_S32768x4x128_0_1_2 _ (ix3 R n d)
    * (gH gh (ix3 R n d) * Ideal.div (broadcastInDim S32768x4x128 _ bcast_S_S32768x4x128 _ (ix3 R n d))
        (broadcastInDim S32768x4x128 _ bcast_S_S32768x4x128 _ (ix3 R n d) + Ideal.exp (-(gH gh (ix3 R n d))))) = _
  rw [e, eg, broadcastInDim_scalar_apply,
    broadcastInDim_apply _ bcast_S32768x4x1_S32768x4x128_0_1_2 _ (ix3 R n d) (ix3 R n 0) (fun a => match a with | ⟨0, _⟩ => rfl | ⟨1, _⟩ => rfl | ⟨2, _⟩ => rfl),
    broadcastInDim_apply _ bcast_S1x1x128_S32768x4x128_0_1_2 _ (ix3 R n d) (ix3 0 0 d) (fun a => match a with | ⟨0, _⟩ => rfl | ⟨1, _⟩ => rfl | ⟨2, _⟩ => rfl),
    broadcastInDim_apply _ bcast_S128_S1x1x128_2 _ (ix3 0 0 d) (ix1 d) (fun a => match a with | ⟨0, _⟩ => rfl),
    shapeCast_1a_a_apply, rH_apply]
  show _ * _ * _ * (_ * Ideal.div (Ideal.ofBits .f32 0x3F800000#32) (Ideal.ofBits .f32 0x3F800000#32 + _)) = _
  rw [Ideal.ofBits_one_f32]
  rfl

end Head

section Rest
variable (x : FVec Ideal S32768x1024 .f32) (oa : FVec Ideal S32768x512 .bf16) (of ob gh : FVec Ideal S32768x512 .f32) (hw : FVec Ideal S1x128 .f32)
  (wo : FVec Ideal S1x1024x1024 .f32) (mw : FVec Ideal S1x1024 .f32) (w1 : FVec Ideal S1x1024x4096 .f32) (w2 : FVec Ideal S1x4096x1024 .f32)

/-- The attention's rows beside the gated heads'. -/
def catR : FVec Ideal S32768x1024 .f32 := concatenate S32768x1024 1 [⟨S32768x512, (extf .f32 oa bitsLt_bf16_f32)⟩,
  ⟨S32768x512, (shapeCast S32768x512 (headR of ob gh hw) shapeCasts_S32768x4x128_S32768x512)⟩] concatenates_S32768x512_S32768x512_S32768x1024_d1

theorem catR_apply (R : Fin 32768) (k : Fin 1024) :
    catR oa of ob gh hw (ix2 R k) = cat (ent oa R) (head (heads fun d => ent of R d + ent ob R d) (heads (ent gh R)) (ent hw 0)) k := by
  unfold catR cat
  by_cases h : k.val < 512
  · rw [dif_pos h]
    exact concatenate_pair_apply_left (s₁ := S32768x512) (s₂ := S32768x512) (1 : Fin 2) _ _ _ (ix2 R k) rfl (ix2 R ⟨k.val, h⟩) (fun b => match b with | ⟨0, _⟩ => rfl | ⟨1, _⟩ => rfl)
  · rw [dif_neg h]
    refine Eq.trans (concatenate_pair_apply_right (s₁ := S32768x512) (s₂ := S32768x512) (1 : Fin 2) _ _ _ (ix2 R k) rfl rfl (ix2 R ⟨k.val - 512, by omega⟩) ?_ ?_) ?_
    · intro b hb
      match b with
      | ⟨0, _⟩ => rfl
      | ⟨1, _⟩ => exact absurd rfl hb
    · show k.val - 512 + 512 = k.val; omega
    · refine (shapeCast_apply _ _ _ (ix3 R ⟨(k.val - 512) / 128, by omega⟩ ⟨(k.val - 512) % 128, by omega⟩) ?_).trans (headR_apply _ _ _ _ _ _ _)
      rw [Shape.rowMajor_val_three, Shape.rowMajor_val_two]
      show (R.val * 4 + (k.val - 512) / 128) * 128 + (k.val - 512) % 128 = R.val * 512 + (k.val - 512)
      omega

/-- The rows after the output projection. -/
def midR : FVec Ideal S32768x1024 .f32 := addf x (Host.dotGeneral dot_S32768x1024_S1024x1024_S32768x1024_1_0_0_1_n_n none (catR oa of ob gh hw)
  (shapeCast S1024x1024 wo shapeCasts_S1x1024x1024_S1024x1024))

theorem midR_apply (R : Fin 32768) : ent (midR x oa of ob gh hw wo) R
    = mid (ent x R) (cat (ent oa R) (head (heads fun d => ent of R d + ent ob R d) (heads (ent gh R)) (ent hw 0))) (ent3 wo) := by
  funext j
  show x (ix2 R j) + Host.dotGeneral (φ₁ := .f32) (φ₂ := .f32) (DotDims.plain 32768 1024 1024) none (catR oa of ob gh hw) (shapeCast S1024x1024 wo shapeCasts_S1x1024x1024_S1024x1024) (ix2 R j) = _
  rw [StackMember.dotGeneral_plain_apply]
  refine congrArg (x (ix2 R j) + ·) (Finset.sum_congr rfl fun k _ => ?_)
  rw [catR_apply, shapeCast_1ab_ab_apply]; rfl

/-- The normed rows of `y`. -/
def normR (y : FVec Ideal S32768x1024 .f32) : FVec Ideal S32768x1024 .f32 := mulf (mulf y (broadcastInDim S32768x1024 ![0, 1] bcast_S32768x1_S32768x1024_0_1
    (Host.rsqrt (addf (Host.divf (broadcastInDim S32768x1 ![0] bcast_S32768_S32768x1_0 (Host.reduceAdd (mulf y y) (constant S_ .f32 0x00000000#32) reducesTo_S32768x1024_S32768_d1 h_S_))
      (broadcastInDim S32768x1 ![] bcast_S_S32768x1 (constant S_ .f32 0x44800000#32))) (broadcastInDim S32768x1 ![] bcast_S_S32768x1 (constant S_ .f32 0x358637BD#32))))))
  (broadcastInDim S32768x1024 ![0, 1] bcast_S1x1024_S32768x1024_0_1 (broadcastInDim S1x1024 ![1] bcast_S1024_S1x1024_1 (shapeCast S1024 mw shapeCasts_S1x1024_S1024)))

theorem normR_apply (y : FVec Ideal S32768x1024 .f32) (R : Fin 32768) : ent (normR mw y) R = normed (ent y R) (ent mw 0) := by
  funext j
  show y (ix2 R j) * broadcastInDim S32768x1024 _ bcast_S32768x1_S32768x1024_0_1 _ (ix2 R j)
    * broadcastInDim S32768x1024 _ bcast_S1x1024_S32768x1024_0_1 _ (ix2 R j) = _
  rw [broadcastInDim_apply _ bcast_S32768x1_S32768x1024_0_1 _ (ix2 R j) (ix2 R 0) (fun a => match a with | ⟨0, _⟩ => rfl | ⟨1, _⟩ => rfl),
    broadcastInDim_apply _ bcast_S1x1024_S32768x1024_0_1 _ (ix2 R j) (ix2 0 j) (fun a => match a with | ⟨0, _⟩ => rfl | ⟨1, _⟩ => rfl),
    broadcastInDim_apply _ bcast_S1024_S1x1024_1 _ (ix2 0 j) (ix1 j) (fun a => match a with | ⟨0, _⟩ => rfl), shapeCast_1a_a_apply]
  refine congrArg (fun z => y (ix2 R j) * z * mw (ix2 0 j)) ?_
  show Ideal.rsqrt (Ideal.div (broadcastInDim S32768x1 _ bcast_S32768_S32768x1_0 _ (ix2 R 0)) (broadcastInDim S32768x1 _ bcast_S_S32768x1 _ (ix2 R 0))
    + broadcastInDim S32768x1 _ bcast_S_S32768x1 _ (ix2 R 0)) = _
  rw [broadcastInDim_scalar_apply, broadcastInDim_scalar_apply,
    broadcastInDim_apply _ bcast_S32768_S32768x1_0 _ (ix2 R 0) (ix1 R) (fun a => match a with | ⟨0, _⟩ => rfl),
    hostReduceAdd_apply, Ideal.hostReduceAdd_single _ (by decide)]
  unfold nrm eps
  refine congrArg (fun z => Ideal.rsqrt (Ideal.div z _ + _)) ?_
  show Ideal.ofBits .f32 0x00000000#32 + _ = _
  rw [Ideal.ofBits_zero_f32, zero_add]
  refine Finset.sum_congr rfl fun k _ => ?_
  have l : (by decide : S32768x1024.Reduces [1] S32768).lift (ix1 R) k = ix2 R k := by
    funext a; apply Fin.ext
    match a with
    | ⟨0, _⟩ => rfl
    | ⟨1, _⟩ => rfl
  exact congrArg (fun i => y i * y i) l

/-- The rectified first product. -/
def reluR (h : FVec Ideal S32768x1024 .f32) : FVec Ideal S32768x4096 .f32 := maximumf
  (Host.dotGeneral dot_S32768x1024_S1024x4096_S32768x4096_1_0_0_1_n_n none h (shapeCast S1024x4096 w1 shapeCasts_S1x1024x4096_S1024x4096))
  (broadcastInDim S32768x4096 ![] bcast_S_S32768x4096 (constant S_ .f32 0x00000000#32))

theorem reluR_apply (h : FVec Ideal S32768x1024 .f32) (R : Fin 32768) (f : Fin 4096) :
    reluR w1 h (ix2 R f) = max (∑ k, ent h R k * ent3 w1 k f) 0 := by
  show max (Host.dotGeneral (φ₁ := .f32) (φ₂ := .f32) (DotDims.plain 32768 1024 4096) none h (shapeCast S1024x4096 w1 shapeCasts_S1x1024x4096_S1024x4096) (ix2 R f))
    (broadcastInDim S32768x4096 _ bcast_S_S32768x4096 _ (ix2 R f)) = _
  rw [StackMember.dotGeneral_plain_apply, broadcastInDim_scalar_apply]
  show max _ (Ideal.ofBits .f32 0x00000000#32) = _
  rw [Ideal.ofBits_zero_f32]
  refine congrArg (max · 0) (Finset.sum_congr rfl fun k _ => ?_)
  rw [shapeCast_1ab_ab_apply]; rfl

/-- The reference's result over arrays. -/
def resR : FVec Ideal S32768x1024 .f32 := addf (midR x oa of ob gh hw wo) (Host.dotGeneral dot_S32768x4096_S4096x1024_S32768x1024_1_0_0_1_n_n none
  (mulf (reluR w1 (normR mw (midR x oa of ob gh hw wo))) (reluR w1 (normR mw (midR x oa of ob gh hw wo)))) (shapeCast S4096x1024 w2 shapeCasts_S1x4096x1024_S4096x1024))

theorem resR_eq : resR x oa of ob gh hw wo mw w1 w2 = result x oa of ob gh hw wo mw w1 w2 := by
  funext i
  obtain ⟨R, j, rfl⟩ : ∃ (R : Fin 32768) (j : Fin 1024), i = ix2 R j := ⟨i 0, i 1, eq_ix2 i⟩
  show ent (midR x oa of ob gh hw wo) R j + Host.dotGeneral (φ₁ := .f32) (φ₂ := .f32) (DotDims.plain 32768 4096 1024) none
    (mulf (reluR w1 (normR mw (midR x oa of ob gh hw wo))) (reluR w1 (normR mw (midR x oa of ob gh hw wo)))) (shapeCast S4096x1024 w2 shapeCasts_S1x4096x1024_S4096x1024) (ix2 R j)
    = row (ent x R) (ent oa R) (ent of R) (ent ob R) (ent gh R) (ent hw 0) (ent3 wo) (ent mw 0) (ent3 w1) (ent3 w2) j
  rw [StackMember.dotGeneral_plain_apply]
  unfold row out
  refine congrArg₂ (· + ·) (congrFun (midR_apply x oa of ob gh hw wo R) j) (Finset.sum_congr rfl fun f _ => ?_)
  rw [shapeCast_1ab_ab_apply]
  refine congrArg (· * _) ?_
  show reluR w1 _ (ix2 R f) * reluR w1 _ (ix2 R f) = _
  rw [reluR_apply, normR_apply, midR_apply]
  rfl

end Rest

variable (m : (ℓ : Loc nD τ sig) → Buf (Elt Ideal) ℓ)

theorem res_eq (c : Dev nD) : res_main_v45 m c = result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) := by
  rw [← resR_eq]; rfl

end Cert.MlpReferenceIdeal.Blk

end
-- ==== Proof.Algebraic.lean ====
/-
  The claims put together: the reference's frame, and the MLP part's kernel and reference ending at one array.
-/
module

public import proofs.«01_k».proof.Defs
public import proofs.«01_k».proof.Proof.MlpRef
public import Idealize.ShloMosaic.Lib.Quiescent

@[expose] public section

noncomputable section

namespace Cert.Proof

open Cert Idealize.ShloMosaic Idealize.SL Idealize.SL.Sem

/-- The reference runs, keeps its arguments and declares no counter. -/
theorem frame_mlp_reference : Cert.quiescent_MlpReferenceIdeal := fun m ρ _ =>
  (θ_run Cert.MlpReferenceIdeal.defs _ _).mono (fun r h => ⟨fun c => (h c).2, sem_eq_zero_of_no_sems rfl r.2⟩)
    (Cert.MlpReferenceIdeal.Value.run m ρ)

/-- Kernel and reference end at the row function of the arguments' rows. -/
theorem algebraic_mlp : Cert.algebraic_MlpIdeal_MlpReferenceIdeal := by
  intro m ρ m' ρ' _ hag
  refine ⟨fun c => Cert.MlpIdeal.Blk.res m c,
    (θ_run Cert.MlpIdeal.defs _ _).mono (fun r h c => ⟨(h c).1.trans (Cert.MlpIdeal.Blk.final m c), (h c).2⟩) (Cert.MlpIdeal.Value.run_blocks m ρ),
    (θ_run Cert.MlpReferenceIdeal.defs _ _).mono (fun r h c => ⟨(h c).1.trans ?_, (h c).2⟩) (Cert.MlpReferenceIdeal.Value.run m' ρ')⟩
  obtain ⟨h0, h1, h2, h3, h4, h5, h6, h7, h8, h9⟩ := hag c
  refine (Cert.MlpReferenceIdeal.Blk.res_eq m' c).trans ?_
  rw [h0, h1, h2, h3, h4, h5, h6, h7, h8, h9]
  rfl

end Cert.Proof

end
-- ==== Proof.ProjRow.lean ====
/-
  One row of the input projection over the extended reals: the norm, the product, and the norm of each group of 64
  columns, which the kernel takes by a product with a matrix of ones and zeros over 64.
-/
module

public import proofs.«01_k».proof.Proof.MlpRow

@[expose] public section

noncomputable section

namespace Cert.ProjRow

open Cert.MlpRow Idealize.ShloMosaic Idealize.ShloMosaic.ValueIdx
open scoped BigOperators

theorem over64_eq : Ideal.ofBits .f32 0x3C800000#32 = ((1 / 64 : ℝ) : EReal) := by
  simp [Ideal.ofBits, Ideal.ieee, -EReal.coe_mul]; norm_num

theorem w64_eq : Ideal.ofBits .f32 0x42800000#32 = ((64 : ℝ) : EReal) := by
  simp [Ideal.ofBits, Ideal.ieee, -EReal.coe_mul]; norm_num

/-- The columns of segment `s` in a product's row. -/
def segm (h : Fin 1024 → EReal) (w : Fin 1024 → Fin 4096 → EReal) (s : Fin 8) (c : Fin 512) : EReal :=
  ∑ k, h k * w k ⟨512 * s.val + c.val, by omega⟩

/-- The columns of a row by groups of 64. -/
def group (t : Fin 512 → EReal) (n : Fin 8) (d : Fin 64) : EReal := t ⟨64 * n.val + d.val, by omega⟩

/-- A row normed by groups of 64 and weighted by the column within its group. -/
def grouped (t : Fin 512 → EReal) (w : Fin 64 → EReal) (c : Fin 512) : EReal :=
  t c * nrm (Ideal.ofBits .f32 0x42800000#32) (group t ⟨c.val / 64, by omega⟩) * w ⟨c.val % 64, by omega⟩

/-- A sum of a factor's multiples, the factor finite and not negative. -/
theorem sum_times {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- A product with the groups' matrix is the mean of the column's group. -/
theorem group_sum (f : Fin 256 → EReal) (j : Fin 256) :
    ∑ k : Fin 256, f k * (if k.val / 64 = j.val / 64 then Ideal.ofBits .f32 0x3C800000#32 else 0)
      = Ideal.div (∑ d : Fin 64, f ⟨64 * (j.val / 64) + d.val, by omega⟩) (Ideal.ofBits .f32 0x42800000#32) := by
  rw [w64_eq, Ideal.div_coe (by norm_num), over64_eq, ← sum_times _ _ _ (by norm_num)]
  simp only [mul_ite, mul_zero]
  rw [← Finset.sum_filter]
  refine (Finset.sum_bij (fun (d : Fin 64) _ => (⟨64 * (j.val / 64) + d.val, by omega⟩ : Fin 256)) ?_ ?_ ?_ ?_).symm
  · intro d _; rw [Finset.mem_filter]; exact ⟨Finset.mem_univ _, by show (64 * (j.val / 64) + d.val) / 64 = j.val / 64; omega⟩
  · intro a _ b _ h
    have := Fin.ext_iff.mp h
    apply Fin.ext; simp only at this; omega
  · intro k hk
    have hk := (Finset.mem_filter.mp hk).2
    exact ⟨⟨k.val % 64, by omega⟩, Finset.mem_univ _, Fin.ext (by show 64 * (j.val / 64) + k.val % 64 = k.val; omega)⟩
  · intro d _; rfl

end Cert.ProjRow

end
-- ==== Proof.ProjBlock.lean ====
/-
  The input projection's stored blocks, read at an entry: each is the row functions of `ProjRow` of the row's entries
  in the loaded blocks.
-/
module

public import proofs.«01_k».proof.Proof.Gen.ProjIdeal.Value
public import proofs.«01_k».proof.Proof.MlpBlock
public import proofs.«01_k».proof.Proof.ProjRow

@[expose] public section

noncomputable section

namespace Cert.ProjIdeal.Blk

open Cert.ProjIdeal Cert.ProjIdeal.Gen Cert.MlpRow Cert.ProjRow Idealize.ShloMosaic Idealize.ShloMosaic.ValueIdx
open Cert.MlpIdeal.Blk (ent mm normed_row cast_self other)
open scoped BigOperators

/-- The normed block. -/
theorem pay4_apply (x : Vec Ideal S1024x1024 .f32) (nw : Vec Ideal S1x1024 .f32) (r : Fin 1024) :
    ent (k0_pay4 x nw) r = normed (ent x r) (ent nw 0) := by
  funext j
  unfold ent
  show x (ix2 r j) * broadcastTo S1024x1024 _ _ (ix2 r j) * broadcastTo S1024x1024 _ _ (ix2 r j) = _
  rw [broadcastTo_1b_ab_apply, cast_self]
  refine congrArg (fun z => x (ix2 r j) * z * nw (ix2 0 j)) ?_
  exact normed_row _ x _ _ _ _ _ r j

/-- A segment's product, as the body writes it. -/
def segV (h : FVec Ideal S1024x1024 .bf16) (a : Vec Ideal S1024x512 .bf16) : FVec Ideal S1024x512 .f32 :=
  matmul (F := Ideal) (φ₁ := .bf16) (φ₂ := .bf16) (DotDims.plain 1024 1024 512) none h (shapeCast S1024x512 a shapeCasts_S1024x512_S1024x512)
    (constant S1024x512 .f32 0x00000000#32)

theorem segV_apply (h : FVec Ideal S1024x1024 .bf16) (a : Vec Ideal S1024x512 .bf16) (r : Fin 1024) (c : Fin 512) :
    segV h a (ix2 r c) = ∑ k, ent h r k * ent a k c := by
  unfold segV
  rw [mm]
  exact Finset.sum_congr rfl fun k _ => by rw [cast_self]; rfl

/-- The squares of half the columns through the groups' matrix, as the body writes it. -/
def halfV (t : FVec Ideal S1024x512 .f32) (g : Vec Ideal S256x256 .bf16) (o : ℕ) (h : S1024x512.Slices ![0, o] S1024x256) : FVec Ideal S1024x256 .f32 :=
  matmul (F := Ideal) (φ₁ := .bf16) (φ₂ := .bf16) (DotDims.plain 1024 256 256) none
    (extractStridedSlice S1024x256 ![0, o] (truncf .bf16 (mulf t t) bitsLt_bf16_f32) h) (shapeCast S256x256 g shapeCasts_S256x256_S256x256)
    (constant S1024x256 .f32 0x00000000#32)

/-- The matrix that averages within a group of 64. -/
def IsGroups (g : Vec Ideal S256x256 .bf16) : Prop :=
  ∀ k j : Fin 256, ent g k j = if k.val / 64 = j.val / 64 then Ideal.ofBits .f32 0x3C800000#32 else 0

theorem halfV_apply (t : FVec Ideal S1024x512 .f32) (g : Vec Ideal S256x256 .bf16) (hg : IsGroups g) (o : ℕ) (n : Fin 2) (ho : o = 256 * n.val)
    (h : S1024x512.Slices ![0, o] S1024x256) (r : Fin 1024) (j : Fin 256) :
    halfV t g o h (ix2 r j) = Ideal.div (∑ d, group (ent t r) ⟨4 * n.val + j.val / 64, by omega⟩ d * group (ent t r) ⟨4 * n.val + j.val / 64, by omega⟩ d)
      (Ideal.ofBits .f32 0x42800000#32) := by
  unfold halfV
  rw [mm]
  have e (k : Fin 256) : extractStridedSlice S1024x256 ![0, o] (truncf .bf16 (mulf t t) bitsLt_bf16_f32) h (ix2 r k)
      = ent t r ⟨256 * n.val + k.val, by omega⟩ * ent t r ⟨256 * n.val + k.val, by omega⟩ :=
    slice2_axis1_apply o _ h r k ⟨256 * n.val + k.val, by omega⟩ (by subst ho; rfl)
  have q (k : Fin 256) : shapeCast S256x256 g shapeCasts_S256x256_S256x256 (ix2 k j)
      = if k.val / 64 = j.val / 64 then Ideal.ofBits .f32 0x3C800000#32 else 0 := by rw [cast_self]; exact hg k j
  simp only [e, q]
  rw [group_sum (fun k => ent t r ⟨256 * n.val + k.val, by omega⟩ * ent t r ⟨256 * n.val + k.val, by omega⟩) j]
  refine congrArg (Ideal.div · _) (Finset.sum_congr rfl fun d _ => ?_)
  have i : (⟨256 * n.val + (64 * (j.val / 64) + d.val), by omega⟩ : Fin 512) = ⟨64 * (4 * n.val + j.val / 64) + d.val, by omega⟩ := Fin.ext (by show _ + _ = _ + _; omega)
  show ent t r ⟨256 * n.val + (64 * (j.val / 64) + d.val), _⟩ * ent t r ⟨256 * n.val + (64 * (j.val / 64) + d.val), _⟩ = _
  rw [i]; rfl

/-- A block normed by groups of 64, as the body writes it. -/
def groupV (t : FVec Ideal S1024x512 .f32) (w : Vec Ideal S1x512 .f32) (g : Vec Ideal S256x256 .bf16) : FVec Ideal S1024x512 .bf16 :=
  truncf .bf16 (mulf (mulf t (rsqrt (addf (concatenate S1024x512 1 [⟨S1024x256, halfV t g 0 slices_S1024x512_o0_0_S1024x256⟩, ⟨S1024x256, halfV t g 256 slices_S1024x512_o0_256_S1024x256⟩]
      concatenates_S1024x256_S1024x256_S1024x512_d1) (broadcast S1024x512 (Scalar.ofBits (F := Ideal) .f32 0x358637BD#32)))))
    (broadcastTo S1024x512 (shapeCast S1x512 w shapeCasts_S1x512_S1x512) broadcasts_S1x512_S1024x512)) bitsLt_bf16_f32

theorem groupV_apply (t : FVec Ideal S1024x512 .f32) (w : Vec Ideal S1x512 .f32) (g : Vec Ideal S256x256 .bf16) (hg : IsGroups g)
    (r : Fin 1024) (c : Fin 512) : groupV t w g (ix2 r c)
      = ent t r c * nrm (Ideal.ofBits .f32 0x42800000#32) (group (ent t r) ⟨c.val / 64, by omega⟩) * ent w 0 c := by
  show t (ix2 r c) * Ideal.rsqrt (concatenate S1024x512 1 _ _ (ix2 r c) + _) * broadcastTo S1024x512 _ _ (ix2 r c) = _
  rw [broadcastTo_1b_ab_apply, cast_self]
  refine congrArg (fun z => t (ix2 r c) * Ideal.rsqrt (z + eps) * w (ix2 0 c)) ?_
  by_cases h : c.val < 256
  · refine (concatenate_pair_apply_left (s₁ := S1024x256) (s₂ := S1024x256) (1 : Fin 2) _ _ _ (ix2 r c) rfl (ix2 r ⟨c.val, h⟩)
      (fun b => match b with | ⟨0, _⟩ => rfl | ⟨1, _⟩ => rfl)).trans ?_
    rw [halfV_apply t g hg 0 0 rfl]
    have i : (⟨4 * (0 : Fin 2).val + c.val / 64, by omega⟩ : Fin 8) = ⟨c.val / 64, by omega⟩ := Fin.ext (by show 4 * 0 + c.val / 64 = c.val / 64; omega)
    show Ideal.div (∑ d, group (ent t r) ⟨4 * (0 : Fin 2).val + c.val / 64, _⟩ d * group (ent t r) ⟨4 * (0 : Fin 2).val + c.val / 64, _⟩ d) _ = _
    rw [i]
  · refine (concatenate_pair_apply_right (s₁ := S1024x256) (s₂ := S1024x256) (1 : Fin 2) _ _ _ (ix2 r c) rfl rfl (ix2 r ⟨c.val - 256, by omega⟩) ?_ ?_).trans ?_
    · intro b hb
      match b with
      | ⟨0, _⟩ => rfl
      | ⟨1, _⟩ => exact absurd rfl hb
    · show c.val - 256 + 256 = c.val; omega
    rw [halfV_apply t g hg 256 1 rfl]
    have i : (⟨4 * (1 : Fin 2).val + (c.val - 256) / 64, by omega⟩ : Fin 8) = ⟨c.val / 64, by omega⟩ := Fin.ext (by show 4 * 1 + (c.val - 256) / 64 = c.val / 64; omega)
    show Ideal.div (∑ d, group (ent t r) ⟨4 * (1 : Fin 2).val + (c.val - 256) / 64, _⟩ d * group (ent t r) ⟨4 * (1 : Fin 2).val + (c.val - 256) / 64, _⟩ d) _ = _
    rw [i]

/-- The recurrence's query: SiLU of its column, scaled. -/
def query (t : Fin 512 → EReal) (c : Fin 512) : EReal := silu (t c) * Ideal.ofBits .f32 0x3DB504F3#32

section Pays
variable (x : Vec Ideal S1024x1024 .f32) (nw : Vec Ideal S1x1024 .f32) (h : FVec Ideal S1024x1024 .bf16) (a : Vec Ideal S1024x512 .bf16)
  (w : Vec Ideal S1x512 .f32) (g : Vec Ideal S256x256 .bf16)

theorem pay5_eq : k0_pay5 x nw a w g g = groupV (segV (k0_pay4 x nw) a) w g := rfl
theorem pay6_eq : k0_pay6 h a w g g = groupV (segV h a) w g := rfl
theorem pay1_eq : k0_pay1 h a = segV h a := rfl
theorem pay2_eq : k0_pay2 h a = segV h a := rfl
theorem pay3_eq : k0_pay3 h a = segV h a := rfl
theorem pay14_eq : k0_pay14 h a = segV h a := rfl

theorem pay13_apply (r : Fin 1024) (c : Fin 512) : k0_pay13 h a (ix2 r c) = query (ent (segV h a) r) c := by
  show Ideal.ofBits .f32 0x3F000000#32 * segV h a (ix2 r c) * (Ideal.ofBits .f32 0x3F800000#32
    + Ideal.tanh (Ideal.ofBits .f32 0x3F000000#32 * segV h a (ix2 r c))) * Ideal.ofBits .f32 0x3DB504F3#32 = _
  rw [silu_tanh]; rfl

end Pays

/-- A segment loaded out of the weight, from column `o`. -/
theorem ld_seg (X : Vec Ideal S1024x4096 .bf16) (o : ℕ) (s : Fin 8) (ho : o = 512 * s.val) (inb) (q : Fin 1024) (k : Fin 512) :
    ent (View.ld X (Rect.unit (s := S1024x4096) ![0, o] S1024x512.size inb)) q k = ent X q ⟨512 * s.val + k.val, by omega⟩ :=
  congrArg X (funext fun a => Fin.ext (match a with
    | ⟨0, _⟩ => by show 0 + 1 * q.val = q.val; omega
    | ⟨1, _⟩ => by subst ho; show 512 * s.val + 1 * k.val = 512 * s.val + k.val; omega))

section Out
variable (x0 : Vec Ideal S1024x1024 .f32) (x1 : Vec Ideal S1x1024 .f32) (x2 : Vec Ideal S1024x4096 .bf16) (x3 : Vec Ideal S256x256 .bf16)
  (x4 x5 : Vec Ideal S1x512 .f32) (r : Fin 1024) (c : Fin 512)

/-- Segment `s` of the row's product. -/
def rowSeg (x nw : Fin 1024 → EReal) (w : Fin 1024 → Fin 4096 → EReal) (s : Fin 8) : Fin 512 → EReal := segm (normed x nw) w s

theorem seg_row (o : ℕ) (s : Fin 8) (ho : o = 512 * s.val) (inb) :
    ent (segV (k0_pay4 x0 x1) (View.ld x2 (Rect.unit (s := S1024x4096) ![0, o] S1024x512.size inb))) r
      = rowSeg (ent x0 r) (ent x1 0) (ent x2) s := by
  funext c
  show segV _ _ (ix2 r c) = _
  rw [segV_apply, pay4_apply]
  unfold rowSeg segm
  refine Finset.sum_congr rfl fun k _ => ?_
  rw [ld_seg x2 o s ho]

theorem z2 : (![0, 0] : Fin 2 → ℕ) = fun _ => 0 := by funext a; match a with | ⟨0, _⟩ => rfl | ⟨1, _⟩ => rfl

/-- The queries' block. -/
theorem out6_apply (hg : IsGroups x3) : out0_6 x0 x1 x2 x3 x4 x5 (ix2 r c)
    = rowSeg (ent x0 r) (ent x1 0) (ent x2) 0 c * nrm (Ideal.ofBits .f32 0x42800000#32) (group (rowSeg (ent x0 r) (ent x1 0) (ent x2) 0) ⟨c.val / 64, by omega⟩) * ent x4 0 c := by
  unfold out0_6
  rw [View.canon_unit_zero z2]
  simp only [View.ld_unit_zero (S := S1024x1024) z2, View.ld_unit_zero (S := S1x1024) z2, View.ld_unit_zero (S := S256x256) z2, View.ld_unit_zero (S := S1x512) z2]
  rw [pay5_eq, groupV_apply _ _ _ hg, seg_row x0 x1 x2 r 0 0 rfl]

/-- The keys' block. -/
theorem out7_apply (hg : IsGroups x3) : out0_7 x0 x1 x2 x3 x4 x5 (ix2 r c)
    = rowSeg (ent x0 r) (ent x1 0) (ent x2) 1 c * nrm (Ideal.ofBits .f32 0x42800000#32) (group (rowSeg (ent x0 r) (ent x1 0) (ent x2) 1) ⟨c.val / 64, by omega⟩) * ent x5 0 c := by
  unfold out0_7 k0_pay15
  rw [View.canon_unit_zero z2]
  simp only [View.ld_unit_zero (S := S1024x1024) z2, View.ld_unit_zero (S := S1x1024) z2, View.ld_unit_zero (S := S256x256) z2, View.ld_unit_zero (S := S1x512) z2]
  rw [pay6_eq, groupV_apply _ _ _ hg, seg_row x0 x1 x2 r 512 1 rfl]

/-- The recurrence's queries' block. -/
theorem out9_apply : out0_9 x0 x1 x2 x3 x4 x5 (ix2 r c) = query (rowSeg (ent x0 r) (ent x1 0) (ent x2) 3) c := by
  unfold out0_9 k0_pay15
  rw [View.canon_unit_zero z2]
  simp only [View.ld_unit_zero (S := S1024x1024) z2, View.ld_unit_zero (S := S1x1024) z2]
  rw [pay13_apply, seg_row x0 x1 x2 r 1536 3 rfl]

/-- The forward gates' block. -/
theorem out10_apply : out0_10 x0 x1 x2 x3 x4 x5 (ix2 r c) = rowSeg (ent x0 r) (ent x1 0) (ent x2) 4 c := by
  unfold out0_10 k0_pay15
  rw [View.canon_unit_zero z2]
  simp only [View.ld_unit_zero (S := S1024x1024) z2, View.ld_unit_zero (S := S1x1024) z2]
  rw [pay14_eq]
  exact congrFun (seg_row x0 x1 x2 r 2048 4 rfl _) c

/-- The backward gates' block. -/
theorem out11_apply : out0_11 x0 x1 x2 x3 x4 x5 (ix2 r c) = rowSeg (ent x0 r) (ent x1 0) (ent x2) 5 c := by
  unfold out0_11 k0_pay15
  rw [View.canon_unit_zero z2]
  simp only [View.ld_unit_zero (S := S1024x1024) z2, View.ld_unit_zero (S := S1x1024) z2]
  rw [pay1_eq]
  exact congrFun (seg_row x0 x1 x2 r 2560 5 rfl _) c

/-- The recurrence's inputs' block. -/
theorem out12_apply : out0_12 x0 x1 x2 x3 x4 x5 (ix2 r c) = rowSeg (ent x0 r) (ent x1 0) (ent x2) 6 c := by
  unfold out0_12 k0_pay15
  rw [View.canon_unit_zero z2]
  simp only [View.ld_unit_zero (S := S1024x1024) z2, View.ld_unit_zero (S := S1x1024) z2]
  rw [pay2_eq]
  exact congrFun (seg_row x0 x1 x2 r 3072 6 rfl _) c

/-- The output gates' block. -/
theorem out13_apply : out0_13 x0 x1 x2 x3 x4 x5 (ix2 r c) = rowSeg (ent x0 r) (ent x1 0) (ent x2) 7 c := by
  unfold out0_13 k0_pay15
  rw [View.canon_unit_zero z2]
  simp only [View.ld_unit_zero (S := S1024x1024) z2, View.ld_unit_zero (S := S1x1024) z2]
  rw [pay3_eq]
  exact congrFun (seg_row x0 x1 x2 r 3584 7 rfl _) c

end Out

end Cert.ProjIdeal.Blk

end
-- ==== Proof.ProjFinal.lean ====
/-
  The input projection's run over the ideal values: each result array is a row function of the argument arrays' rows.
-/
module

public import proofs.«01_k».proof.Proof.ProjBlock
public import proofs.«01_k».proof.Proof.MlpFinal

@[expose] public section

noncomputable section

namespace Cert.ProjIdeal.Blk

open Cert.ProjIdeal Cert.ProjIdeal.Gen Cert.ProjIdeal.Value Cert.MlpRow Cert.ProjRow Idealize.ShloMosaic Idealize.ShloMosaic.TcCoe Idealize.ShloMosaic.ValueIdx
open Cert.MlpIdeal.Blk (ent ent3)
open Idealize.SL.Sem
open scoped BigOperators

section Results
variable (x : S32768x1024.Idx → EReal) (nw : S1x1024.Idx → EReal) (w : S1x1024x4096.Idx → EReal) (qk : S1x2x64.Idx → EReal)

/-- Segment `s` of row `R` of the product. -/
def seg (s : Fin 8) (R : Fin 32768) : Fin 512 → EReal := rowSeg (ent x R) (ent nw 0) (ent3 w) s

/-- The segment normed by groups of 64 under the weight of branch `n`: the queries and the keys. -/
def normedSeg (s : Fin 8) (n : Fin 2) : S32768x512.Idx → EReal := fun i => grouped (seg x nw w s (i 0)) (ent3 qk n) (i 1)

/-- The recurrence's queries. -/
def querySeg (s : Fin 8) : S32768x512.Idx → EReal := fun i => query (seg x nw w s (i 0)) (i 1)

/-- The segment itself. -/
def plainSeg (s : Fin 8) : S32768x512.Idx → EReal := fun i => seg x nw w s (i 0) (i 1)

end Results

/-! ## The group matrix -/

/-- The column's number over 64, as the host computes it. -/
def quot : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

/-- The floor division of one number, as the host computes it. -/
def quot1 (i : BitVec 32) : BitVec 32 :=
  Scalar.select (IntOp.andi (IntOp.cmpi .ne (if i = 0 then 0#32 else if i.msb then -1#32 else 1#32) (if 64#32 = 0 then 0#32 else if (64#32).msb then -1#32 else 1#32))
      (IntOp.cmpi .ne (i.srem 64#32) 0#32)) (IntOp.subi (i.sdiv 64#32) 1#32) (i.sdiv 64#32)

theorem quot1_eq : ∀ k : Fin 256, quot1 (BitVec.ofNat 32 k.val) = BitVec.ofNat 32 (k.val / 64) := by decide +kernel

theorem corner : ∀ k : Fin 256, ¬ IntOp.SDivCorner (BitVec.ofNat 32 k.val) 64#32 := by decide +kernel

theorem quot_apply (k : Fin 256) : quot (ix1 k) = BitVec.ofNat 32 (k.val / 64) := by
  rw [← quot1_eq k]
  have hd : IntOp.divsi .host (BitVec.ofNat 32 k.val) 64#32 = (BitVec.ofNat 32 k.val).sdiv 64#32 := if_neg (corner k)
  have hr : IntOp.remsi .host (BitVec.ofNat 32 k.val) 64#32 = (BitVec.ofNat 32 k.val).srem 64#32 := if_neg (corner k)
  show Scalar.select (IntOp.andi (IntOp.cmpi .ne (if BitVec.ofNat 32 k.val = 0 then 0#32 else if (BitVec.ofNat 32 k.val).msb then -1#32 else 1#32)
        (if 64#32 = 0 then 0#32 else if (64#32).msb then -1#32 else 1#32)) (IntOp.cmpi .ne (IntOp.remsi .host (BitVec.ofNat 32 k.val) 64#32) 0#32))
      (IntOp.subi (IntOp.divsi .host (BitVec.ofNat 32 k.val) 64#32) 1#32) (IntOp.divsi .host (BitVec.ofNat 32 k.val) 64#32) = _
  rw [hd, hr]; rfl

/-- The groups' matrix, as the host computes it. -/
def groups : FVec Ideal S256x256 .bf16 := truncf .bf16 (select (cmpi .eq
      (broadcastInDim S256x256 ![0, 1] bcast_S256x1_S256x256_0_1 (broadcastInDim S256x1 ![0] bcast_S256_S256x1_0 quot))
      (broadcastInDim S256x256 ![0, 1] bcast_S1x256_S256x256_0_1 (broadcastInDim S1x256 ![1] bcast_S256_S1x256_1 quot)))
    (broadcastInDim S256x256 ![] bcast_S_S256x256 (constant S_ .f32 0x3C800000#32)) (broadcastInDim S256x256 ![] bcast_S_S256x256 (constant (F := Ideal) S_ .f32 0x00000000#32))) bitsLt_bf16_f32

theorem groups_isGroups : IsGroups groups := by
  intro k j
  show Scalar.select (IntOp.cmpi .eq (broadcastInDim S256x256 _ bcast_S256x1_S256x256_0_1 _ (ix2 k j)) (broadcastInDim S256x256 _ bcast_S1x256_S256x256_0_1 _ (ix2 k j)))
    (broadcastInDim S256x256 _ bcast_S_S256x256 _ (ix2 k j)) (broadcastInDim S256x256 _ bcast_S_S256x256 _ (ix2 k j)) = _
  rw [broadcastInDim_scalar_apply, broadcastInDim_scalar_apply,
    broadcastInDim_apply _ bcast_S256x1_S256x256_0_1 _ (ix2 k j) (ix2 k 0) (fun a => match a with | ⟨0, _⟩ => rfl | ⟨1, _⟩ => rfl),
    broadcastInDim_apply _ bcast_S1x256_S256x256_0_1 _ (ix2 k j) (ix2 0 j) (fun a => match a with | ⟨0, _⟩ => rfl | ⟨1, _⟩ => rfl),
    broadcastInDim_apply _ bcast_S256_S256x1_0 _ (ix2 k 0) (ix1 k) (fun a => match a with | ⟨0, _⟩ => rfl),
    broadcastInDim_apply _ bcast_S256_S1x256_1 _ (ix2 0 j) (ix1 j) (fun a => match a with | ⟨0, _⟩ => rfl),
    quot_apply, quot_apply]
  have hk : k.val / 64 < 4 := by omega
  have hj : j.val / 64 < 4 := by omega
  generalize k.val / 64 = a at *
  generalize j.val / 64 = b at *
  show Scalar.select (IntOp.cmpi .eq (BitVec.ofNat 32 a) (BitVec.ofNat 32 b)) (Ideal.ofBits .f32 0x3C800000#32) (Ideal.ofBits .f32 0x00000000#32) = _
  rw [Ideal.ofBits_zero_f32]
  interval_cases a <;> interval_cases b <;> rfl

variable (m : (ℓ : Loc nD τ sig) → Buf (Elt Ideal) ℓ) (ρ : Dev nD → PrngReg)

/-! ## What the host hands the kernel -/

/-- The weight of branch `n`, repeated over the groups, as the host computes it. -/
def tiled (X : FVec Ideal S1x1x64 .f32) : S1x512.Idx → EReal := broadcastInDim S1x512 ![1] bcast_S512_S1x512_1
  (shapeCast S512 (broadcastInDim S8x64 ![0, 1] bcast_S1x64_S8x64_0_1 (shapeCast S1x64 (shapeCast S64 X shapeCasts_S1x1x64_S64) shapeCasts_S64_S1x64)) shapeCasts_S8x64_S512)

theorem tiled_apply (X : FVec Ideal S1x1x64 .f32) (c : Fin 512) : tiled X (ix2 0 c) = X (ix3 0 0 ⟨c.val % 64, by omega⟩) := by
  unfold tiled
  rw [broadcastInDim_apply _ bcast_S512_S1x512_1 _ (ix2 0 c) (ix1 c) (fun a => match a with | ⟨0, _⟩ => rfl),
    shapeCast_apply _ _ (ix1 c) (ix2 ⟨c.val / 64, by omega⟩ ⟨c.val % 64, by omega⟩) (by
      rw [Shape.rowMajor_val_two, Shape.rowMajor_val_one]; show c.val / 64 * 64 + c.val % 64 = c.val; omega),
    broadcastInDim_apply _ bcast_S1x64_S8x64_0_1 _ (ix2 _ _) (ix2 0 ⟨c.val % 64, by omega⟩) (fun a => match a with | ⟨0, _⟩ => rfl | ⟨1, _⟩ => rfl),
    shapeCast_apply _ _ (ix2 0 ⟨c.val % 64, by omega⟩) (ix1 ⟨c.val % 64, by omega⟩) (by
      rw [Shape.rowMajor_val_two, Shape.rowMajor_val_one]; show c.val % 64 = 0 * 64 + c.val % 64; omega),
    shapeCast_apply _ _ (ix1 ⟨c.val % 64, by omega⟩) (ix3 0 0 ⟨c.val % 64, by omega⟩) (by
      rw [Shape.rowMajor_val_three, Shape.rowMajor_val_one]; show (0 * 1 + 0) * 64 + c.val % 64 = c.val % 64; omega)]

set_option maxHeartbeats 4000000 in
theorem V8 (c : Dev nD) : (V m c main_v8 : S256x256.Idx → EReal) = groups := by
  unfold V; simp only [hostOps0, hostOps0_1, hostOps0_2, hostOps0_3, hostOps0_4, List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl
set_option maxHeartbeats 4000000 in
theorem V10 (c : Dev nD) : (V m c main_v10 : S1x1024.Idx → EReal) = broadcastInDim S1x1024 ![1] bcast_S1024_S1x1024_1 (shapeCast S1024 (m ((c : Thread nD τ).loc main_arg1)) shapeCasts_S1x1024_S1024) := by
  unfold V; simp only [hostOps0, hostOps0_1, hostOps0_2, hostOps0_3, hostOps0_4, List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl
set_option maxHeartbeats 4000000 in
theorem V12 (c : Dev nD) : (V m c main_v12 : S1024x4096.Idx → EReal) = shapeCast S1024x4096 (m ((c : Thread nD τ).loc main_arg2)) shapeCasts_S1x1024x4096_S1024x4096 := by
  unfold V; simp only [hostOps0, hostOps0_1, hostOps0_2, hostOps0_3, hostOps0_4, List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl
set_option maxHeartbeats 4000000 in
theorem V18 (c : Dev nD) : (V m c main_v18 : S1x512.Idx → EReal) = tiled (extractStridedSlice S1x1x64 ![0, 0, 0] (m ((c : Thread nD τ).loc main_arg3)) slices_S1x2x64_S1x1x64_0_0_0) := by
  unfold V; simp only [hostOps0, hostOps0_1, hostOps0_2, hostOps0_3, hostOps0_4, List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl
set_option maxHeartbeats 4000000 in
theorem V24 (c : Dev nD) : (V m c main_v24 : S1x512.Idx → EReal) = tiled (extractStridedSlice S1x1x64 ![0, 1, 0] (m ((c : Thread nD τ).loc main_arg3)) slices_S1x2x64_S1x1x64_0_1_0) := by
  unfold V; simp only [hostOps0, hostOps0_1, hostOps0_2, hostOps0_3, hostOps0_4, List.flatten_cons, List.flatten_nil, List.append_nil, List.cons_append, List.nil_append,
    StableHlo.TRef.unary, StableHlo.TRef.binary, StableHlo.TRef.ternary, StableHlo.TRef.nullary, StableHlo.TRef.toBuf, StableHlo.TRef.ofBuf, cast_eq]
  after_results_simp <;> rfl

/-- Row `r` of row block `t`. -/
def rowOf (t : Fin cfg0.N) (r : Fin 1024) : Fin 32768 := ⟨1024 * t.val + r.val, by have : t.val < 32 := t.isLt; omega⟩

/-! A row block's index at a grid point is the point; a weight's block is its whole array. -/

theorem idx0 : ∀ t : Fin cfg0.N, win0_0.index t (0 : Fin 2) = t.val ∧ win0_0.index t (1 : Fin 2) = 0 :=
  (by decide +kernel : ∀ t : Fin grid0.N, _)

theorem emb0 (t : Fin cfg0.N) (r : Fin 1024) (j : Fin 1024) :
    ((cfg0.win 0).blk t).view.emb (ix2 r j : (⟨2, ![1024, 1024]⟩ : Shape).Idx) = (ix2 (rowOf t r) j : (⟨2, ![32768, 1024]⟩ : Shape).Idx) := by
  obtain ⟨e0, e1⟩ := idx0 t
  funext a; apply Fin.ext
  match a with
  | ⟨0, _⟩ => show win0_0.index t (0 : Fin 2) * 1024 + 1 * r.val = 1024 * t.val + r.val; omega
  | ⟨1, _⟩ => show win0_0.index t (1 : Fin 2) * 1024 + 1 * j.val = j.val; omega

theorem idx6 : ∀ t : Fin cfg0.N, win0_6.index t (0 : Fin 2) = t.val ∧ win0_6.index t (1 : Fin 2) = 0 :=
  (by decide +kernel : ∀ t : Fin grid0.N, _)

theorem emb6 (t : Fin cfg0.N) (r : Fin 1024) (j : Fin 512) :
    ((cfg0.win 6).blk t).view.emb (ix2 r j : (⟨2, ![1024, 512]⟩ : Shape).Idx) = (ix2 (rowOf t r) j : (⟨2, ![32768, 512]⟩ : Shape).Idx) := by
  obtain ⟨e0, e1⟩ := idx6 t
  funext a; apply Fin.ext
  match a with
  | ⟨0, _⟩ => show win0_6.index t (0 : Fin 2) * 1024 + 1 * r.val = 1024 * t.val + r.val; omega
  | ⟨1, _⟩ => show win0_6.index t (1 : Fin 2) * 512 + 1 * j.val = j.val; omega

theorem idx7 : ∀ t : Fin cfg0.N, win0_7.index t (0 : Fin 2) = t.val ∧ win0_7.index t (1 : Fin 2) = 0 :=
  (by decide +kernel : ∀ t : Fin grid0.N, _)

theorem emb7 (t : Fin cfg0.N) (r : Fin 1024) (j : Fin 512) :
    ((cfg0.win 7).blk t).view.emb (ix2 r j : (⟨2, ![1024, 512]⟩ : Shape).Idx) = (ix2 (rowOf t r) j : (⟨2, ![32768, 512]⟩ : Shape).Idx) := by
  obtain ⟨e0, e1⟩ := idx7 t
  funext a; apply Fin.ext
  match a with
  | ⟨0, _⟩ => show win0_7.index t (0 : Fin 2) * 1024 + 1 * r.val = 1024 * t.val + r.val; omega
  | ⟨1, _⟩ => show win0_7.index t (1 : Fin 2) * 512 + 1 * j.val = j.val; omega

theorem idx9 : ∀ t : Fin cfg0.N, win0_9.index t (0 : Fin 2) = t.val ∧ win0_9.index t (1 : Fin 2) = 0 :=
  (by decide +kernel : ∀ t : Fin grid0.N, _)

theorem emb9 (t : Fin cfg0.N) (r : Fin 1024) (j : Fin 512) :
    ((cfg0.win 9).blk t).view.emb (ix2 r j : (⟨2, ![1024, 512]⟩ : Shape).Idx) = (ix2 (rowOf t r) j : (⟨2, ![32768, 512]⟩ : Shape).Idx) := by
  obtain ⟨e0, e1⟩ := idx9 t
  funext a; apply Fin.ext
  match a with
  | ⟨0, _⟩ => show win0_9.index t (0 : Fin 2) * 1024 + 1 * r.val = 1024 * t.val + r.val; omega
  | ⟨1, _⟩ => show win0_9.index t (1 : Fin 2) * 512 + 1 * j.val = j.val; omega

theorem idx10 : ∀ t : Fin cfg0.N, win0_10.index t (0 : Fin 2) = t.val ∧ win0_10.index t (1 : Fin 2) = 0 :=
  (by decide +kernel : ∀ t : Fin grid0.N, _)

theorem emb10 (t : Fin cfg0.N) (r : Fin 1024) (j : Fin 512) :
    ((cfg0.win 10).blk t).view.emb (ix2 r j : (⟨2, ![1024, 512]⟩ : Shape).Idx) = (ix2 (rowOf t r) j : (⟨2, ![32768, 512]⟩ : Shape).Idx) := by
  obtain ⟨e0, e1⟩ := idx10 t
  funext a; apply Fin.ext
  match a with
  | ⟨0, _⟩ => show win0_10.index t (0 : Fin 2) * 1024 + 1 * r.val = 1024 * t.val + r.val; omega
  | ⟨1, _⟩ => show win0_10.index t (1 : Fin 2) * 512 + 1 * j.val = j.val; omega

theorem idx11 : ∀ t : Fin cfg0.N, win0_11.index t (0 : Fin 2) = t.val ∧ win0_11.index t (1 : Fin 2) = 0 :=
  (by decide +kernel : ∀ t : Fin grid0.N, _)

theorem emb11 (t : Fin cfg0.N) (r : Fin 1024) (j : Fin 512) :
    ((cfg0.win 11).blk t).view.emb (ix2 r j : (⟨2, ![1024, 512]⟩ : Shape).Idx) = (ix2 (rowOf t r) j : (⟨2, ![32768, 512]⟩ : Shape).Idx) := by
  obtain ⟨e0, e1⟩ := idx11 t
  funext a; apply Fin.ext
  match a with
  | ⟨0, _⟩ => show win0_11.index t (0 : Fin 2) * 1024 + 1 * r.val = 1024 * t.val + r.val; omega
  | ⟨1, _⟩ => show win0_11.index t (1 : Fin 2) * 512 + 1 * j.val = j.val; omega

theorem idx12 : ∀ t : Fin cfg0.N, win0_12.index t (0 : Fin 2) = t.val ∧ win0_12.index t (1 : Fin 2) = 0 :=
  (by decide +kernel : ∀ t : Fin grid0.N, _)

theorem emb12 (t : Fin cfg0.N) (r : Fin 1024) (j : Fin 512) :
    ((cfg0.win 12).blk t).view.emb (ix2 r j : (⟨2, ![1024, 512]⟩ : Shape).Idx) = (ix2 (rowOf t r) j : (⟨2, ![32768, 512]⟩ : Shape).Idx) := by
  obtain ⟨e0, e1⟩ := idx12 t
  funext a; apply Fin.ext
  match a with
  | ⟨0, _⟩ => show win0_12.index t (0 : Fin 2) * 1024 + 1 * r.val = 1024 * t.val + r.val; omega
  | ⟨1, _⟩ => show win0_12.index t (1 : Fin 2) * 512 + 1 * j.val = j.val; omega

theorem idx13 : ∀ t : Fin cfg0.N, win0_13.index t (0 : Fin 2) = t.val ∧ win0_13.index t (1 : Fin 2) = 0 :=
  (by decide +kernel : ∀ t : Fin grid0.N, _)

theorem emb13 (t : Fin cfg0.N) (r : Fin 1024) (j : Fin 512) :
    ((cfg0.win 13).blk t).view.emb (ix2 r j : (⟨2, ![1024, 512]⟩ : Shape).Idx) = (ix2 (rowOf t r) j : (⟨2, ![32768, 512]⟩ : Shape).Idx) := by
  obtain ⟨e0, e1⟩ := idx13 t
  funext a; apply Fin.ext
  match a with
  | ⟨0, _⟩ => show win0_13.index t (0 : Fin 2) * 1024 + 1 * r.val = 1024 * t.val + r.val; omega
  | ⟨1, _⟩ => show win0_13.index t (1 : Fin 2) * 512 + 1 * j.val = j.val; omega

theorem idx1 : ∀ t : Fin cfg0.N, win0_1.index t (0 : Fin 2) = 0 ∧ win0_1.index t (1 : Fin 2) = 0 :=
  (by decide +kernel : ∀ t : Fin grid0.N, _)

theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem idx2 : ∀ t : Fin cfg0.N, win0_2.index t (0 : Fin 2) = 0 ∧ win0_2.index t (1 : Fin 2) = 0 :=
  (by decide +kernel : ∀ t : Fin grid0.N, _)

theorem emb2 (t : Fin cfg0.N) (j : S1024x4096.Idx) : ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 4096 + 1 * (j 1).val = (j 1).val; omega

theorem idx3 : ∀ t : Fin cfg0.N, win0_3.index t (0 : Fin 2) = 0 ∧ win0_3.index t (1 : Fin 2) = 0 :=
  (by decide +kernel : ∀ t : Fin grid0.N, _)

theorem emb3 (t : Fin cfg0.N) (j : S256x256.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 256 + 1 * (j 1).val = (j 1).val; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (j : S1x512.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 512 + 1 * (j 1).val = (j 1).val; omega

theorem idx5 : ∀ t : Fin cfg0.N, win0_5.index t (0 : Fin 2) = 0 ∧ win0_5.index t (1 : Fin 2) = 0 :=
  (by decide +kernel : ∀ t : Fin grid0.N, _)

theorem emb5 (t : Fin cfg0.N) (j : S1x512.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 512 + 1 * (j 1).val = (j 1).val; omega

/-! A block's rows are the array's. -/

theorem blk0 (c : Dev nD) (t : Fin cfg0.N) (r : Fin 1024) : ent (a := 1024) (b := 1024) (iblk m c 0 t) r
    = ent (a := 32768) (b := 1024) (m ((c : Thread nD τ).loc main_arg0)) (rowOf t r) := by
  funext j
  show V m c main_arg0 (((cfg0.win 0).blk t).view.emb (ix2 r j : (⟨2, ![1024, 1024]⟩ : Shape).Idx)) = _
  rw [V_main_arg0, emb0]; rfl

theorem blk1 (c : Dev nD) (t : Fin cfg0.N) : ent (a := 1) (b := 1024) (iblk m c 1 t) 0 = ent (a := 1) (b := 1024) (m ((c : Thread nD τ).loc main_arg1)) 0 := by
  funext j
  show V m c main_v10 (((cfg0.win 1).blk t).view.emb (ix2 0 j : S1x1024.Idx)) = _
  rw [emb1, V10]
  refine Eq.trans (broadcastInDim_apply _ _ _ (ix2 0 j : S1x1024.Idx) (ix1 j) fun a => ?_) ?_
  · match a with | ⟨0, _⟩ => rfl
  · exact shapeCast_1a_a_apply _ _ j

theorem blk2 (c : Dev nD) (t : Fin cfg0.N) : ent (a := 1024) (b := 4096) (iblk m c 2 t) = ent3 (a := 1024) (b := 4096) (m ((c : Thread nD τ).loc main_arg2)) := by
  funext i j
  show V m c main_v12 (((cfg0.win 2).blk t).view.emb (ix2 i j : S1024x4096.Idx)) = _
  rw [emb2, V12]
  exact shapeCast_1ab_ab_apply _ _ i j

theorem blk3 (c : Dev nD) (t : Fin cfg0.N) : IsGroups (iblk m c 3 t) := by
  intro k j
  show V m c main_v8 (((cfg0.win 3).blk t).view.emb (ix2 k j : S256x256.Idx)) = _
  rw [emb3, V8]
  exact groups_isGroups k j

theorem blk4 (c : Dev nD) (t : Fin cfg0.N) (j : Fin 512) : ent (a := 1) (b := 512) (iblk m c 4 t) 0 j
    = ent3 (a := 2) (b := 64) (m ((c : Thread nD τ).loc main_arg3)) 0 ⟨j.val % 64, by omega⟩ := by
  show V m c main_v18 (((cfg0.win 4).blk t).view.emb (ix2 0 j : S1x512.Idx)) = _
  rw [emb4, V18, tiled_apply]
  exact extractStridedSlice_apply _ _ _ _ (ix3 0 0 ⟨j.val % 64, by omega⟩) (fun a => match a with
    | ⟨0, _⟩ => rfl | ⟨1, _⟩ => rfl | ⟨2, _⟩ => by show j.val % 64 = 0 + j.val % 64; omega)

theorem blk5 (c : Dev nD) (t : Fin cfg0.N) (j : Fin 512) : ent (a := 1) (b := 512) (iblk m c 5 t) 0 j
    = ent3 (a := 2) (b := 64) (m ((c : Thread nD τ).loc main_arg3)) 1 ⟨j.val % 64, by omega⟩ := by
  show V m c main_v24 (((cfg0.win 5).blk t).view.emb (ix2 0 j : S1x512.Idx)) = _
  rw [emb5, V24, tiled_apply]
  exact extractStridedSlice_apply _ _ _ _ (ix3 0 1 ⟨j.val % 64, by omega⟩) (fun a => match a with
    | ⟨0, _⟩ => rfl | ⟨1, _⟩ => rfl | ⟨2, _⟩ => by show j.val % 64 = 0 + j.val % 64; omega)

/-! ## The results -/

/-- The queries, the keys, the recurrence's queries, and the segments `s`, of the argument arrays as launched. -/
def resQ (c : Dev nD) : S32768x512.Idx → EReal := normedSeg (m ((c : Thread nD τ).loc main_arg0)) (m ((c : Thread nD τ).loc main_arg1)) (m ((c : Thread nD τ).loc main_arg2)) (m ((c : Thread nD τ).loc main_arg3)) 0 0
def resK (c : Dev nD) : S32768x512.Idx → EReal := normedSeg (m ((c : Thread nD τ).loc main_arg0)) (m ((c : Thread nD τ).loc main_arg1)) (m ((c : Thread nD τ).loc main_arg2)) (m ((c : Thread nD τ).loc main_arg3)) 1 1
def resH (c : Dev nD) : S32768x512.Idx → EReal := querySeg (m ((c : Thread nD τ).loc main_arg0)) (m ((c : Thread nD τ).loc main_arg1)) (m ((c : Thread nD τ).loc main_arg2)) 3
def resS (s : Fin 8) (c : Dev nD) : S32768x512.Idx → EReal := plainSeg (m ((c : Thread nD τ).loc main_arg0)) (m ((c : Thread nD τ).loc main_arg1)) (m ((c : Thread nD τ).loc main_arg2)) s

/-! The queries. -/

theorem flushed_eq6 (c : Dev nD) (t : Fin cfg0.N) : (dats m 0 c).flushed 6 t = ((cfg0.win 6).blk t).view.read (Elt Ideal) (resQ m c) := by
  rw [flushed6]
  funext i
  obtain ⟨r, j, rfl⟩ : ∃ (r : Fin 1024) (j : Fin 512), i = (ix2 r j : S1024x512.Idx) := ⟨i 0, i 1, eq_ix2 i⟩
  show out0_6 (iblk m c 0 t) (iblk m c 1 t) (iblk m c 2 t) (iblk m c 3 t) (iblk m c 4 t) (iblk m c 5 t) (ix2 r j) = resQ m c (((cfg0.win 6).blk t).view.emb (ix2 r j : S1024x512.Idx))
  rw [out6_apply _ _ _ _ _ _ _ _ (blk3 m c t), emb6, blk0 m c t r, blk1 m c t, blk2 m c t, blk4 m c t j]
  rfl

theorem covered6 (i : S32768x512.Idx) : ∃ t : Fin cfg0.N, (cfg0.win 6).flush t = true ∧ i ∈ ((cfg0.win 6).blk t).view.set := by
  obtain ⟨R, j, rfl⟩ : ∃ (R : Fin 32768) (j : Fin 512), i = ix2 R j := ⟨i 0, i 1, eq_ix2 i⟩
  refine ⟨(⟨R.val / 1024, by show R.val / 1024 < 32; omega⟩ : Fin cfg0.N), flush0_6 _, ?_⟩
  have h := ((cfg0.win 6).blk (⟨R.val / 1024, by show R.val / 1024 < 32; omega⟩ : Fin cfg0.N)).view.emb_mem_set (ix2 ⟨R.val % 1024, by omega⟩ j : S1024x512.Idx)
  rw [emb6] at h
  have e : rowOf (⟨R.val / 1024, by show R.val / 1024 < 32; omega⟩ : Fin cfg0.N) ⟨R.val % 1024, by omega⟩ = R :=
    Fin.ext (by show 1024 * (R.val / 1024) + R.val % 1024 = R.val; omega)
  rwa [e] at h

theorem final6 (c : Dev nD) : (dats m 0 c).arrAt 6 cfg0.N = resQ m c :=
  (dats m 0 c).arrAt_eq_of_cover 6 (resQ m c) (fun t _ => flushed_eq6 m c t) covered6

/-! The keys. -/

theorem flushed_eq7 (c : Dev nD) (t : Fin cfg0.N) : (dats m 0 c).flushed 7 t = ((cfg0.win 7).blk t).view.read (Elt Ideal) (resK m c) := by
  rw [flushed7]
  funext i
  obtain ⟨r, j, rfl⟩ : ∃ (r : Fin 1024) (j : Fin 512), i = (ix2 r j : S1024x512.Idx) := ⟨i 0, i 1, eq_ix2 i⟩
  show out0_7 (iblk m c 0 t) (iblk m c 1 t) (iblk m c 2 t) (iblk m c 3 t) (iblk m c 4 t) (iblk m c 5 t) (ix2 r j) = resK m c (((cfg0.win 7).blk t).view.emb (ix2 r j : S1024x512.Idx))
  rw [out7_apply _ _ _ _ _ _ _ _ (blk3 m c t), emb7, blk0 m c t r, blk1 m c t, blk2 m c t, blk5 m c t j]
  rfl

theorem covered7 (i : S32768x512.Idx) : ∃ t : Fin cfg0.N, (cfg0.win 7).flush t = true ∧ i ∈ ((cfg0.win 7).blk t).view.set := by
  obtain ⟨R, j, rfl⟩ : ∃ (R : Fin 32768) (j : Fin 512), i = ix2 R j := ⟨i 0, i 1, eq_ix2 i⟩
  refine ⟨(⟨R.val / 1024, by show R.val / 1024 < 32; omega⟩ : Fin cfg0.N), flush0_7 _, ?_⟩
  have h := ((cfg0.win 7).blk (⟨R.val / 1024, by show R.val / 1024 < 32; omega⟩ : Fin cfg0.N)).view.emb_mem_set (ix2 ⟨R.val % 1024, by omega⟩ j : S1024x512.Idx)
  rw [emb7] at h
  have e : rowOf (⟨R.val / 1024, by show R.val / 1024 < 32; omega⟩ : Fin cfg0.N) ⟨R.val % 1024, by omega⟩ = R :=
    Fin.ext (by show 1024 * (R.val / 1024) + R.val % 1024 = R.val; omega)
  rwa [e] at h

theorem final7 (c : Dev nD) : (dats m 0 c).arrAt 7 cfg0.N = resK m c :=
  (dats m 0 c).arrAt_eq_of_cover 7 (resK m c) (fun t _ => flushed_eq7 m c t) covered7

/-! The recurrence's queries. -/

theorem flushed_eq9 (c : Dev nD) (t : Fin cfg0.N) : (dats m 0 c).flushed 9 t = ((cfg0.win 9).blk t).view.read (Elt Ideal) (resH m c) := by
  rw [flushed9]
  funext i
  obtain ⟨r, j, rfl⟩ : ∃ (r : Fin 1024) (j : Fin 512), i = (ix2 r j : S1024x512.Idx) := ⟨i 0, i 1, eq_ix2 i⟩
  show out0_9 (iblk m c 0 t) (iblk m c 1 t) (iblk m c 2 t) (iblk m c 3 t) (iblk m c 4 t) (iblk m c 5 t) (ix2 r j) = resH m c (((cfg0.win 9).blk t).view.emb (ix2 r j : S1024x512.Idx))
  rw [out9_apply, emb9, blk0 m c t r, blk1 m c t, blk2 m c t]
  rfl

theorem covered9 (i : S32768x512.Idx) : ∃ t : Fin cfg0.N, (cfg0.win 9).flush t = true ∧ i ∈ ((cfg0.win 9).blk t).view.set := by
  obtain ⟨R, j, rfl⟩ : ∃ (R : Fin 32768) (j : Fin 512), i = ix2 R j := ⟨i 0, i 1, eq_ix2 i⟩
  refine ⟨(⟨R.val / 1024, by show R.val / 1024 < 32; omega⟩ : Fin cfg0.N), flush0_9 _, ?_⟩
  have h := ((cfg0.win 9).blk (⟨R.val / 1024, by show R.val / 1024 < 32; omega⟩ : Fin cfg0.N)).view.emb_mem_set (ix2 ⟨R.val % 1024, by omega⟩ j : S1024x512.Idx)
  rw [emb9] at h
  have e : rowOf (⟨R.val / 1024, by show R.val / 1024 < 32; omega⟩ : Fin cfg0.N) ⟨R.val % 1024, by omega⟩ = R :=
    Fin.ext (by show 1024 * (R.val / 1024) + R.val % 1024 = R.val; omega)
  rwa [e] at h

theorem final9 (c : Dev nD) : (dats m 0 c).arrAt 9 cfg0.N = resH m c :=
  (dats m 0 c).arrAt_eq_of_cover 9 (resH m c) (fun t _ => flushed_eq9 m c t) covered9

/-! The forward gates. -/

theorem flushed_eq10 (c : Dev nD) (t : Fin cfg0.N) : (dats m 0 c).flushed 10 t = ((cfg0.win 10).blk t).view.read (Elt Ideal) (resS m 4 c) := by
  rw [flushed10]
  funext i
  obtain ⟨r, j, rfl⟩ : ∃ (r : Fin 1024) (j : Fin 512), i = (ix2 r j : S1024x512.Idx) := ⟨i 0, i 1, eq_ix2 i⟩
  show out0_10 (iblk m c 0 t) (iblk m c 1 t) (iblk m c 2 t) (iblk m c 3 t) (iblk m c 4 t) (iblk m c 5 t) (ix2 r j) = resS m 4 c (((cfg0.win 10).blk t).view.emb (ix2 r j : S1024x512.Idx))
  rw [out10_apply, emb10, blk0 m c t r, blk1 m c t, blk2 m c t]
  rfl

theorem covered10 (i : S32768x512.Idx) : ∃ t : Fin cfg0.N, (cfg0.win 10).flush t = true ∧ i ∈ ((cfg0.win 10).blk t).view.set := by
  obtain ⟨R, j, rfl⟩ : ∃ (R : Fin 32768) (j : Fin 512), i = ix2 R j := ⟨i 0, i 1, eq_ix2 i⟩
  refine ⟨(⟨R.val / 1024, by show R.val / 1024 < 32; omega⟩ : Fin cfg0.N), flush0_10 _, ?_⟩
  have h := ((cfg0.win 10).blk (⟨R.val / 1024, by show R.val / 1024 < 32; omega⟩ : Fin cfg0.N)).view.emb_mem_set (ix2 ⟨R.val % 1024, by omega⟩ j : S1024x512.Idx)
  rw [emb10] at h
  have e : rowOf (⟨R.val / 1024, by show R.val / 1024 < 32; omega⟩ : Fin cfg0.N) ⟨R.val % 1024, by omega⟩ = R :=
    Fin.ext (by show 1024 * (R.val / 1024) + R.val % 1024 = R.val; omega)
  rwa [e] at h

theorem final10 (c : Dev nD) : (dats m 0 c).arrAt 10 cfg0.N = resS m 4 c :=
  (dats m 0 c).arrAt_eq_of_cover 10 (resS m 4 c) (fun t _ => flushed_eq10 m c t) covered10

/-! The backward gates. -/

theorem flushed_eq11 (c : Dev nD) (t : Fin cfg0.N) : (dats m 0 c).flushed 11 t = ((cfg0.win 11).blk t).view.read (Elt Ideal) (resS m 5 c) := by
  rw [flushed11]
  funext i
  obtain ⟨r, j, rfl⟩ : ∃ (r : Fin 1024) (j : Fin 512), i = (ix2 r j : S1024x512.Idx) := ⟨i 0, i 1, eq_ix2 i⟩
  show out0_11 (iblk m c 0 t) (iblk m c 1 t) (iblk m c 2 t) (iblk m c 3 t) (iblk m c 4 t) (iblk m c 5 t) (ix2 r j) = resS m 5 c (((cfg0.win 11).blk t).view.emb (ix2 r j : S1024x512.Idx))
  rw [out11_apply, emb11, blk0 m c t r, blk1 m c t, blk2 m c t]
  rfl

theorem covered11 (i : S32768x512.Idx) : ∃ t : Fin cfg0.N, (cfg0.win 11).flush t = true ∧ i ∈ ((cfg0.win 11).blk t).view.set := by
  obtain ⟨R, j, rfl⟩ : ∃ (R : Fin 32768) (j : Fin 512), i = ix2 R j := ⟨i 0, i 1, eq_ix2 i⟩
  refine ⟨(⟨R.val / 1024, by show R.val / 1024 < 32; omega⟩ : Fin cfg0.N), flush0_11 _, ?_⟩
  have h := ((cfg0.win 11).blk (⟨R.val / 1024, by show R.val / 1024 < 32; omega⟩ : Fin cfg0.N)).view.emb_mem_set (ix2 ⟨R.val % 1024, by omega⟩ j : S1024x512.Idx)
  rw [emb11] at h
  have e : rowOf (⟨R.val / 1024, by show R.val / 1024 < 32; omega⟩ : Fin cfg0.N) ⟨R.val % 1024, by omega⟩ = R :=
    Fin.ext (by show 1024 * (R.val / 1024) + R.val % 1024 = R.val; omega)
  rwa [e] at h

theorem final11 (c : Dev nD) : (dats m 0 c).arrAt 11 cfg0.N = resS m 5 c :=
  (dats m 0 c).arrAt_eq_of_cover 11 (resS m 5 c) (fun t _ => flushed_eq11 m c t) covered11

/-! The recurrence's inputs. -/

theorem flushed_eq12 (c : Dev nD) (t : Fin cfg0.N) : (dats m 0 c).flushed 12 t = ((cfg0.win 12).blk t).view.read (Elt Ideal) (resS m 6 c) := by
  rw [flushed12]
  funext i
  obtain ⟨r, j, rfl⟩ : ∃ (r : Fin 1024) (j : Fin 512), i = (ix2 r j : S1024x512.Idx) := ⟨i 0, i 1, eq_ix2 i⟩
  show out0_12 (iblk m c 0 t) (iblk m c 1 t) (iblk m c 2 t) (iblk m c 3 t) (iblk m c 4 t) (iblk m c 5 t) (ix2 r j) = resS m 6 c (((cfg0.win 12).blk t).view.emb (ix2 r j : S1024x512.Idx))
  rw [out12_apply, emb12, blk0 m c t r, blk1 m c t, blk2 m c t]
  rfl

theorem covered12 (i : S32768x512.Idx) : ∃ t : Fin cfg0.N, (cfg0.win 12).flush t = true ∧ i ∈ ((cfg0.win 12).blk t).view.set := by
  obtain ⟨R, j, rfl⟩ : ∃ (R : Fin 32768) (j : Fin 512), i = ix2 R j := ⟨i 0, i 1, eq_ix2 i⟩
  refine ⟨(⟨R.val / 1024, by show R.val / 1024 < 32; omega⟩ : Fin cfg0.N), flush0_12 _, ?_⟩
  have h := ((cfg0.win 12).blk (⟨R.val / 1024, by show R.val / 1024 < 32; omega⟩ : Fin cfg0.N)).view.emb_mem_set (ix2 ⟨R.val % 1024, by omega⟩ j : S1024x512.Idx)
  rw [emb12] at h
  have e : rowOf (⟨R.val / 1024, by show R.val / 1024 < 32; omega⟩ : Fin cfg0.N) ⟨R.val % 1024, by omega⟩ = R :=
    Fin.ext (by show 1024 * (R.val / 1024) + R.val % 1024 = R.val; omega)
  rwa [e] at h

theorem final12 (c : Dev nD) : (dats m 0 c).arrAt 12 cfg0.N = resS m 6 c :=
  (dats m 0 c).arrAt_eq_of_cover 12 (resS m 6 c) (fun t _ => flushed_eq12 m c t) covered12

/-! The output gates. -/

theorem flushed_eq13 (c : Dev nD) (t : Fin cfg0.N) : (dats m 0 c).flushed 13 t = ((cfg0.win 13).blk t).view.read (Elt Ideal) (resS m 7 c) := by
  rw [flushed13]
  funext i
  obtain ⟨r, j, rfl⟩ : ∃ (r : Fin 1024) (j : Fin 512), i = (ix2 r j : S1024x512.Idx) := ⟨i 0, i 1, eq_ix2 i⟩
  show out0_13 (iblk m c 0 t) (iblk m c 1 t) (iblk m c 2 t) (iblk m c 3 t) (iblk m c 4 t) (iblk m c 5 t) (ix2 r j) = resS m 7 c (((cfg0.win 13).blk t).view.emb (ix2 r j : S1024x512.Idx))
  rw [out13_apply, emb13, blk0 m c t r, blk1 m c t, blk2 m c t]
  rfl

theorem covered13 (i : S32768x512.Idx) : ∃ t : Fin cfg0.N, (cfg0.win 13).flush t = true ∧ i ∈ ((cfg0.win 13).blk t).view.set := by
  obtain ⟨R, j, rfl⟩ : ∃ (R : Fin 32768) (j : Fin 512), i = ix2 R j := ⟨i 0, i 1, eq_ix2 i⟩
  refine ⟨(⟨R.val / 1024, by show R.val / 1024 < 32; omega⟩ : Fin cfg0.N), flush0_13 _, ?_⟩
  have h := ((cfg0.win 13).blk (⟨R.val / 1024, by show R.val / 1024 < 32; omega⟩ : Fin cfg0.N)).view.emb_mem_set (ix2 ⟨R.val % 1024, by omega⟩ j : S1024x512.Idx)
  rw [emb13] at h
  have e : rowOf (⟨R.val / 1024, by show R.val / 1024 < 32; omega⟩ : Fin cfg0.N) ⟨R.val % 1024, by omega⟩ = R :=
    Fin.ext (by show 1024 * (R.val / 1024) + R.val % 1024 = R.val; omega)
  rwa [e] at h

theorem final13 (c : Dev nD) : (dats m 0 c).arrAt 13 cfg0.N = resS m 7 c :=
  (dats m 0 c).arrAt_eq_of_cover 13 (resS m 7 c) (fun t _ => flushed_eq13 m c t) covered13

end Cert.ProjIdeal.Blk

end
-- ==== Proof.ProjRef.lean ====
/-
  The input projection's reference over the ideal values: its composed terms, read at an entry, are the row functions
  of the argument arrays' rows.
-/
module

public import proofs.«01_k».proof.Proof.ProjFinal
public import proofs.«01_k».proof.Proof.MlpRef
public import proofs.«01_k».proof.Proof.Gen.ProjReferenceIdeal.Run

@[expose] public section

noncomputable section

namespace Cert.ProjReferenceIdeal.Blk

open Cert.ProjReferenceIdeal Cert.ProjReferenceIdeal.Gen Cert.ProjReferenceIdeal.Value Cert.MlpRow Cert.ProjRow
open Cert.MlpIdeal.Blk (ent ent3)
open Cert.MlpReferenceIdeal.Blk (normR normR_apply)
open Cert.ProjIdeal.Blk (seg rowSeg query normedSeg querySeg plainSeg)
open Idealize.ShloMosaic Idealize.ShloMosaic.TcCoe Idealize.ShloMosaic.ValueIdx Idealize.SL.Sem
open scoped BigOperators

section Group
variable (t : FVec Ideal S32768x512 .f32) (w : FVec Ideal S1x1x64 .f32)

/-- The rows by groups of 64. -/
def gR : FVec Ideal S32768x4x2x64 .f32 := shapeCast S32768x4x2x64 t shapeCasts_S32768x512_S32768x4x2x64

/-- The groups' normalizers. -/
def rG : FVec Ideal S32768x4x2x1 .f32 := Host.rsqrt (addf (Host.divf (broadcastInDim S32768x4x2x1 ![0, 1, 2] bcast_S32768x4x2_S32768x4x2x1_0_1_2
    (Host.reduceAdd (mulf (gR t) (gR t)) (constant S_ .f32 0x00000000#32) reducesTo_S32768x4x2x64_S32768x4x2_d3 h_S_))
  (broadcastInDim S32768x4x2x1 ![] bcast_S_S32768x4x2x1 (constant S_ .f32 0x42800000#32))) (broadcastInDim S32768x4x2x1 ![] bcast_S_S32768x4x2x1 (constant S_ .f32 0x358637BD#32)))

/-- The groups normed. -/
def nR : FVec Ideal S32768x4x2x64 .f32 := mulf (mulf (gR t)
    (broadcastInDim S32768x4x2x64 ![0, 1, 2, 3] bcast_S32768x4x2x1_S32768x4x2x64_0_1_2_3 (rG t)))
  (broadcastInDim S32768x4x2x64 ![0, 1, 2, 3] bcast_S1x1x1x64_S32768x4x2x64_0_1_2_3 (broadcastInDim S1x1x1x64 ![3] bcast_S64_S1x1x1x64_3
    (shapeCast S64 w shapeCasts_S1x1x64_S64)))

/-- The rows normed by groups of 64. -/
def groupR : FVec Ideal S32768x512 .bf16 := truncf .bf16 (shapeCast S32768x512 (nR t w) shapeCasts_S32768x4x2x64_S32768x512) bitsLt_bf16_f32

theorem gR_apply (R : Fin 32768) (a : Fin 4) (b : Fin 2) (d : Fin 64) : gR t (ix4 R a b d) = group (ent t R) ⟨2 * a.val + b.val, by omega⟩ d := by
  refine shapeCast_apply t _ _ (ix2 R ⟨64 * (2 * a.val + b.val) + d.val, by omega⟩) ?_
  rw [Shape.rowMajor_val_four, Shape.rowMajor_val_two]
  show R.val * 512 + (64 * (2 * a.val + b.val) + d.val) = ((R.val * 4 + a.val) * 2 + b.val) * 64 + d.val
  omega

theorem rG_apply (R : Fin 32768) (a : Fin 4) (b : Fin 2) : rG t (ix4 R a b 0)
    = nrm (Ideal.ofBits .f32 0x42800000#32) (group (ent t R) ⟨2 * a.val + b.val, by omega⟩) := by
  show Ideal.rsqrt (Ideal.div (broadcastInDim S32768x4x2x1 _ bcast_S32768x4x2_S32768x4x2x1_0_1_2 _ (ix4 R a b 0)) (broadcastInDim S32768x4x2x1 _ bcast_S_S32768x4x2x1 _ (ix4 R a b 0))
    + broadcastInDim S32768x4x2x1 _ bcast_S_S32768x4x2x1 _ (ix4 R a b 0)) = _
  rw [broadcastInDim_scalar_apply, broadcastInDim_scalar_apply,
    broadcastInDim_apply _ _ _ (ix4 R a b 0 : S32768x4x2x1.Idx) (ix3 R a b) (fun i => match i with | ⟨0, _⟩ => rfl | ⟨1, _⟩ => rfl | ⟨2, _⟩ => rfl),
    hostReduceAdd_apply, Ideal.hostReduceAdd_single _ (by decide)]
  unfold nrm eps
  refine congrArg (fun z => Ideal.rsqrt (Ideal.div z _ + _)) ?_
  show Ideal.ofBits .f32 0x00000000#32 + _ = _
  rw [Ideal.ofBits_zero_f32, zero_add]
  refine Finset.sum_congr rfl fun k _ => ?_
  rw [← gR_apply t R a b k]
  have l : (by decide : S32768x4x2x64.Reduces [3] S32768x4x2).lift (ix3 R a b) k = ix4 R a b k := by
    funext i; apply Fin.ext
    match i with
    | ⟨0, _⟩ => rfl
    | ⟨1, _⟩ => rfl
    | ⟨2, _⟩ => rfl
    | ⟨3, _⟩ => rfl
  show gR t _ * gR t _ = _
  exact congrArg (fun i => gR t i * gR t i) l

theorem groupR_apply (R : Fin 32768) (c : Fin 512) : groupR t w (ix2 R c) = grouped (ent t R) (fun d => w (ix3 0 0 d)) c := by
  show shapeCast S32768x512 (nR t w) shapeCasts_S32768x4x2x64_S32768x512 (ix2 R c) = _
  refine (shapeCast_apply (nR t w) shapeCasts_S32768x4x2x64_S32768x512 (ix2 R c) (ix4 R ⟨c.val / 128, by omega⟩ ⟨c.val / 64 % 2, by omega⟩ ⟨c.val % 64, by omega⟩) ?_).trans ?_
  · rw [Shape.rowMajor_val_four, Shape.rowMajor_val_two]
    show ((R.val * 4 + c.val / 128) * 2 + c.val / 64 % 2) * 64 + c.val % 64 = R.val * 512 + c.val
    omega
  have n : (⟨2 * (⟨c.val / 128, by omega⟩ : Fin 4).val + (⟨c.val / 64 % 2, by omega⟩ : Fin 2).val, by show 2 * (c.val / 128) + c.val / 64 % 2 < 8; omega⟩ : Fin 8) = ⟨c.val / 64, by omega⟩ :=
    Fin.ext (by show 2 * (c.val / 128) + c.val / 64 % 2 = c.val / 64; omega)
  have i : (⟨64 * (c.val / 64) + c.val % 64, by omega⟩ : Fin 512) = c := Fin.ext (by show 64 * (c.val / 64) + c.val % 64 = c.val; omega)
  show gR t _ * broadcastInDim S32768x4x2x64 _ bcast_S32768x4x2x1_S32768x4x2x64_0_1_2_3 _ (ix4 R _ _ _)
    * broadcastInDim S32768x4x2x64 _ bcast_S1x1x1x64_S32768x4x2x64_0_1_2_3 _ (ix4 R _ _ _) = _
  rw [broadcastInDim_apply _ bcast_S32768x4x2x1_S32768x4x2x64_0_1_2_3 _ (ix4 R _ _ _) (ix4 R ⟨c.val / 128, by omega⟩ ⟨c.val / 64 % 2, by omega⟩ 0)
      (fun a => match a with | ⟨0, _⟩ => rfl | ⟨1, _⟩ => rfl | ⟨2, _⟩ => rfl | ⟨3, _⟩ => rfl),
    broadcastInDim_apply _ bcast_S1x1x1x64_S32768x4x2x64_0_1_2_3 _ (ix4 R _ _ _) (ix4 0 0 0 ⟨c.val % 64, by omega⟩)
      (fun a => match a with | ⟨0, _⟩ => rfl | ⟨1, _⟩ => rfl | ⟨2, _⟩ => rfl | ⟨3, _⟩ => rfl),
    broadcastInDim_apply _ bcast_S64_S1x1x1x64_3 _ (ix4 0 0 0 ⟨c.val % 64, by omega⟩) (ix1 ⟨c.val % 64, by omega⟩) (fun a => match a with | ⟨0, _⟩ => rfl),
    shapeCast_apply _ _ (ix1 ⟨c.val % 64, by omega⟩) (ix3 0 0 ⟨c.val % 64, by omega⟩) (by
      rw [Shape.rowMajor_val_three, Shape.rowMajor_val_one]; show (0 * 1 + 0) * 64 + c.val % 64 = c.val % 64; omega),
    rG_apply, gR_apply, n]
  unfold grouped
  show ent t R ⟨64 * (c.val / 64) + c.val % 64, _⟩ * _ * _ = _
  rw [i]

end Group

section Rest
variable (x : FVec Ideal S32768x1024 .f32) (nw : FVec Ideal S1x1024 .f32) (w : FVec Ideal S1x1024x4096 .f32) (qk : FVec Ideal S1x2x64 .f32)

/-- The product of the normed rows. -/
def prodR : FVec Ideal S32768x4096 .f32 :=
  Host.dotGeneral dot_S32768x1024_S1024x4096_S32768x4096_1_0_0_1_n_n none (normR nw x) (shapeCast S1024x4096 w shapeCasts_S1x1024x4096_S1024x4096)

/-- The columns of the product from `o`. -/
def segR (o : ℕ) (h : S32768x4096.Slices ![0, o] S32768x512) : FVec Ideal S32768x512 .f32 := extractStridedSlice S32768x512 ![0, o] (prodR x nw w) h

theorem segR_apply (o : ℕ) (s : Fin 8) (ho : o = 512 * s.val) (h : S32768x4096.Slices ![0, o] S32768x512) (R : Fin 32768) :
    ent (segR x nw w o h) R = seg x nw w s R := by
  funext c
  refine (slice2_axis1_apply o _ h R c ⟨512 * s.val + c.val, by omega⟩ (by subst ho; rfl)).trans ?_
  show Host.dotGeneral (φ₁ := .f32) (φ₂ := .f32) (DotDims.plain 32768 1024 4096) none (normR nw x) (shapeCast S1024x4096 w shapeCasts_S1x1024x4096_S1024x4096) (ix2 R _) = _
  rw [StackMember.dotGeneral_plain_apply]
  unfold seg rowSeg segm
  refine Finset.sum_congr rfl fun k _ => ?_
  rw [shapeCast_1ab_ab_apply, ← normR_apply]; rfl

/-- SiLU of a segment, scaled. -/
def queryR (t : FVec Ideal S32768x512 .f32) : FVec Ideal S32768x512 .bf16 := truncf .bf16 (mulf (mulf t
    (Host.divf (broadcastInDim S32768x512 ![] bcast_S_S32768x512 (constant S_ .f32 0x3F800000#32))
      (addf (broadcastInDim S32768x512 ![] bcast_S_S32768x512 (constant S_ .f32 0x3F800000#32)) (Host.exp (Host.negf t)))))
  (broadcastInDim S32768x512 ![] bcast_S_S32768x512 (constant S_ .f32 0x3DB504F3#32))) bitsLt_bf16_f32

theorem queryR_apply (t : FVec Ideal S32768x512 .f32) (R : Fin 32768) (c : Fin 512) : queryR t (ix2 R c) = query (ent t R) c := by
  show t (ix2 R c) * Ideal.div (broadcastInDim S32768x512 _ bcast_S_S32768x512 _ (ix2 R c))
    (broadcastInDim S32768x512 _ bcast_S_S32768x512 _ (ix2 R c) + Ideal.exp (-(t (ix2 R c)))) * broadcastInDim S32768x512 _ bcast_S_S32768x512 _ (ix2 R c) = _
  rw [broadcastInDim_scalar_apply, broadcastInDim_scalar_apply]
  show _ * Ideal.div (Ideal.ofBits .f32 0x3F800000#32) (Ideal.ofBits .f32 0x3F800000#32 + _) * Ideal.ofBits .f32 0x3DB504F3#32 = _
  rw [Ideal.ofBits_one_f32]
  rfl

/-! Each result of the reference is the row function of the arguments' rows. -/

theorem plain_eq (o : ℕ) (s : Fin 8) (ho : o = 512 * s.val) (h : S32768x4096.Slices ![0, o] S32768x512) : (segR x nw w o h : S32768x512.Idx → EReal) = plainSeg x nw w s := by
  funext i
  obtain ⟨R, c, rfl⟩ : ∃ (R : Fin 32768) (c : Fin 512), i = (ix2 R c : S32768x512.Idx) := ⟨i 0, i 1, eq_ix2 i⟩
  exact congrFun (segR_apply x nw w o s ho h R) c

theorem query_eq (o : ℕ) (s : Fin 8) (ho : o = 512 * s.val) (h : S32768x4096.Slices ![0, o] S32768x512) :
    (queryR (segR x nw w o h) : S32768x512.Idx → EReal) = querySeg x nw w s := by
  funext i
  obtain ⟨R, c, rfl⟩ : ∃ (R : Fin 32768) (c : Fin 512), i = (ix2 R c : S32768x512.Idx) := ⟨i 0, i 1, eq_ix2 i⟩
  rw [queryR_apply, segR_apply x nw w o s ho]; rfl

theorem normed_eq (o : ℕ) (s : Fin 8) (ho : o = 512 * s.val) (h : S32768x4096.Slices ![0, o] S32768x512) (b : ℕ) (n : Fin 2) (hb : b = n.val)
    (h' : S1x2x64.Slices ![0, b, 0] S1x1x64) :
    (groupR (segR x nw w o h) (extractStridedSlice S1x1x64 ![0, b, 0] qk h') : S32768x512.Idx → EReal) = normedSeg x nw w qk s n := by
  funext i
  obtain ⟨R, c, rfl⟩ : ∃ (R : Fin 32768) (c : Fin 512), i = (ix2 R c : S32768x512.Idx) := ⟨i 0, i 1, eq_ix2 i⟩
  rw [groupR_apply, segR_apply x nw w o s ho]
  have e : (fun d => extractStridedSlice S1x1x64 ![0, b, 0] qk h' (ix3 0 0 d)) = ent3 qk n := by
    funext d
    subst hb
    exact extractStridedSlice_apply _ _ _ _ (ix3 0 n d) (fun a => match a with
      | ⟨0, _⟩ => rfl | ⟨1, _⟩ => rfl | ⟨2, _⟩ => by show d.val = 0 + d.val; omega)
  rw [e]; rfl

end Rest

end Cert.ProjReferenceIdeal.Blk

end
-- ==== Proof.ProjAlgebraic.lean ====
/-
  The input projection's claims put together: the reference's frame, and kernel and reference ending at the same arrays.
-/
module

public import proofs.«01_k».proof.Defs
public import proofs.«01_k».proof.Proof.ProjRef
public import Idealize.ShloMosaic.Lib.Quiescent

@[expose] public section

noncomputable section

namespace Cert.Proof

open Cert Idealize.ShloMosaic Idealize.SL Idealize.SL.Sem
open Cert.ProjReferenceIdeal.Blk (normed_eq query_eq plain_eq)

/-- The reference runs, keeps its arguments and declares no counter. -/
theorem frame_proj_reference : Cert.quiescent_ProjReferenceIdeal := fun m ρ _ =>
  (θ_run Cert.ProjReferenceIdeal.defs _ _).mono (fun r h => ⟨fun c => (h c).2.2.2.2.2.2.2, sem_eq_zero_of_no_sems rfl r.2⟩)
    (Cert.ProjReferenceIdeal.Value.run m ρ)

/-- Kernel and reference end at the row functions of the arguments' rows. -/
theorem algebraic_proj : Cert.algebraic_ProjIdeal_ProjReferenceIdeal := by
  intro m ρ m' ρ' _ hag
  refine ⟨fun c => Cert.ProjIdeal.Blk.resQ m c, fun c => Cert.ProjIdeal.Blk.resK m c, fun c => Cert.ProjIdeal.Blk.resH m c, fun c => Cert.ProjIdeal.Blk.resS m 4 c,
    fun c => Cert.ProjIdeal.Blk.resS m 5 c, fun c => Cert.ProjIdeal.Blk.resS m 6 c, fun c => Cert.ProjIdeal.Blk.resS m 7 c,
    (θ_run Cert.ProjIdeal.defs _ _).mono (fun r h c => ?_) (Cert.ProjIdeal.Value.run_blocks m ρ),
    (θ_run Cert.ProjReferenceIdeal.defs _ _).mono (fun r h c => ?_) (Cert.ProjReferenceIdeal.Value.run m' ρ')⟩
  · obtain ⟨h6, h7, _, h9, h10, h11, h12, h13, hk⟩ := h c
    exact ⟨h6.trans (Cert.ProjIdeal.Blk.final6 m c), h7.trans (Cert.ProjIdeal.Blk.final7 m c), h9.trans (Cert.ProjIdeal.Blk.final9 m c), h10.trans (Cert.ProjIdeal.Blk.final10 m c),
      h11.trans (Cert.ProjIdeal.Blk.final11 m c), h12.trans (Cert.ProjIdeal.Blk.final12 m c), h13.trans (Cert.ProjIdeal.Blk.final13 m c), hk⟩
  · obtain ⟨a0, a1, a2, a3⟩ := hag c
    obtain ⟨h6, h7, h9, h10, h11, h12, h13, hk⟩ := h c
    rw [a0, a1, a2, a3] at h6 h7
    rw [a0, a1, a2] at h9 h10 h11 h12 h13
    exact ⟨h6.trans (normed_eq _ _ _ _ 0 0 rfl _ 0 0 rfl _), h7.trans (normed_eq _ _ _ _ 512 1 rfl _ 1 1 rfl _), h9.trans (query_eq _ _ _ 1536 3 rfl _),
      h10.trans (plain_eq _ _ _ 2048 4 rfl _), h11.trans (plain_eq _ _ _ 2560 5 rfl _), h12.trans (plain_eq _ _ _ 3072 6 rfl _), h13.trans (plain_eq _ _ _ 3584 7 rfl _), hk⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ReferenceIdeal
public import proofs.«01_k».proof.Proof.Gen.ReferenceIdeal.Run
public import proofs.«01_k».proof.Proof.KernelFrame
public import proofs.«01_k».proof.Proof.AttnAlgebraic
public import proofs.«01_k».proof.Proof.Algebraic
public import proofs.«01_k».proof.Proof.ProjAlgebraic
public import Idealize.ShloMosaic.Adequacy
public import Idealize.ShloMosaic.Init

@[expose] public section

noncomputable section

namespace Cert.Proof

open Cert Idealize.ShloMosaic Idealize.SL Idealize.SL.Sem

/-- The mixer's two named constants are what the table gives them. -/
theorem preserves_kernel : Cert.preserves_Kernel_KernelIdeal :=
  ⟨IdealRules.named_const.statement Cert.KernelIdeal.κ "scale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl⟩

theorem claim : Cert.Claim :=
  ⟨Cert.Kernel.Gen.facts, Cert.KernelIdeal.Gen.facts, Cert.ReferenceIdeal.Gen.facts, Cert.Mlp.Gen.facts, Cert.MlpIdeal.Gen.facts, Cert.MlpReferenceIdeal.Gen.facts,
    Cert.Proj.Gen.facts, Cert.ProjIdeal.Gen.facts, Cert.ProjReferenceIdeal.Gen.facts, Cert.KernelIdeal.Blk.finite_facts,
    frame_kernel, frame_kernel_ideal, fun m ρ _ => frame_kernel_ideal m ρ trivial, frame_reference, fun m ρ _ => frame_reference m ρ trivial,
    fun m ρ _ => Cert.Mlp.Gen.frame m ρ, fun m ρ _ => Cert.MlpIdeal.Gen.frame m ρ, frame_mlp_reference,
    fun m ρ _ => Cert.Proj.Gen.frame m ρ, fun m ρ _ => Cert.ProjIdeal.Gen.frame m ρ, frame_proj_reference,
    preserves_kernel, algebraic_kernel, trivial, algebraic_mlp, trivial, algebraic_proj⟩

end Cert.Proof

end
